-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 512, 64, 64]⟩ ⟨4, ![2, 4096, 64, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 64, 64]⟩ ⟨4, ![2, 4096, 64, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 768]⟩ ⟨2, ![4096, 768]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x768 : Shape := ⟨3, ![2, 512, 768]⟩
abbrev S768x512 : Shape := ⟨2, ![768, 512]⟩
abbrev S2x512x64x64 : Shape := ⟨4, ![2, 512, 64, 64]⟩
abbrev S512x768 : Shape := ⟨2, ![512, 768]⟩
abbrev S_ : Shape := ⟨0, ![]⟩

class Facts : Prop where
  bitsLt_bf16_f32 : FTy.bits .bf16 < FTy.bits .f32
  bcast_S_S2x512x768 : S_.BroadcastsInDim S2x512x768 (![] : Fin 0 → Fin S2x512x768.rank)
  bcast_S_S768x512 : S_.BroadcastsInDim S768x512 (![] : Fin 0 → Fin S768x512.rank)
  bcast_S_S2x512x64x64 : S_.BroadcastsInDim S2x512x64x64 (![] : Fin 0 → Fin S2x512x64x64.rank)

variable [Facts]

def fn {F : FTy → Type} [FloatOps F] (main_arg0 : FVec F S2x512x768 .bf16) (main_arg1 : FVec F S768x512 .bf16) (main_arg2 : FVec F S2x512x64x64 .f32) (main_arg3 : FVec F S2x512x64x64 .f32) (main_arg4 : FVec F S512x768 .bf16) : IVec S2x512x768 1 × IVec S768x512 1 × IVec S2x512x64x64 1 :=
  let main_v0 : FVec F S2x512x768 .f32 := (extf .f32 · bitsLt_bf16_f32) main_arg0
  let main_v1 : FVec F S2x512x768 .f32 := Host.absf main_v0
  let main_cst : FVec F S_ .f32 := constant S_ .f32 0x7F800000#32
  let main_v2 : FVec F S2x512x768 .f32 := broadcastInDim S2x512x768 ![] bcast_S_S2x512x768 main_cst
  let main_v3 : IVec S2x512x768 1 := cmpf .olt main_v1 main_v2
  let main_v4 : FVec F S768x512 .f32 := (extf .f32 · bitsLt_bf16_f32) main_arg1
  let main_v5 : FVec F S768x512 .f32 := Host.absf main_v4
  let main_cst_0 : FVec F S_ .f32 := constant S_ .f32 0x7F800000#32
  let main_v6 : FVec F S768x512 .f32 := broadcastInDim S768x512 ![] bcast_S_S768x512 main_cst_0
  let main_v7 : IVec S768x512 1 := cmpf .olt main_v5 main_v6
  let main_v8 : FVec F S2x512x64x64 .f32 := Host.absf main_arg2
  let main_cst_1 : FVec F S_ .f32 := constant S_ .f32 0x7F800000#32
  let main_v9 : FVec F S2x512x64x64 .f32 := broadcastInDim S2x512x64x64 ![] bcast_S_S2x512x64x64 main_cst_1
  let main_v10 : IVec S2x512x64x64 1 := cmpf .olt main_v8 main_v9
  (main_v3, main_v7, main_v10)
-- ==== Pre_finite_ReferenceIdeal.lean ====
abbrev S2x512x768 : Shape := ⟨3, ![2, 512, 768]⟩
abbrev S768x4096 : Shape := ⟨2, ![768, 4096]⟩
abbrev S2x4096x64x64 : Shape := ⟨4, ![2, 4096, 64, 64]⟩
abbrev S4096x768 : Shape := ⟨2, ![4096, 768]⟩
abbrev S_ : Shape := ⟨0, ![]⟩

class Facts : Prop where
  bitsLt_bf16_f32 : FTy.bits .bf16 < FTy.bits .f32
  bcast_S_S2x512x768 : S_.BroadcastsInDim S2x512x768 (![] : Fin 0 → Fin S2x512x768.rank)
  bcast_S_S768x4096 : S_.BroadcastsInDim S768x4096 (![] : Fin 0 → Fin S768x4096.rank)
  bcast_S_S2x4096x64x64 : S_.BroadcastsInDim S2x4096x64x64 (![] : Fin 0 → Fin S2x4096x64x64.rank)

variable [Facts]

def fn {F : FTy → Type} [FloatOps F] (main_arg0 : FVec F S2x512x768 .bf16) (main_arg1 : FVec F S768x4096 .bf16) (main_arg2 : FVec F S2x4096x64x64 .f32) (main_arg3 : FVec F S2x4096x64x64 .f32) (main_arg4 : FVec F S4096x768 .bf16) : IVec S2x512x768 1 × IVec S768x4096 1 × IVec S2x4096x64x64 1 :=
  let main_v0 : FVec F S2x512x768 .f32 := (extf .f32 · bitsLt_bf16_f32) main_arg0
  let main_v1 : FVec F S2x512x768 .f32 := Host.absf main_v0
  let main_cst : FVec F S_ .f32 := constant S_ .f32 0x7F800000#32
  let main_v2 : FVec F S2x512x768 .f32 := broadcastInDim S2x512x768 ![] bcast_S_S2x512x768 main_cst
  let main_v3 : IVec S2x512x768 1 := cmpf .olt main_v1 main_v2
  let main_v4 : FVec F S768x4096 .f32 := (extf .f32 · bitsLt_bf16_f32) main_arg1
  let main_v5 : FVec F S768x4096 .f32 := Host.absf main_v4
  let main_cst_0 : FVec F S_ .f32 := constant S_ .f32 0x7F800000#32
  let main_v6 : FVec F S768x4096 .f32 := broadcastInDim S768x4096 ![] bcast_S_S768x4096 main_cst_0
  let main_v7 : IVec S768x4096 1 := cmpf .olt main_v5 main_v6
  let main_v8 : FVec F S2x4096x64x64 .f32 := Host.absf main_arg2
  let main_cst_1 : FVec F S_ .f32 := constant S_ .f32 0x7F800000#32
  let main_v9 : FVec F S2x4096x64x64 .f32 := broadcastInDim S2x4096x64x64 ![] bcast_S_S2x4096x64x64 main_cst_1
  let main_v10 : IVec S2x4096x64x64 1 := cmpf .olt main_v8 main_v9
  (main_v3, main_v7, main_v10)
-- ==== Kernel.lean ====
abbrev S2x512x768 : Shape := ⟨3, ![2, 512, 768]⟩
abbrev S768x512 : Shape := ⟨2, ![768, 512]⟩
abbrev S2x512x64x64 : Shape := ⟨4, ![2, 512, 64, 64]⟩
abbrev S512x768 : Shape := ⟨2, ![512, 768]⟩
abbrev S1024x768 : Shape := ⟨2, ![1024, 768]⟩
abbrev S2x512x4096 : Shape := ⟨3, ![2, 512, 4096]⟩
abbrev S2x2x512x512 : Shape := ⟨4, ![2, 2, 512, 512]⟩
abbrev S2x512x512 : Shape := ⟨3, ![2, 512, 512]⟩
abbrev S1024x512 : Shape := ⟨2, ![1024, 512]⟩
abbrev S256x768 : Shape := ⟨2, ![256, 768]⟩
abbrev S128x768 : Shape := ⟨2, ![128, 768]⟩
abbrev S8 : Shape := ⟨1, ![8]⟩
abbrev S_ : Shape := ⟨0, ![]⟩
abbrev S2 : Shape := ⟨1, ![2]⟩
abbrev S3 : Shape := ⟨1, ![3]⟩
abbrev S1 : Shape := ⟨1, ![1]⟩
abbrev S1x2x512x512 : Shape := ⟨4, ![1, 2, 512, 512]⟩
abbrev S512x512 : Shape := ⟨2, ![512, 512]⟩
abbrev S512x64 : Shape := ⟨2, ![512, 64]⟩
abbrev S1x512x64 : Shape := ⟨3, ![1, 512, 64]⟩
abbrev S512 : Shape := ⟨1, ![512]⟩
abbrev S512x1 : Shape := ⟨2, ![512, 1]⟩
abbrev S1x512x768 : Shape := ⟨3, ![1, 512, 768]⟩

abbrev nBuf : Space → Nat
  | .hbm => 9
  | .vmem => 18
  | .smem => 0
  | _ => 0

abbrev bufTy : (tb : Table) → Fin (tcTables nBuf tb) → BufTy
  | .hbm, ⟨0, _⟩ => ⟨S2x512x768, .bf16⟩
  | .hbm, ⟨1, _⟩ => ⟨S768x512, .bf16⟩
  | .hbm, ⟨2, _⟩ => ⟨S2x512x64x64, .f32⟩
  | .hbm, ⟨3, _⟩ => ⟨S2x512x64x64, .f32⟩
  | .hbm, ⟨4, _⟩ => ⟨S512x768, .bf16⟩
  | .hbm, ⟨5, _⟩ => ⟨S1024x768, .bf16⟩
  | .hbm, ⟨6, _⟩ => ⟨S2x512x4096, .f32⟩
  | .hbm, ⟨7, _⟩ => ⟨S2x512x4096, .f32⟩
  | .hbm, ⟨8, _⟩ => ⟨S2x512x768, .f32⟩
  | .local _ .vmem, ⟨0, _⟩ => ⟨S1024x768, .bf16⟩
  | .local _ .vmem, ⟨1, _⟩ => ⟨S768x512, .bf16⟩
  | .local _ .vmem, ⟨2, _⟩ => ⟨S512x768, .bf16⟩
  | .local _ .vmem, ⟨3, _⟩ => ⟨S2x512x768, .f32⟩
  | .local _ .vmem, ⟨4, _⟩ => ⟨S2x2x512x512, .bf16⟩
  | .local _ .vmem, ⟨5, _⟩ => ⟨S2x2x512x512, .bf16⟩
  | .local _ .vmem, ⟨6, _⟩ => ⟨S2x2x512x512, .f32⟩
  | .local _ .vmem, ⟨7, _⟩ => ⟨S2x512x512, .bf16⟩
  | .local _ .vmem, ⟨8, _⟩ => ⟨S2x512x512, .bf16⟩
  | .local _ .vmem, ⟨9, _⟩ => ⟨S1024x512, .bf16⟩
  | .local _ .vmem, ⟨10, _⟩ => ⟨S1024x512, .bf16⟩
  | .local _ .vmem, ⟨11, _⟩ => ⟨S1024x768, .f32⟩
  | .local _ .vmem, ⟨12, _⟩ => ⟨S512x768, .bf16⟩
  | .local _ .vmem, ⟨13, _⟩ => ⟨S256x768, .bf16⟩
  | .local _ .vmem, ⟨14, _⟩ => ⟨S128x768, .bf16⟩
  | .local _ .vmem, ⟨15, _⟩ => ⟨S512x768, .bf16⟩
  | .local _ .vmem, ⟨16, _⟩ => ⟨S256x768, .bf16⟩
  | .local _ .vmem, ⟨17, _⟩ => ⟨S128x768, .bf16⟩
  | _, _ => ⟨S2x512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_scratch10 : Ref sig .tc := ⟨.vmem, 14, rfl⟩
abbrev cc0_scratch11 : Ref sig .tc := ⟨.vmem, 15, rfl⟩
abbrev cc0_scratch12 : Ref sig .tc := ⟨.vmem, 16, rfl⟩
abbrev cc0_scratch13 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_429 : BitVec 32 := 0#32
  let c0_i32_427 : BitVec 32 := 0#32
  let c1_i32_428 : BitVec 32 := 1#32
  let v670 : BitVec 32 := Scalar.muli c0_i32_427 c1_i32_428
  let v671 : BitVec 32 := Scalar.addi c0_i32_429 v670
  v671.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1 : BitVec 32 := 0#32
  let v7 : BitVec 1 := Scalar.cmpi .eq v2 c0_i32_1
  let v8 : BitVec 32 := Scalar.extui v7
  let c0_i32_2 : BitVec 32 := 0#32
  let v9 : BitVec 1 := Scalar.cmpi .ne v8 c0_i32_2
  v9

def k0_dev2 : Nat :=
  let c0_i32_460 : BitVec 32 := 0#32
  let c6_i32_458 : BitVec 32 := 6#32
  let c1_i32_459 : BitVec 32 := 1#32
  let v691 : BitVec 32 := Scalar.muli c6_i32_458 c1_i32_459
  let v692 : BitVec 32 := Scalar.addi c0_i32_460 v691
  v692.toNat
def k0_dev3 : Nat :=
  let c0_i32_484 : BitVec 32 := 0#32
  let c6_i32_482 : BitVec 32 := 6#32
  let c1_i32_483 : BitVec 32 := 1#32
  let v708 : BitVec 32 := Scalar.muli c6_i32_482 c1_i32_483
  let v709 : BitVec 32 := Scalar.addi c0_i32_484 v708
  v709.toNat
def k0_dev4 : Nat :=
  let c0_i32_522 : BitVec 32 := 0#32
  let c5_i32_520 : BitVec 32 := 5#32
  let c1_i32_521 : BitVec 32 := 1#32
  let v735 : BitVec 32 := Scalar.muli c5_i32_520 c1_i32_521
  let v736 : BitVec 32 := Scalar.addi c0_i32_522 v735
  v736.toNat
def k0_dev5 : Nat :=
  let c0_i32_546 : BitVec 32 := 0#32
  let c5_i32_544 : BitVec 32 := 5#32
  let c1_i32_545 : BitVec 32 := 1#32
  let v752 : BitVec 32 := Scalar.muli c5_i32_544 c1_i32_545
  let v753 : BitVec 32 := Scalar.addi c0_i32_546 v752
  v753.toNat
def k0_dev6 : Nat :=
  let c0_i32_599 : BitVec 32 := 0#32
  let c2_i32_597 : BitVec 32 := 2#32
  let c1_i32_598 : BitVec 32 := 1#32
  let v787 : BitVec 32 := Scalar.muli c2_i32_597 c1_i32_598
  let v788 : BitVec 32 := Scalar.addi c0_i32_599 v787
  v788.toNat
def k0_dev7 : Nat :=
  let c0_i32_623 : BitVec 32 := 0#32
  let c2_i32_621 : BitVec 32 := 2#32
  let c1_i32_622 : BitVec 32 := 1#32
  let v804 : BitVec 32 := Scalar.muli c2_i32_621 c1_i32_622
  let v805 : BitVec 32 := Scalar.addi c0_i32_623 v804
  v805.toNat
def k0_dev8 : Nat :=
  let c0_i32_676 : BitVec 32 := 0#32
  let c7_i32_674 : BitVec 32 := 7#32
  let c1_i32_675 : BitVec 32 := 1#32
  let v839 : BitVec 32 := Scalar.muli c7_i32_674 c1_i32_675
  let v840 : BitVec 32 := Scalar.addi c0_i32_676 v839
  v840.toNat
def k0_dev9 : Nat :=
  let c0_i32_700 : BitVec 32 := 0#32
  let c7_i32_698 : BitVec 32 := 7#32
  let c1_i32_699 : BitVec 32 := 1#32
  let v856 : BitVec 32 := Scalar.muli c7_i32_698 c1_i32_699
  let v857 : BitVec 32 := Scalar.addi c0_i32_700 v856
  v857.toNat
def k0_dev10 : Nat :=
  let c0_i32_752 : BitVec 32 := 0#32
  let c3_i32_750 : BitVec 32 := 3#32
  let c1_i32_751 : BitVec 32 := 1#32
  let v891 : BitVec 32 := Scalar.muli c3_i32_750 c1_i32_751
  let v892 : BitVec 32 := Scalar.addi c0_i32_752 v891
  v892.toNat
def k0_dev11 : Nat :=
  let c0_i32_776 : BitVec 32 := 0#32
  let c3_i32_774 : BitVec 32 := 3#32
  let c1_i32_775 : BitVec 32 := 1#32
  let v908 : BitVec 32 := Scalar.muli c3_i32_774 c1_i32_775
  let v909 : BitVec 32 := Scalar.addi c0_i32_776 v908
  v909.toNat
def k0_dev12 : Nat :=
  let c0_i32_829 : BitVec 32 := 0#32
  let c4_i32_827 : BitVec 32 := 4#32
  let c1_i32_828 : BitVec 32 := 1#32
  let v943 : BitVec 32 := Scalar.muli c4_i32_827 c1_i32_828
  let v944 : BitVec 32 := Scalar.addi c0_i32_829 v943
  v944.toNat
def k0_dev13 : Nat :=
  let c0_i32_853 : BitVec 32 := 0#32
  let c4_i32_851 : BitVec 32 := 4#32
  let c1_i32_852 : BitVec 32 := 1#32
  let v960 : BitVec 32 := Scalar.muli c4_i32_851 c1_i32_852
  let v961 : BitVec 32 := Scalar.addi c0_i32_853 v960
  v961.toNat
def k0_dev14 : Nat :=
  let c0_i32_907 : BitVec 32 := 0#32
  let c1_i32_905 : BitVec 32 := 1#32
  let c1_i32_906 : BitVec 32 := 1#32
  let v995 : BitVec 32 := Scalar.muli c1_i32_905 c1_i32_906
  let v996 : BitVec 32 := Scalar.addi c0_i32_907 v995
  v996.toNat
def k0_dev15 : Nat :=
  let c0_i32_931 : BitVec 32 := 0#32
  let c1_i32_929 : BitVec 32 := 1#32
  let c1_i32_930 : BitVec 32 := 1#32
  let v1012 : BitVec 32 := Scalar.muli c1_i32_929 c1_i32_930
  let v1013 : BitVec 32 := Scalar.addi c0_i32_931 v1012
  v1013.toNat
def k0_off1 (d0 : Dev nD) : Fin 2 → Nat :=
  let c0_i32_293 : BitVec 32 := 0#32
  let c1_i32_291 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_284 : BitVec 32 := 0#32
  let v488 : BitVec 32 := Scalar.shrsi v2 c0_i32_284
  let c1_i32_285 : BitVec 32 := 1#32
  let v489 : BitVec 32 := Scalar.andi v488 c1_i32_285
  let v497 : BitVec 32 := Scalar.subi c1_i32_291 v489
  let c512_i32_292 : BitVec 32 := 512#32
  let v498 : BitVec 32 := Scalar.muli v497 c512_i32_292
  let v499 : BitVec 32 := Scalar.addi c0_i32_293 v498
  let v500 : Index := Scalar.indexCast v499
  let c0_294 : Index := 0#32
  ![v500.toNat, 0]
def k0_dev16 (d0 : Dev nD) : Nat :=
  let c0_i32_300 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_289 : BitVec 32 := 1#32
  let v494 : BitVec 32 := Scalar.xori v2 c1_i32_289
  let c1_i32_299 : BitVec 32 := 1#32
  let v506 : BitVec 32 := Scalar.muli v494 c1_i32_299
  let v507 : BitVec 32 := Scalar.addi c0_i32_300 v506
  v507.toNat
def k0_off2 (d0 : Dev nD) : Fin 2 → Nat :=
  let c0_i32_290 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_284 : BitVec 32 := 0#32
  let v488 : BitVec 32 := Scalar.shrsi v2 c0_i32_284
  let c1_i32_285 : BitVec 32 := 1#32
  let v489 : BitVec 32 := Scalar.andi v488 c1_i32_285
  let c512_i32 : BitVec 32 := 512#32
  let v495 : BitVec 32 := Scalar.muli v489 c512_i32
  let v496 : BitVec 32 := Scalar.addi c0_i32_290 v495
  let v518 : Index := Scalar.indexCast v496
  let c0_308 : Index := 0#32
  ![v518.toNat, 0]
def k0_off3 (d0 : Dev nD) : Fin 2 → Nat :=
  let c0_i32_290 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_284 : BitVec 32 := 0#32
  let v488 : BitVec 32 := Scalar.shrsi v2 c0_i32_284
  let c1_i32_285 : BitVec 32 := 1#32
  let v489 : BitVec 32 := Scalar.andi v488 c1_i32_285
  let c512_i32 : BitVec 32 := 512#32
  let v495 : BitVec 32 := Scalar.muli v489 c512_i32
  let v496 : BitVec 32 := Scalar.addi c0_i32_290 v495
  let c1_i32_313 : BitVec 32 := 1#32
  let c1_i32_286 : BitVec 32 := 1#32
  let v490 : BitVec 32 := Scalar.shrsi v2 c1_i32_286
  let c1_i32_287 : BitVec 32 := 1#32
  let v491 : BitVec 32 := Scalar.andi v490 c1_i32_287
  let v530 : BitVec 32 := Scalar.subi c1_i32_313 v491
  let c256_i32_314 : BitVec 32 := 256#32
  let v531 : BitVec 32 := Scalar.muli v530 c256_i32_314
  let v532 : BitVec 32 := Scalar.addi v496 v531
  let v533 : Index := Scalar.indexCast v532
  let c0_315 : Index := 0#32
  ![v533.toNat, 0]
def k0_dev17 (d0 : Dev nD) : Nat :=
  let c0_i32_321 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_312 : BitVec 32 := 2#32
  let v527 : BitVec 32 := Scalar.xori v2 c2_i32_312
  let c1_i32_320 : BitVec 32 := 1#32
  let v539 : BitVec 32 := Scalar.muli v527 c1_i32_320
  let v540 : BitVec 32 := Scalar.addi c0_i32_321 v539
  v540.toNat
def k0_off4 (d0 : Dev nD) : Fin 2 → Nat :=
  let c0_i32_290 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_284 : BitVec 32 := 0#32
  let v488 : BitVec 32 := Scalar.shrsi v2 c0_i32_284
  let c1_i32_285 : BitVec 32 := 1#32
  let v489 : BitVec 32 := Scalar.andi v488 c1_i32_285
  let c512_i32 : BitVec 32 := 512#32
  let v495 : BitVec 32 := Scalar.muli v489 c512_i32
  let v496 : BitVec 32 := Scalar.addi c0_i32_290 v495
  let c1_i32_286 : BitVec 32 := 1#32
  let v490 : BitVec 32 := Scalar.shrsi v2 c1_i32_286
  let c1_i32_287 : BitVec 32 := 1#32
  let v491 : BitVec 32 := Scalar.andi v490 c1_i32_287
  let c256_i32 : BitVec 32 := 256#32
  let v528 : BitVec 32 := Scalar.muli v491 c256_i32
  let v529 : BitVec 32 := Scalar.addi v496 v528
  let v551 : Index := Scalar.indexCast v529
  let c0_329 : Index := 0#32
  ![v551.toNat, 0]
def k0_off5 (d0 : Dev nD) : Fin 2 → Nat :=
  let c0_i32_290 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_284 : BitVec 32 := 0#32
  let v488 : BitVec 32 := Scalar.shrsi v2 c0_i32_284
  let c1_i32_285 : BitVec 32 := 1#32
  let v489 : BitVec 32 := Scalar.andi v488 c1_i32_285
  let c512_i32 : BitVec 32 := 512#32
  let v495 : BitVec 32 := Scalar.muli v489 c512_i32
  let v496 : BitVec 32 := Scalar.addi c0_i32_290 v495
  let c1_i32_286 : BitVec 32 := 1#32
  let v490 : BitVec 32 := Scalar.shrsi v2 c1_i32_286
  let c1_i32_287 : BitVec 32 := 1#32
  let v491 : BitVec 32 := Scalar.andi v490 c1_i32_287
  let c256_i32 : BitVec 32 := 256#32
  let v528 : BitVec 32 := Scalar.muli v491 c256_i32
  let v529 : BitVec 32 := Scalar.addi v496 v528
  let c1_i32_333 : BitVec 32 := 1#32
  let c2_i32 : BitVec 32 := 2#32
  let v492 : BitVec 32 := Scalar.shrsi v2 c2_i32
  let c1_i32_288 : BitVec 32 := 1#32
  let v493 : BitVec 32 := Scalar.andi v492 c1_i32_288
  let v563 : BitVec 32 := Scalar.subi c1_i32_333 v493
  let c128_i32_334 : BitVec 32 := 128#32
  let v564 : BitVec 32 := Scalar.muli v563 c128_i32_334
  let v565 : BitVec 32 := Scalar.addi v529 v564
  let v566 : Index := Scalar.indexCast v565
  let c0_335 : Index := 0#32
  ![v566.toNat, 0]
def k0_dev18 (d0 : Dev nD) : Nat :=
  let c0_i32_341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v560 : BitVec 32 := Scalar.xori v2 c4_i32
  let c1_i32_340 : BitVec 32 := 1#32
  let v572 : BitVec 32 := Scalar.muli v560 c1_i32_340
  let v573 : BitVec 32 := Scalar.addi c0_i32_341 v572
  v573.toNat
def k0_off6 (d0 : Dev nD) : Fin 2 → Nat :=
  let c0_i32_290 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_284 : BitVec 32 := 0#32
  let v488 : BitVec 32 := Scalar.shrsi v2 c0_i32_284
  let c1_i32_285 : BitVec 32 := 1#32
  let v489 : BitVec 32 := Scalar.andi v488 c1_i32_285
  let c512_i32 : BitVec 32 := 512#32
  let v495 : BitVec 32 := Scalar.muli v489 c512_i32
  let v496 : BitVec 32 := Scalar.addi c0_i32_290 v495
  let c1_i32_286 : BitVec 32 := 1#32
  let v490 : BitVec 32 := Scalar.shrsi v2 c1_i32_286
  let c1_i32_287 : BitVec 32 := 1#32
  let v491 : BitVec 32 := Scalar.andi v490 c1_i32_287
  let c256_i32 : BitVec 32 := 256#32
  let v528 : BitVec 32 := Scalar.muli v491 c256_i32
  let v529 : BitVec 32 := Scalar.addi v496 v528
  let c2_i32 : BitVec 32 := 2#32
  let v492 : BitVec 32 := Scalar.shrsi v2 c2_i32
  let c1_i32_288 : BitVec 32 := 1#32
  let v493 : BitVec 32 := Scalar.andi v492 c1_i32_288
  let c128_i32 : BitVec 32 := 128#32
  let v561 : BitVec 32 := Scalar.muli v493 c128_i32
  let v562 : BitVec 32 := Scalar.addi v529 v561
  let v584 : Index := Scalar.indexCast v562
  let c0_349 : Index := 0#32
  ![v584.toNat, 0]
def k0_off7 (d0 : Dev nD) : Fin 2 → Nat :=
  let c0_i32_355 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_284 : BitVec 32 := 0#32
  let v488 : BitVec 32 := Scalar.shrsi v2 c0_i32_284
  let c1_i32_285 : BitVec 32 := 1#32
  let v489 : BitVec 32 := Scalar.andi v488 c1_i32_285
  let c512_i32_354 : BitVec 32 := 512#32
  let v594 : BitVec 32 := Scalar.muli v489 c512_i32_354
  let v595 : BitVec 32 := Scalar.addi c0_i32_355 v594
  let c1_i32_286 : BitVec 32 := 1#32
  let v490 : BitVec 32 := Scalar.shrsi v2 c1_i32_286
  let c1_i32_287 : BitVec 32 := 1#32
  let v491 : BitVec 32 := Scalar.andi v490 c1_i32_287
  let c256_i32_356 : BitVec 32 := 256#32
  let v596 : BitVec 32 := Scalar.muli v491 c256_i32_356
  let v597 : BitVec 32 := Scalar.addi v595 v596
  let c2_i32 : BitVec 32 := 2#32
  let v492 : BitVec 32 := Scalar.shrsi v2 c2_i32
  let c1_i32_288 : BitVec 32 := 1#32
  let v493 : BitVec 32 := Scalar.andi v492 c1_i32_288
  let c128_i32_357 : BitVec 32 := 128#32
  let v598 : BitVec 32 := Scalar.muli v493 c128_i32_357
  let v599 : BitVec 32 := Scalar.addi v597 v598
  let c0_i32_362 : BitVec 32 := 0#32
  ![v599.toNat, 0]
def k0_dev19 (d0 : Dev nD) : Nat :=
  let c0_i32_361 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_353 : BitVec 32 := 4#32
  let v593 : BitVec 32 := Scalar.xori v2 c4_i32_353
  let c1_i32_360 : BitVec 32 := 1#32
  let v600 : BitVec 32 := Scalar.muli v593 c1_i32_360
  let v601 : BitVec 32 := Scalar.addi c0_i32_361 v600
  v601.toNat
def k0_off8 (d0 : Dev nD) : Fin 2 → Nat :=
  let c0_i32_377 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_284 : BitVec 32 := 0#32
  let v488 : BitVec 32 := Scalar.shrsi v2 c0_i32_284
  let c1_i32_285 : BitVec 32 := 1#32
  let v489 : BitVec 32 := Scalar.andi v488 c1_i32_285
  let c512_i32_376 : BitVec 32 := 512#32
  let v619 : BitVec 32 := Scalar.muli v489 c512_i32_376
  let v620 : BitVec 32 := Scalar.addi c0_i32_377 v619
  let c1_i32_286 : BitVec 32 := 1#32
  let v490 : BitVec 32 := Scalar.shrsi v2 c1_i32_286
  let c1_i32_287 : BitVec 32 := 1#32
  let v491 : BitVec 32 := Scalar.andi v490 c1_i32_287
  let c256_i32_378 : BitVec 32 := 256#32
  let v621 : BitVec 32 := Scalar.muli v491 c256_i32_378
  let v622 : BitVec 32 := Scalar.addi v620 v621
  let c0_i32_383 : BitVec 32 := 0#32
  ![v622.toNat, 0]
def k0_dev20 (d0 : Dev nD) : Nat :=
  let c0_i32_382 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_375 : BitVec 32 := 2#32
  let v618 : BitVec 32 := Scalar.xori v2 c2_i32_375
  let c1_i32_381 : BitVec 32 := 1#32
  let v623 : BitVec 32 := Scalar.muli v618 c1_i32_381
  let v624 : BitVec 32 := Scalar.addi c0_i32_382 v623
  v624.toNat
def k0_off9 (d0 : Dev nD) : Fin 2 → Nat :=
  let c0_i32_398 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_284 : BitVec 32 := 0#32
  let v488 : BitVec 32 := Scalar.shrsi v2 c0_i32_284
  let c1_i32_285 : BitVec 32 := 1#32
  let v489 : BitVec 32 := Scalar.andi v488 c1_i32_285
  let c512_i32_397 : BitVec 32 := 512#32
  let v642 : BitVec 32 := Scalar.muli v489 c512_i32_397
  let v643 : BitVec 32 := Scalar.addi c0_i32_398 v642
  let c0_i32_403 : BitVec 32 := 0#32
  ![v643.toNat, 0]
def k0_dev21 (d0 : Dev nD) : Nat :=
  let c0_i32_402 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_396 : BitVec 32 := 1#32
  let v641 : BitVec 32 := Scalar.xori v2 c1_i32_396
  let c1_i32_401 : BitVec 32 := 1#32
  let v644 : BitVec 32 := Scalar.muli v641 c1_i32_401
  let v645 : BitVec 32 := Scalar.addi c0_i32_402 v644
  v645.toNat
abbrev stage0_0 : Fin 1 → Memref sig .tc .vmem S1024x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x512x768 : Shape := ⟨3, ![2, 512, 768]⟩
abbrev S768x4096 : Shape := ⟨2, ![768, 4096]⟩
abbrev S2x4096x64x64 : Shape := ⟨4, ![2, 4096, 64, 64]⟩
abbrev S4096x768 : Shape := ⟨2, ![4096, 768]⟩
abbrev S2x512x4096 : Shape := ⟨3, ![2, 512, 4096]⟩
abbrev S2x512x64x64 : Shape := ⟨4, ![2, 512, 64, 64]⟩
abbrev S512 : Shape := ⟨1, ![512]⟩
abbrev S_ : Shape := ⟨0, ![]⟩
abbrev S512x1 : Shape := ⟨2, ![512, 1]⟩
abbrev S4096 : Shape := ⟨1, ![4096]⟩
abbrev S1x4096 : Shape := ⟨2, ![1, 4096]⟩
abbrev S512x4096 : Shape := ⟨2, ![512, 4096]⟩
abbrev S2x64x512x4096 : Shape := ⟨4, ![2, 64, 512, 4096]⟩
abbrev S1x1x512x4096 : Shape := ⟨4, ![1, 1, 512, 4096]⟩
abbrev S2x64x512 : Shape := ⟨3, ![2, 64, 512]⟩
abbrev S2x64x512x1 : Shape := ⟨4, ![2, 64, 512, 1]⟩
abbrev S1x1x512x1 : Shape := ⟨4, ![1, 1, 512, 1]⟩
abbrev S2x64x64x512 : Shape := ⟨4, ![2, 64, 64, 512]⟩

abbrev nBuf : Space → Nat
  | .hbm => 94
  | .vmem => 0
  | .smem => 0
  | _ => 0

abbrev bufTy : (tb : Table) → Fin (tcTables nBuf tb) → BufTy
  | .hbm, ⟨0, _⟩ => ⟨S2x512x768, .bf16⟩
  | .hbm, ⟨1, _⟩ => ⟨S768x4096, .bf16⟩
  | .hbm, ⟨2, _⟩ => ⟨S2x4096x64x64, .f32⟩
  | .hbm, ⟨3, _⟩ => ⟨S2x4096x64x64, .f32⟩
  | .hbm, ⟨4, _⟩ => ⟨S4096x768, .bf16⟩
  | .hbm, ⟨5, _⟩ => ⟨S2x512x768, .f32⟩
  | .hbm, ⟨6, _⟩ => ⟨S768x4096, .f32⟩
  | .hbm, ⟨7, _⟩ => ⟨S2x512x4096, .f32⟩
  | .hbm, ⟨8, _⟩ => ⟨S2x512x4096, .bf16⟩
  | .hbm, ⟨9, _⟩ => ⟨S2x512x64x64, .bf16⟩
  | .hbm, ⟨10, _⟩ => ⟨S512, .i32⟩
  | .hbm, ⟨11, _⟩ => ⟨S_, .i32⟩
  | .hbm, ⟨12, _⟩ => ⟨S_, .i32⟩
  | .hbm, ⟨13, _⟩ => ⟨S512, .i32⟩
  | .hbm, ⟨14, _⟩ => ⟨S512, .i32⟩
  | .hbm, ⟨15, _⟩ => ⟨S512, .i32⟩
  | .hbm, ⟨16, _⟩ => ⟨S_, .i32⟩
  | .hbm, ⟨17, _⟩ => ⟨S512, .i32⟩
  | .hbm, ⟨18, _⟩ => ⟨S512, .i1⟩
  | .hbm, ⟨19, _⟩ => ⟨S512, .i32⟩
  | .hbm, ⟨20, _⟩ => ⟨S512, .i32⟩
  | .hbm, ⟨21, _⟩ => ⟨S_, .i32⟩
  | .hbm, ⟨22, _⟩ => ⟨S512, .i32⟩
  | .hbm, ⟨23, _⟩ => ⟨S512, .i1⟩
  | .hbm, ⟨24, _⟩ => ⟨S512, .i1⟩
  | .hbm, ⟨25, _⟩ => ⟨S_, .i32⟩
  | .hbm, ⟨26, _⟩ => ⟨S512, .i32⟩
  | .hbm, ⟨27, _⟩ => ⟨S512, .i32⟩
  | .hbm, ⟨28, _⟩ => ⟨S512, .i32⟩
  | .hbm, ⟨29, _⟩ => ⟨S512x1, .i32⟩
  | .hbm, ⟨30, _⟩ => ⟨S4096, .i32⟩
  | .hbm, ⟨31, _⟩ => ⟨S_, .i32⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S4096, .i32⟩
  | .hbm, ⟨36, _⟩ => ⟨S_, .i32⟩
  | .hbm, ⟨37, _⟩ => ⟨S4096, .i32⟩
  | .hbm, ⟨38, _⟩ => ⟨S4096, .i1⟩
  | .hbm, ⟨39, _⟩ => ⟨S4096, .i32⟩
  | .hbm, ⟨40, _⟩ => ⟨S4096, .i32⟩
  | .hbm, ⟨41, _⟩ => ⟨S_, .i32⟩
  | .hbm, ⟨42, _⟩ => ⟨S4096, .i32⟩
  | .hbm, ⟨43, _⟩ => ⟨S4096, .i1⟩
  | .hbm, ⟨44, _⟩ => ⟨S4096, .i1⟩
  | .hbm, ⟨45, _⟩ => ⟨S_, .i32⟩
  | .hbm, ⟨46, _⟩ => ⟨S4096, .i32⟩
  | .hbm, ⟨47, _⟩ => ⟨S4096, .i32⟩
  | .hbm, ⟨48, _⟩ => ⟨S4096, .i32⟩
  | .hbm, ⟨49, _⟩ => ⟨S1x4096, .i32⟩
  | .hbm, ⟨50, _⟩ => ⟨S512x4096, .i32⟩
  | .hbm, ⟨51, _⟩ => ⟨S512x4096, .i32⟩
  | .hbm, ⟨52, _⟩ => ⟨S512x4096, .i1⟩
  | .hbm, ⟨53, _⟩ => ⟨S2x512x64x64, .f32⟩
  | .hbm, ⟨54, _⟩ => ⟨S2x64x512x4096, .f32⟩
  | .hbm, ⟨55, _⟩ => ⟨S_, .f32⟩
  | .hbm, ⟨56, _⟩ => ⟨S2x64x512x4096, .f32⟩
  | .hbm, ⟨57, _⟩ => ⟨S2x64x512x4096, .f32⟩
  | .hbm, ⟨58, _⟩ => ⟨S1x1x512x4096, .i1⟩
  | .hbm, ⟨59, _⟩ => ⟨S_, .f32⟩
  | .hbm, ⟨60, _⟩ => ⟨S_, .f32⟩
  | .hbm, ⟨61, _⟩ => ⟨S2x64x512x4096, .i1⟩
  | .hbm, ⟨62, _⟩ => ⟨S2x64x512x4096, .f32⟩
  | .hbm, ⟨63, _⟩ => ⟨S2x64x512x4096, .f32⟩
  | .hbm, ⟨64, _⟩ => ⟨S_, .f32⟩
  | .hbm, ⟨65, _⟩ => ⟨S2x64x512, .f32⟩
  | .hbm, ⟨66, _⟩ => ⟨S2x64x512x1, .f32⟩
  | .hbm, ⟨67, _⟩ => ⟨S2x64x512x4096, .f32⟩
  | .hbm, ⟨68, _⟩ => ⟨S2x64x512x4096, .f32⟩
  | .hbm, ⟨69, _⟩ => ⟨S2x64x512x4096, .f32⟩
  | .hbm, ⟨70, _⟩ => ⟨S_, .i1⟩
  | .hbm, ⟨71, _⟩ => ⟨S512, .i1⟩
  | .hbm, ⟨72, _⟩ => ⟨S1x1x512x1, .i1⟩
  | .hbm, ⟨73, _⟩ => ⟨S_, .f32⟩
  | .hbm, ⟨74, _⟩ => ⟨S2x64x512, .f32⟩
  | .hbm, ⟨75, _⟩ => ⟨S2x64x512x1, .f32⟩
  | .hbm, ⟨76, _⟩ => ⟨S_, .f32⟩
  | .hbm, ⟨77, _⟩ => ⟨S_, .f32⟩
  | .hbm, ⟨78, _⟩ => ⟨S2x64x512x1, .i1⟩
  | .hbm, ⟨79, _⟩ => ⟨S2x64x512x1, .f32⟩
  | .hbm, ⟨80, _⟩ => ⟨S2x64x512x1, .f32⟩
  | .hbm, ⟨81, _⟩ => ⟨S2x64x512x4096, .f32⟩
  | .hbm, ⟨82, _⟩ => ⟨S2x64x512x4096, .f32⟩
  | .hbm, ⟨83, _⟩ => ⟨S1x1x512x1, .i1⟩
  | .hbm, ⟨84, _⟩ => ⟨S_, .f32⟩
  | .hbm, ⟨85, _⟩ => ⟨S_, .f32⟩
  | .hbm, ⟨86, _⟩ => ⟨S2x64x512x4096, .i1⟩
  | .hbm, ⟨87, _⟩ => ⟨S2x64x512x4096, .f32⟩
  | .hbm, ⟨88, _⟩ => ⟨S2x64x512x4096, .f32⟩
  | .hbm, ⟨89, _⟩ => ⟨S2x64x64x512, .f32⟩
  | .hbm, ⟨90, _⟩ => ⟨S2x512x64x64, .f32⟩
  | .hbm, ⟨91, _⟩ => ⟨S2x512x4096, .f32⟩
  | .hbm, ⟨92, _⟩ => ⟨S4096x768, .f32⟩
  | .hbm, ⟨93, _⟩ => ⟨S2x512x768, .f32⟩
  | _, _ => ⟨S2x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_c_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_cst : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_cst_1 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v19 : Ref sig .tc := ⟨.hbm, 63, rfl⟩
abbrev main_cst_2 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_c_3 : Ref sig .tc := ⟨.hbm, 70, rfl⟩
abbrev main_v25 : Ref sig .tc := ⟨.hbm, 71, rfl⟩
abbrev main_v26 : Ref sig .tc := ⟨.hbm, 72, rfl⟩
abbrev main_cst_4 : Ref sig .tc := ⟨.hbm, 73, rfl⟩
abbrev main_v27 : Ref sig .tc := ⟨.hbm, 74, rfl⟩
abbrev main_v28 : Ref sig .tc := ⟨.hbm, 75, rfl⟩
abbrev main_cst_5 : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_cst_6 : Ref sig .tc := ⟨.hbm, 84, rfl⟩
abbrev main_call4_v0 : Ref sig .tc := ⟨.hbm, 85, rfl⟩
abbrev main_call4_v1 : Ref sig .tc := ⟨.hbm, 86, rfl⟩
abbrev main_call4_v2 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩

abbrev nD : Nat := 1
abbrev τ : Topo := Topo.v7x

variable {F : FTy → Type} [FloatOps F]
-- ==== Proof.PIdeal.Base.lean ====
/-
The kernel's protocol: the memrefs, the channels, what each landing hands over, what each device owes.

Device 0 hands its keys and values to every other device (after their barrier signals), every device computes its
own heads' partial product, and the partial products are summed over three rounds of exchange with partners
`c xor 1`, `c xor 2`, `c xor 4` and the finished rows handed round in the reverse order. Every semaphore cell carries
one round of duties.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Pipeline.RegionTalk
public import Idealize.ShloMosaic.Lib.Transfers
public import Idealize.ShloMosaic.Lib.Tactic

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra -/

abbrev UB : Type := URounds (GSem nD τ sig) (Fin 8)
abbrev UP : Type := UR sig nD τ
abbrev UU : Type := UP × (UB × Counters)

local notation "𝕄" => MT nD τ sig Unit (Elt F) ℕ UU ℕ

abbrev EP : Emb UP (MT nD τ sig Unit (Elt F) ℕ UU ℕ) := embL
/-- The kernel's own cells: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

/-! ## The memrefs -/

abbrev xM : Memref sig .tc .vmem S1024x768 .bf16 := Memref.whole cc0_stg0_0
abbrev wqM : Memref sig .tc .vmem S768x512 .bf16 := Memref.whole cc0_stg1_0
abbrev kM : Memref sig .tc .hbm S2x512x4096 .f32 := Memref.whole main_v2
abbrev vM : Memref sig .tc .hbm S2x512x4096 .f32 := Memref.whole main_v3
abbrev woM : Memref sig .tc .vmem S512x768 .bf16 := Memref.whole cc0_stg2_0
abbrev oM : Memref sig .tc .vmem S2x512x768 .f32 := Memref.whole cc0_stg3_0
abbrev ksM : Memref sig .tc .vmem S2x2x512x512 .bf16 := Memref.whole cc0_scratch0
abbrev vsM : Memref sig .tc .vmem S2x2x512x512 .bf16 := Memref.whole cc0_scratch1
abbrev stM : Memref sig .tc .vmem S2x2x512x512 .f32 := Memref.whole cc0_scratch2
abbrev kbM : Memref sig .tc .vmem S2x512x512 .bf16 := Memref.whole cc0_scratch3
abbrev vbM : Memref sig .tc .vmem S2x512x512 .bf16 := Memref.whole cc0_scratch4
abbrev qM : Memref sig .tc .vmem S1024x512 .bf16 := Memref.whole cc0_scratch5
abbrev cM : Memref sig .tc .vmem S1024x512 .bf16 := Memref.whole cc0_scratch6
abbrev aM : Memref sig .tc .vmem S1024x768 .f32 := Memref.whole cc0_scratch7

/-- The rows exchanged in round `r`: 512, 256, 128. -/
@[reducible] def nr : Fin 3 → ℕ | 0 => 512 | 1 => 256 | 2 => 128
@[reducible] def sh (r : Fin 3) : Shape := ⟨2, ![nr r, 768]⟩

@[reducible] def sndM : (r : Fin 3) → Memref sig .tc .vmem (sh r) .bf16
  | 0 => Memref.whole cc0_scratch8 | 1 => Memref.whole cc0_scratch9 | 2 => Memref.whole cc0_scratch10
@[reducible] def rcvM : (r : Fin 3) → Memref sig .tc .vmem (sh r) .bf16
  | 0 => Memref.whole cc0_scratch11 | 1 => Memref.whole cc0_scratch12 | 2 => Memref.whole cc0_scratch13

/-- Either slot lies inside its two-slot staging buffer. -/
theorem slot_inb (σ : Fin 2) : ∀ a, (![(σ : ℕ), 0, 0, 0] : Fin 4 → ℕ) a + S1x2x512x512.size a ≤ S2x2x512x512.size a := by
  revert σ; decide

/-- Half `σ` of a two-slot staging buffer, as the 2 × 512 × 512 block it holds. -/
abbrev slotOf {e : EltTy} (M : Memref sig .tc .vmem S2x2x512x512 e) (σ : Fin 2) : Memref sig .tc .vmem S2x512x512 e :=
  (M.slice (Rect.unit (s := S2x2x512x512) ![(σ : ℕ), 0, 0, 0] S1x2x512x512.size (slot_inb σ)) (fun _ => rfl)).squeeze
    S2x512x512 squeezes_S1x2x512x512_S2x512x512

/-! ## Partners and rows -/

/-- The partner of `c` in round `r`: bit `r` of the device's number flipped. -/
def pt (r : Fin 3) (c : Dev nD) : Dev nD := ⟨c.val ^^^ (2 ^ r.val), by revert r c; decide⟩
/-- The partner's partner is the device itself. -/
theorem pt_pt (r : Fin 3) (c : Dev nD) : pt r (pt r c) = c := by revert r c; decide
/-- No device is its own partner. -/
theorem pt_ne (r : Fin 3) (c : Dev nD) : pt r c ≠ c := by revert r c; decide
/-- Different devices have different partners. -/
theorem pt_inj (r : Fin 3) {c d : Dev nD} (h : pt r c = pt r d) : c = d := by rw [← pt_pt r c, h, pt_pt]

/-- First row of the half `c` keeps in round `r`. -/
def kb (r : Fin 3) (c : Dev nD) : ℕ := match r with
  | 0 => c.val % 2 * 512
  | 1 => c.val % 2 * 512 + c.val / 2 % 2 * 256
  | 2 => c.val % 2 * 512 + c.val / 2 % 2 * 256 + c.val / 4 % 2 * 128
/-- First row of the half `c` gives away in round `r`: the half its partner keeps. -/
def sb (r : Fin 3) (c : Dev nD) : ℕ := kb r (pt r c)

/-- The elements of rows `lo … lo + n - 1` of the accumulator. -/
def rows (lo n : ℕ) : Finset S1024x768.Idx := Finset.univ.filter fun i => lo ≤ (i 0).val ∧ (i 0).val < lo + n

/-- Rows `lo … lo + n + k - 1` are the first `n` of them and the next `k`. -/
theorem rows_union (lo n k : ℕ) : rows lo (n + k) = rows lo n ∪ rows (lo + n) k := by
  ext i; simp only [rows, Finset.mem_filter, Finset.mem_univ, true_and, Finset.mem_union]; omega
/-- Row ranges that do not overlap share no element. -/
theorem rows_disjoint {lo n lo' k : ℕ} (h : lo + n ≤ lo' ∨ lo' + k ≤ lo) : Disjoint (rows lo n) (rows lo' k) := by
  rw [Finset.disjoint_left]; intro i; simp only [rows, Finset.mem_filter, Finset.mem_univ, true_and]; omega
/-- The rows from 0 to 1023 are the whole accumulator. -/
theorem rows_all : rows 0 1024 = Finset.univ := by
  ext i; simp only [rows, Finset.mem_filter, Finset.mem_univ, true_and, iff_true]
  exact ⟨Nat.zero_le _, by have := (i 0).isLt; simpa using this⟩

/-! ## Channels -/

/-- The semaphore channels of a device: where its sends of keys and values to `m` complete, where the keys and the
    values it is sent land, and per round the exchange's and the hand-round's two sides. -/
inductive Ch where
  | ks (m : Fin 8) | vs (m : Fin 8) | kr | vr
  | rss (r : Fin 3) | rsr (r : Fin 3) | ags (r : Fin 3) | agr (r : Fin 3)
deriving DecidableEq

/-- The channel's number, and back. -/
def Ch.num : Ch → Fin 30
  | .ks m => ⟨m, by omega⟩ | .vs m => ⟨8 + m, by omega⟩ | .kr => 16 | .vr => 17
  | .rss r => ⟨18 + r, by omega⟩ | .rsr r => ⟨21 + r, by omega⟩ | .ags r => ⟨24 + r, by omega⟩ | .agr r => ⟨27 + r, by omega⟩
def Ch.of (n : Fin 30) : Ch :=
  if h : n.val < 8 then .ks ⟨n, h⟩ else if h : n.val < 16 then .vs ⟨n - 8, by omega⟩
  else if n.val = 16 then .kr else if n.val = 17 then .vr
  else if h : n.val < 21 then .rss ⟨n - 18, by omega⟩ else if h : n.val < 24 then .rsr ⟨n - 21, by omega⟩
  else if h : n.val < 27 then .ags ⟨n - 24, by omega⟩ else .agr ⟨n - 27, by omega⟩
/-- A channel is recovered from its number. -/
theorem Ch.of_num (k : Ch) : Ch.of k.num = k := by
  cases k with
  | ks m => revert m; decide
  | vs m => revert m; decide
  | kr => decide
  | vr => decide
  | rss r => revert r; decide
  | rsr r => revert r; decide
  | ags r => revert r; decide
  | agr r => revert r; decide
/-- A number is recovered from its channel. -/
theorem Ch.num_of (n : Fin 30) : (Ch.of n).num = n := by revert n; decide
def Ch.equiv : Fin 30 ≃ Ch := ⟨Ch.of, Ch.num, Ch.num_of, Ch.of_num⟩
instance : Fintype Ch := Fintype.ofEquiv _ Ch.equiv

/-- The channel's semaphore. -/
def Ch.sem : Ch → DmaSem sig
  | .ks m => (⟨4 + m, by omega⟩ : Fin 36) | .vs m => (⟨12 + m, by omega⟩ : Fin 36) | .kr => (20 : Fin 36) | .vr => (21 : Fin 36)
  | .rss r => (⟨24 + r, by omega⟩ : Fin 36) | .rsr r => (⟨27 + r, by omega⟩ : Fin 36)
  | .ags r => (⟨30 + r, by omega⟩ : Fin 36) | .agr r => (⟨33 + r, by omega⟩ : Fin 36)

/-- Channel of a semaphore, when it has one. -/
def chOf (q : Fin 36) : Option Ch :=
  if h : q.val < 4 then none else if h : q.val < 22 then some (Ch.of ⟨q - 4, by omega⟩)
  else if h : q.val < 24 then none else some (Ch.of ⟨q - 6, by omega⟩)
/-- The channel of a channel's semaphore is that channel. -/
theorem chOf_sem (k : Ch) : chOf k.sem = some k := by
  cases k with
  | ks m => revert m; decide
  | vs m => revert m; decide
  | kr => decide
  | vr => decide
  | rss r => revert r; decide
  | rsr r => revert r; decide
  | ags r => revert r; decide
  | agr r => revert r; decide
/-- Different channels have different semaphores. -/
theorem sem_inj {k k' : Ch} (h : k.sem = k'.sem) : k = k' := by
  have := congrArg chOf h; rw [chOf_sem, chOf_sem] at this; exact Option.some.inj this

/-- The barrier's semaphore and the local copies' two. -/
abbrev barS : SemLoc sig := .reg (0 : Sem sig)
@[reducible] def locS (σ : Fin 2) : DmaSem sig := (⟨22 + σ, by omega⟩ : Fin 36)

abbrev cell (c : Dev nD) (k : Ch) : GSem nD τ sig := ((c : Thread nD τ), .dma k.sem)
abbrev bar (c : Dev nD) : GSem nD τ sig := ((c : Thread nD τ), barS)

/-! ## Contents -/

/-- Element `j` of the rows that start at `lo`. -/
def at' (lo : ℕ) (r : Fin 3) (j : (sh r).Idx) : S1024x768.Idx
  | 0 => ⟨(lo + (j 0).val) % 1024, Nat.mod_lt _ (by decide)⟩
  | 1 => j 1

/-- Values the schedule speaks of: the keys and values each device is sent, its partial product. -/
structure Vals (F : FTy → Type) where
  kp : Dev nD → Vec F S2x512x512 .bf16
  vp : Dev nD → Vec F S2x512x512 .bf16
  A0 : Dev nD → Vec F S1024x768 .f32

variable (V : Vals F)

/-- The accumulator of `c` after `n` rounds of exchange, on the rows it still keeps. -/
def acc : ℕ → Dev nD → Vec F S1024x768 .f32
  | 0, c => V.A0 c
  | n + 1, c => fun i => FloatOps.addf (acc n c i)
      (FloatOps.extf .f32 bitsLt_bf16_f32 (FloatOps.truncf .bf16 bitsLt_bf16_f32 (acc n (pt (Fin.ofNat 3 n) c) i)))

/-- What `c` packs for its partner in round `r`. -/
def packed (r : Fin 3) (c : Dev nD) : Vec F (sh r) .bf16 := fun j => FloatOps.truncf .bf16 bitsLt_bf16_f32 (acc V r c (at' (sb r c) r j))

/-- The device whose rows the finished row belongs to. -/
def owner (i : S1024x768.Idx) : Dev nD :=
  ⟨(i 0).val / 512 % 2 + (i 0).val / 256 % 2 * 2 + (i 0).val / 128 % 2 * 4, by show _ < 8; omega⟩
/-- The finished sum. -/
def fin : Vec F S1024x768 .f32 := fun i => acc V 3 (owner i) i

end Cert.KernelIdeal.Attn
-- ==== Proof.PIdeal.Sched.lean ====
/-
The rounds schedule of the kernel's channels: who credits each cell, by how much, and what that hands over; the order
in which the cells may be waited for; what each device owes at launch.
-/
module

public import proofs.«01_k».proof.Proof.PIdeal.Base

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## Assertions the payloads are made of -/

/-- Device `c` owns the memref's elements, at some contents. -/
def anyB (c : Dev nD) {sp : Space} {s : Shape} {e : EltTy} (M : Memref sig .tc sp s e) : sProp 𝕄 :=
  iprop(∃ f, M.view.loc (c : Thread nD τ) ↦[M.view.set]{fullShare} f)
/-- Device `c` owns the memref's elements, at contents that read `X`. -/
def ownB (c : Dev nD) {sp : Space} {s : Shape} {e : EltTy} (M : Memref sig .tc sp s e) (X : s.Idx → Elt F e) : sProp 𝕄 :=
  iprop(∃ f, ⌜M.view.read (Elt F) f = X⌝ ∗ (M.view.loc (c : Thread nD τ) ↦[M.view.set]{fullShare} f))
/-- Device `c` owns rows of its accumulator, at contents `X`. -/
def rowB (c : Dev nD) (lo n : ℕ) (X : Vec F S1024x768 .f32) : sProp 𝕄 :=
  iprop((aM : Memref sig .tc .vmem S1024x768 .f32).view.loc (c : Thread nD τ) ↦[rows lo n]{fullShare} X)
def rowAny (c : Dev nD) (lo n : ℕ) : sProp 𝕄 := iprop(∃ X, rowB (F := F) c lo n X)

instance anyB_storable (c : Dev nD) {sp : Space} {s : Shape} {e : EltTy} (M : Memref sig .tc sp s e) :
    BI.Storable (upEmb : UEmb _ 𝕄) (anyB (F := F) c M) := by unfold anyB; infer_instance
instance ownB_storable (c : Dev nD) {sp : Space} {s : Shape} {e : EltTy} (M : Memref sig .tc sp s e) (X : s.Idx → Elt F e) :
    BI.Storable (upEmb : UEmb _ 𝕄) (ownB (F := F) c M X) := by unfold ownB; infer_instance
instance rowB_storable (c : Dev nD) (lo n : ℕ) (X : Vec F S1024x768 .f32) :
    BI.Storable (upEmb : UEmb _ 𝕄) (rowB (F := F) c lo n X) := by unfold rowB; infer_instance
instance rowAny_storable (c : Dev nD) (lo n : ℕ) : BI.Storable (upEmb : UEmb _ 𝕄) (rowAny (F := F) c lo n) := by
  unfold rowAny; infer_instance

/-- Ownership at known contents is ownership at some contents. -/
theorem ownB_any (c : Dev nD) {sp : Space} {s : Shape} {e : EltTy} (M : Memref sig .tc sp s e) (X : s.Idx → Elt F e) :
    ownB (F := F) c M X ⊢ anyB c M := by
  unfold ownB anyB; iintro ⟨%f, %h, H⟩; iexists f; iexact H
/-- Rows at known contents are rows at some contents. -/
theorem rowB_any (c : Dev nD) (lo n : ℕ) (X : Vec F S1024x768 .f32) : rowB (F := F) c lo n X ⊢ rowAny c lo n := by
  unfold rowAny; iintro H; iexists X; iexact H

/-- Device `c`'s channels have all begun. -/
def rch (c : Dev nD) : sProp 𝕄 := bigSep Finset.univ fun k : Ch => reached ER (cell c k) 0
instance rch_persistent (c : Dev nD) : BI.Persistent (rch (F := F) c) := by unfold rch; infer_instance
instance rch_storable (c : Dev nD) : BI.Storable (upEmb : UEmb _ 𝕄) (rch (F := F) c) := by unfold rch; infer_instance
/-- When a device's channels have all begun, each has. -/
theorem rch_at (c : Dev nD) (k : Ch) : rch (F := F) c ⊢ reached ER (cell c k) 0 := by
  unfold rch; exact bigSep_elim (Finset.mem_univ k)

/-- What device `m`'s barrier signal hands device 0: its landing buffers. -/
def offer (m : Dev nD) : sProp 𝕄 :=
  iprop(anyB m kbM ∗ anyB m vbM ∗ (bigSep Finset.univ fun r : Fin 3 => anyB m (rcvM r)) ∗ rch m)
/-- What comes to device `m` with its keys: its partners' exchange buffers, and that everyone's channels have begun. -/
def partners (m : Dev nD) : sProp 𝕄 :=
  iprop((bigSep Finset.univ fun r : Fin 3 => anyB (pt r m) (rcvM r)) ∗ bigSep Finset.univ fun c : Dev nD => rch c)

instance offer_storable (m : Dev nD) : BI.Storable (upEmb : UEmb _ 𝕄) (offer (F := F) m) := by unfold offer; infer_instance
instance partners_storable (m : Dev nD) : BI.Storable (upEmb : UEmb _ 𝕄) (partners (F := F) m) := by
  unfold partners; infer_instance

/-! ## The schedule -/

/-- The slot device `m`'s keys and values pass through. -/
def slotFor (m : Fin 8) : Fin 2 := match m with | 5 => 1 | 7 => 1 | 4 => 1 | _ => 0

/-- The receiver's credit of one key or value block, of one exchange block, of one handed-round block. -/
def NK : ℕ := (kbM : Memref sig .tc .vmem S2x512x512 .bf16).view.dmaCredit
def NR (r : Fin 3) : ℕ := (rcvM r).view.dmaCredit
/-- The rows of one round lie inside the accumulator. -/
theorem aSl_inb (r : Fin 3) (lo : ℕ) (h : lo + nr r ≤ 1024) : ∀ a, (![lo, 0] : Fin 2 → ℕ) a + (sh r).size a ≤ S1024x768.size a := by
  intro a
  match a with
  | 0 => exact h
  | 1 => exact (show 0 + 768 ≤ 768 by decide)
/-- Rows of the accumulator as a block. -/
abbrev aSl (r : Fin 3) (off : Fin 2 → ℕ) (h : ∀ a, off a + (sh r).size a ≤ S1024x768.size a) : Memref sig .tc .vmem (sh r) .f32 :=
  (aM : Memref sig .tc .vmem S1024x768 .f32).slice (Rect.unit (s := S1024x768) off (sh r).size h) (fun _ => rfl)
def NA (r : Fin 3) : ℕ := (aSl r ![0, 0] (aSl_inb r 0 (by fin_cases r <;> decide))).view.dmaCredit

/-- A block of keys or values credits something. -/
theorem NK_pos : 0 < NK := by
  unfold NK; exact View.dmaCredit_pos (kbM : Memref sig .tc .vmem S2x512x512 .bf16).view (by simp [Shape.numel, Fin.prod_univ_succ])
/-- An exchanged block is not empty. -/
theorem sh_numel (r : Fin 3) : 0 < (sh r).numel := by fin_cases r <;> simp [Shape.numel, Fin.prod_univ_succ]
/-- An exchanged block credits something. -/
theorem NR_pos (r : Fin 3) : 0 < NR r := by unfold NR; exact View.dmaCredit_pos (rcvM r).view (sh_numel r)
/-- A handed-round block credits something. -/
theorem NA_pos (r : Fin 3) : 0 < NA r := by unfold NA; exact View.dmaCredit_pos (aSl r ![0, 0] _).view (sh_numel r)

/-- The units a channel's landing credits. -/
def amt : Ch → ℕ
  | .ks _ => NK | .vs _ => NK | .kr => NK | .vr => NK
  | .rss r => NR r | .rsr r => NR r | .ags r => NA r | .agr r => NA r
/-- Every channel's landing credits something. -/
theorem amt_pos (k : Ch) : 0 < amt k := by
  match k with
  | .ks _ => exact NK_pos | .vs _ => exact NK_pos | .kr => exact NK_pos | .vr => exact NK_pos
  | .rss r => exact NR_pos r | .rsr r => exact NR_pos r | .ags r => exact NA_pos r | .agr r => exact NA_pos r

/-- Whether device `c`'s channel is used: keys and values go from device 0 to the others. -/
def used (c : Dev nD) : Ch → Prop
  | .ks m => c = 0 ∧ m ≠ 0 | .vs m => c = 0 ∧ m ≠ 0 | .kr => c ≠ 0 | .vr => c ≠ 0 | _ => True
instance (c : Dev nD) (k : Ch) : Decidable (used c k) := by cases k <;> unfold used <;> infer_instance

variable (V : Vals F)

/-- What a landing on channel `k` hands device `c`. -/
def pay (c : Dev nD) : Ch → sProp 𝕄
  | .ks m => anyB c (slotOf ksM (slotFor m))
  | .vs m => anyB c (slotOf vsM (slotFor m))
  | .kr => iprop(ownB c kbM (V.kp c) ∗ partners c)
  | .vr => ownB c vbM (V.vp c)
  | .rss r => anyB c (sndM r)
  | .rsr r => iprop(ownB c (rcvM r) (packed V r (pt r c)) ∗ rowAny (pt r c) (kb r c) (nr r))
  | .ags r => rowB c (kb r c) (nr r) (fin V)
  | .agr r => rowB c (kb r (pt r c)) (nr r) (fin V)

instance pay_storable (c : Dev nD) (k : Ch) : BI.Storable (upEmb : UEmb _ 𝕄) (pay V c k) := by
  cases k <;> unfold pay <;> infer_instance

/-- The channel of a cell. -/
def keyOf : SemLoc sig → Option Ch
  | .dma q => chOf q
  | .reg _ => none

def Rd : Rounds.Schedule (GSem nD τ sig) (Fin 8) 𝕄 where
  duties g r := if r = 0 ∧ g.1.2 = .tc then
      (match keyOf g.2 with
        | some k => if used g.1.1 k then {0} else ∅
        | none => if g.2 = barS ∧ g.1.1 = 0 then Finset.univ.erase 0 else ∅) else ∅
  unitless _ := False
  amount g _ _ := match keyOf g.2 with | some k => amt k | none => 1
  payload g _ d := match keyOf g.2 with | some k => pay V g.1.1 k | none => offer d
  amount_pos g _ _ _ := by
    cases h : keyOf g.2 with
    | some k => exact amt_pos k
    | none => exact Nat.one_pos

instance Rd_payload_storable (g : GSem nD τ sig) (r : ℕ) (d : Fin 8) : BI.Storable (upEmb : UEmb _ 𝕄) ((Rd V).payload g r d) := by
  show BI.Storable upEmb (match keyOf g.2 with | some k => pay V g.1.1 k | none => offer d)
  split <;> infer_instance

section Sched
variable (c : Dev nD)

/-- A channel's semaphore names the channel. -/
theorem keyOf_ch (k : Ch) : keyOf (.dma k.sem) = some k := chOf_sem k
/-- The barrier names no channel. -/
theorem keyOf_bar : keyOf barS = none := rfl

/-- A used channel has one landing. -/
theorem duties_ch {k : Ch} (h : used c k) : (Rd V).duties (cell c k) 0 = {0} := by
  dsimp only [Rd]; rw [if_pos ⟨rfl, rfl⟩, keyOf_ch]; exact if_pos h
/-- An unused channel has none. -/
theorem duties_unused {k : Ch} (h : ¬used c k) : (Rd V).duties (cell c k) 0 = ∅ := by
  dsimp only [Rd]; rw [if_pos ⟨rfl, rfl⟩, keyOf_ch]; exact if_neg h
/-- Device 0's barrier is signalled by every other device. -/
theorem duties_bar : (Rd V).duties (bar 0) 0 = Finset.univ.erase 0 := by
  dsimp only [Rd]; rw [if_pos ⟨rfl, rfl⟩, keyOf_bar]; exact if_pos ⟨rfl, rfl⟩
/-- The other barriers are not signalled. -/
theorem duties_bar_ne (h : c ≠ 0) : (Rd V).duties (bar c) 0 = ∅ := by
  dsimp only [Rd]; rw [if_pos ⟨rfl, rfl⟩, keyOf_bar]; exact if_neg fun hh => h hh.2
/-- No cell has a second round. -/
theorem duties_later (g : GSem nD τ sig) : ∀ r, 1 ≤ r → (Rd V).duties g r = ∅ :=
  fun r hr => by dsimp only [Rd]; exact if_neg fun h => by omega

/-- A channel's landing adds the channel's amount. -/
theorem amount_ch (k : Ch) (r : ℕ) (d : Fin 8) : (Rd V).amount (cell c k) r d = amt k := by dsimp only [Rd]; rw [keyOf_ch]
/-- A barrier signal adds one. -/
theorem amount_bar (r : ℕ) (d : Fin 8) : (Rd V).amount (bar c) r d = 1 := by dsimp only [Rd]; rw [keyOf_bar]
/-- A channel's landing hands over what the schedule says. -/
theorem payload_ch (k : Ch) (r : ℕ) (d : Fin 8) : (Rd V).payload (cell c k) r d = pay V c k := by dsimp only [Rd]; rw [keyOf_ch]
/-- A barrier signal hands over the signalling device's offer. -/
theorem payload_bar (r : ℕ) (d : Fin 8) : (Rd V).payload (bar c) r d = offer d := by dsimp only [Rd]; rw [keyOf_bar]
/-- A used channel expects its amount. -/
theorem expect_ch {k : Ch} (h : used c k) : (Rd V).expect (cell c k) 0 = amt k := by
  unfold Schedule.expect Schedule.amountOf; rw [duties_ch V c h, Finset.sum_singleton, amount_ch]
/-- Device 0's barrier expects seven. -/
theorem expect_bar : (Rd V).expect (bar 0) 0 = 7 := by
  unfold Schedule.expect Schedule.amountOf; rw [duties_bar]; simp only [amount_bar]; decide
/-- All a used channel hands over is its one payload. -/
theorem rest_ch {k : Ch} (h : used c k) :
    bigSep ((Rd V).duties (cell c k) 0 \ ∅) (fun u => (Rd V).payload (cell c k) 0 u) = pay V c k := by
  rw [Finset.sdiff_empty, duties_ch V c h, bigSep_singleton, payload_ch]
/-- All device 0's barrier hands over is the other devices' offers. -/
theorem rest_bar : bigSep ((Rd V).duties (bar 0) 0 \ ∅) (fun u => (Rd V).payload (bar 0) 0 u)
    = bigSep (Finset.univ.erase 0) fun m : Dev nD => offer (F := F) m := by
  rw [Finset.sdiff_empty, duties_bar]; exact bigSep_congr fun d _ => payload_bar V 0 0 d

end Sched

/-! ## The order of waits; what each device owes -/

def L (g : GSem nD τ sig) : Finset Unit := if g.1.2 = .tc then {()} else ∅
def lvCh : Ch → ℕ
  | .kr => 2 | .vr => 2 | .rsr r => 3 + r | .agr r => 8 - r | _ => 0
def lv (g : GSem nD τ sig) (_ : Unit) : ℕ := match keyOf g.2 with
  | some k => lvCh k
  | none => if g.2 = barS then 1 else 0
/-- No cell off the main core carries an obligation. -/
theorem L_of_ne (g : GSem nD τ sig) (h : g.1.2 ≠ .tc) : L g = ∅ := if_neg h
/-- Every cell of the main core carries obligations under one index. -/
theorem L_tc (c : Dev nD) (sm : SemLoc sig) : L ((c : Thread nD τ), sm) = {()} := if_pos rfl
/-- A channel cell's level is its channel's. -/
theorem lv_ch (c : Dev nD) (k : Ch) (u : Unit) : lv (cell c k) u = lvCh k := by unfold lv; rw [keyOf_ch]
/-- The barrier's level is 1. -/
theorem lv_bar (c : Dev nD) (u : Unit) : lv (bar c) u = 1 := by unfold lv; rw [keyOf_bar]; exact if_pos rfl
/-- A local copy's level is 0. -/
theorem lv_loc (c : Dev nD) (q : DmaSem sig) (h : chOf q = none) (u : Unit) : lv ((c : Thread nD τ), .dma q) u = 0 := by
  unfold lv; show (match chOf q with | some k => lvCh k | none => if SemLoc.dma q = barS then 1 else 0) = 0
  rw [h]; exact if_neg fun hh => by cases hh

/-- Everything owed lies above level `n`. -/
def Above (n : ℕ) (O : CellTallies nD τ sig Unit) : Prop := ∀ g u, 0 < O g u → g.1.2 = .tc ∧ n < lv g u
/-- Owing nothing lies above every level. -/
theorem above_zero (n : ℕ) : Above n 0 := fun g u h => absurd h (Nat.lt_irrefl 0)
/-- A sum lies above a level both parts lie above. -/
theorem above_add {n : ℕ} {O O' : CellTallies nD τ sig Unit} (h : Above n O) (h' : Above n O') : Above n (O + O') := by
  intro g u hg
  rw [Pi.add_apply, Finsupp.add_apply] at hg
  rcases Nat.eq_zero_or_pos (O g u) with h0 | h0
  · exact h' g u (by omega)
  · exact h g u h0
/-- A debt to a channel lies above every lower level. -/
theorem above_ch {n : ℕ} (c : Dev nD) (k : Ch) (N : ℕ) (h : n < lvCh k) : Above n (tallyAt (cell c k) () N) := by
  intro g u hg
  rw [tallyAt_apply] at hg
  by_cases hh : g = cell c k ∧ u = ()
  · rw [hh.1, lv_ch]; exact ⟨rfl, h⟩
  · rw [if_neg hh] at hg; exact absurd hg (Nat.lt_irrefl 0)
/-- A debt to a barrier lies above level 0. -/
theorem above_bar (c : Dev nD) (N : ℕ) : Above 0 (tallyAt (bar c) () N) := by
  intro g u hg
  rw [tallyAt_apply] at hg
  by_cases hh : g = bar c ∧ u = ()
  · rw [hh.1, lv_bar]; exact ⟨rfl, Nat.one_pos⟩
  · rw [if_neg hh] at hg; exact absurd hg (Nat.lt_irrefl 0)

/-- A cell whose level lies below everything owed may be waited for. -/
theorem mayWait (c : Dev nD) (sm : SemLoc sig) {n : ℕ} {O : CellTallies nD τ sig Unit} (hO : Above n O)
    (hl : lv ((c : Thread nD τ), sm) () ≤ n) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by
      have := (hO g u hg).1
      show u ∈ L g
      unfold L; rw [if_pos this]; exact Finset.mem_singleton_self _)
    (fun p hp => by rw [Finset.mem_singleton.mp hp]; exact hl)
    (fun g u hg => (hO g u hg).2)

/-- What `c` owes its partner in round `r` of the exchange, and of the hand-round. -/
def rsO (r : Fin 3) (c : Dev nD) : CellTallies nD τ sig Unit := tallyAt (cell (pt r c) (.rsr r)) () (NR r)
def agO (r : Fin 3) (c : Dev nD) : CellTallies nD τ sig Unit := tallyAt (cell (pt r c) (.agr r)) () (NA r)
/-- Owed when hand-round rounds below `n` remain; when `k` exchange rounds remain. -/
def OA (c : Dev nD) : ℕ → CellTallies nD τ sig Unit
  | 0 => 0
  | n + 1 => OA c n + agO (Fin.ofNat 3 n) c
def OR (c : Dev nD) : ℕ → CellTallies nD τ sig Unit
  | 0 => OA c 3
  | k + 1 => OR c k + rsO (Fin.ofNat 3 (2 - k)) c
/-- Owed by device 0 when the devices of a list remain to be sent their keys and values. -/
def kO (m : Fin 8) : CellTallies nD τ sig Unit := tallyAt (cell m .kr) () NK
def vO (m : Fin 8) : CellTallies nD τ sig Unit := tallyAt (cell m .vr) () NK
def OS : List (Fin 8) → CellTallies nD τ sig Unit
  | [] => OR 0 3
  | m :: l => (OS l + vO m) + kO m
def order : List (Fin 8) := [6, 5, 2, 7, 3, 4, 1]
def O₀ (c : Dev nD) : CellTallies nD τ sig Unit := if c = 0 then OS order else OR c 3 + tallyAt (bar 0) () 1

/-- The hand-round's debts, one round more. -/
theorem OA_succ (c : Dev nD) (r : Fin 3) : OA c (r + 1) = OA c r + agO r c := by fin_cases r <;> rfl
/-- The exchange's debts, one round more. -/
theorem OR_succ (c : Dev nD) (r : Fin 3) : OR c (3 - r) = OR c (2 - r) + rsO r c := by fin_cases r <;> rfl

/-- The debts of hand-round rounds below `r` lie above the level of round `r`'s. -/
theorem above_OA (c : Dev nD) (r : Fin 3) : Above (8 - r) (OA c r) := by
  fin_cases r
  · exact above_zero _
  · exact above_add (above_zero _) (above_ch _ _ _ (by decide))
  · exact above_add (above_add (above_zero _) (above_ch _ _ _ (by decide))) (above_ch _ _ _ (by decide))
/-- All hand-round debts lie above level 5. -/
theorem above_OA3 (c : Dev nD) : Above 5 (OA c 3) :=
  above_add (above_add (above_add (above_zero _) (above_ch _ _ _ (by decide))) (above_ch _ _ _ (by decide))) (above_ch _ _ _ (by decide))
/-- What lies above a level lies above every lower one. -/
theorem Above.mono {n k : ℕ} {O : CellTallies nD τ sig Unit} (h : Above k O) (hn : n ≤ k) : Above n O :=
  fun g u hg => ⟨(h g u hg).1, lt_of_le_of_lt hn (h g u hg).2⟩
/-- The debts left after exchange round `r` lie above that round's level. -/
theorem above_OR (c : Dev nD) (r : Fin 3) : Above (3 + r) (OR c (2 - r)) := by
  fin_cases r
  · exact above_add (above_add ((above_OA3 c).mono (by decide)) (above_ch _ _ _ (by decide))) (above_ch _ _ _ (by decide))
  · exact above_add ((above_OA3 c).mono (by decide)) (above_ch _ _ _ (by decide))
  · exact above_OA3 c
/-- All debts of the rounds lie above level 2. -/
theorem above_OR3 (c : Dev nD) : Above 2 (OR c 3) :=
  above_add ((above_OR c 0).mono (by decide)) (above_ch _ _ _ (by decide))
/-- All debts of the scatter lie above level 1. -/
theorem above_OS (l : List (Fin 8)) : Above 1 (OS l) := by
  induction l with
  | nil => exact (above_OR3 0).mono (by decide)
  | cons m l ih => exact above_add (above_add ih (above_ch _ _ _ (by decide))) (above_ch _ _ _ (by decide))
/-- All a device owes at its start lies above level 0. -/
theorem above_O₀ (c : Dev nD) : Above 0 (O₀ c) := by
  unfold O₀; split
  · exact (above_OS _).mono (by decide)
  · exact above_add ((above_OR3 c).mono (by decide)) (above_bar _ _)

end Cert.KernelIdeal.Attn
-- ==== Proof.PIdeal.Progs.lean ====
/-
The kernel's body as a sequence of phases: the scatter of the keys and values by device 0, the queries, the heads'
attention, the projection, three rounds of exchange, three of hand-round, the result.
-/
module

public import proofs.«01_k».proof.Proof.PIdeal.Sched

@[expose] public section

noncomputable section

namespace Cert.KernelIdeal.Attn

open Cert.KernelIdeal Cert.KernelIdeal.Gen

open Idealize.ShloMosaic
open Idealize.ShloMosaic.TcCoe
open Idealize.SL Idealize.SL.Sem

variable {F : FTy → Type} [FloatOps F] [Named F]

/-- A core's program. -/
abbrev PP (F : FTy → Type) (α : Type) : Type 1 := Prog (TpuEff nD τ sig (Elt F) Λ₀ .tc) α

/-- A slot of the staging buffer lies on packed rows. -/
theorem slotPacked (σ : Fin 2) :
    (Rect.unit (s := S2x2x512x512) ![(σ : ℕ), 0, 0, 0] S1x2x512x512.size (slot_inb σ)).PackedRows (EltTy.packing .bf16) := by
  match σ with
  | 0 => exact packedbf16_S2x2x512x512_S1x2x512x512_0_0_0_0
  | 1 => exact packedbf16_S2x2x512x512_S1x2x512x512_1_0_0_0
/-- A slot of the staging buffer covers whole words. -/
theorem slotWords (σ : Fin 2) :
    (Rect.unit (s := S2x2x512x512) ![(σ : ℕ), 0, 0, 0] S1x2x512x512.size (slot_inb σ)).WholeWords (EltTy.packing .bf16) := by
  match σ with
  | 0 => exact wordsbf16_S2x2x512x512_S1x2x512x512_0_0_0_0
  | 1 => exact wordsbf16_S2x2x512x512_S1x2x512x512_1_0_0_0

abbrev slotRect (σ : Fin 2) : Rect S2x2x512x512 := Rect.unit (s := S2x2x512x512) ![(σ : ℕ), 0, 0, 0] S1x2x512x512.size (slot_inb σ)

/-- The 512 columns of keys or values that start at `o`. -/
abbrev colSl (M : Memref sig .tc .hbm S2x512x4096 .f32) (o : ℕ) (h : ∀ a, (![0, 0, o] : Fin 3 → ℕ) a + S2x512x512.size a ≤ S2x512x4096.size a) :
    Memref sig .tc .hbm S2x512x512 .f32 :=
  M.slice (Rect.unit (s := S2x512x4096) ![0, 0, o] S2x512x512.size h) (fun _ => rfl)

abbrev Inb (o : ℕ) : Prop := ∀ a, (![0, 0, o] : Fin 3 → ℕ) a + S2x512x512.size a ≤ S2x512x4096.size a

/-- Fetch a block of keys and a block of values into the two staging slots. -/
def copyIn (o : ℕ) (h : Inb o) : PP F PUnit := do
  Prog.lift (.enqueueDma (colSl kM o h) (.here (slotOf stM 0)) (.dma (locS 0)) (View.wordExact_bits rfl) ((View.wordExact_bits rfl).reshape _ _) ⟨Or.inl rfl, trivial⟩)
  Prog.lift (.enqueueDma (colSl vM o h) (.here (slotOf stM 1)) (.dma (locS 1)) (View.wordExact_bits rfl) ((View.wordExact_bits rfl).reshape _ _) ⟨Or.inl rfl, trivial⟩)

/-- Wait until the block sent to `m` through slot `σ` of the key (value) buffer has left. -/
def flushK (m : Fin 8) (σ : Fin 2) : PP F PUnit :=
  Prog.lift (.waitDma2 (Ch.sem (.ks m)) kbM (slotOf ksM σ) (Memref.isWhole_whole _).wordExact
    (((Memref.isWhole_whole cc0_scratch0).wordExact_slice rfl _ (slotWords σ)).reshape _ _))
def flushV (m : Fin 8) (σ : Fin 2) : PP F PUnit :=
  Prog.lift (.waitDma2 (Ch.sem (.vs m)) vbM (slotOf vsM σ) (Memref.isWhole_whole _).wordExact
    (((Memref.isWhole_whole cc0_scratch1).wordExact_slice rfl _ (slotWords σ)).reshape _ _))

/-- Round the staged keys into slot `σ` and send them to device `n`. -/
def shipK (o : ℕ) (h : Inb o) (m : Fin 8) (σ : Fin 2) (n : Dev nD) : PP F PUnit := do
  Prog.lift (.waitDma2 (locS 0) (colSl kM o h) (slotOf stM 0) (View.wordExact_bits rfl) ((View.wordExact_bits rfl).reshape _ _))
  let v : Vec F S1x2x512x512 .f32 ← Prog.lift (.load stM (slotRect 0).toLoadRect (View.loadsAt_vmem h_S1x2x512x512))
  let _w : Vec F S1x2x512x512 .bf16 ← Prog.lift (.load ksM (slotRect σ).toLoadRect (View.loadsAt_vmem h_S1x2x512x512))
  Prog.lift (.store ksM (slotRect σ) (k0_pay3 v) Finset.univ
    (View.stores_vmem h_S1x2x512x512 ((Memref.isWhole_whole cc0_scratch0).storeExact_slice rfl _ (slotPacked σ)) (fun _ => rfl)) (.inl rfl))
  Prog.lift (.enqueueDma (slotOf ksM σ) (.remote (Dev.tc n) kbM (.dma (Ch.sem (.ks m)))) (.dma (Ch.sem .kr))
    (((Memref.isWhole_whole cc0_scratch0).wordExact_slice rfl _ (slotWords σ)).reshape _ _) (Memref.isWhole_whole _).wordExact ⟨⟨rfl, Or.inl rfl⟩, trivial⟩)
/-- The same of the staged values. -/
def shipV (o : ℕ) (h : Inb o) (m : Fin 8) (σ : Fin 2) (n : Dev nD) : PP F PUnit := do
  Prog.lift (.waitDma2 (locS 1) (colSl vM o h) (slotOf stM 1) (View.wordExact_bits rfl) ((View.wordExact_bits rfl).reshape _ _))
  let v : Vec F S1x2x512x512 .f32 ← Prog.lift (.load stM (slotRect 1).toLoadRect (View.loadsAt_vmem h_S1x2x512x512))
  let _w : Vec F S1x2x512x512 .bf16 ← Prog.lift (.load vsM (slotRect σ).toLoadRect (View.loadsAt_vmem h_S1x2x512x512))
  Prog.lift (.store vsM (slotRect σ) (k0_pay3 v) Finset.univ
    (View.stores_vmem h_S1x2x512x512 ((Memref.isWhole_whole cc0_scratch1).storeExact_slice rfl _ (slotPacked σ)) (fun _ => rfl)) (.inl rfl))
  Prog.lift (.enqueueDma (slotOf vsM σ) (.remote (Dev.tc n) vbM (.dma (Ch.sem (.vs m)))) (.dma (Ch.sem .vr))
    (((Memref.isWhole_whole cc0_scratch1).wordExact_slice rfl _ (slotWords σ)).reshape _ _) (Memref.isWhole_whole _).wordExact ⟨⟨rfl, Or.inl rfl⟩, trivial⟩)

/-- Device 0's own block, from the staging slots to its landing buffers. -/
def keepK : PP F PUnit := do
  Prog.lift (.waitDma2 (locS 0) (colSl kM 0 inb_S2x512x4096_S2x512x512_0_0_0) (slotOf stM 0) (View.wordExact_bits rfl) ((View.wordExact_bits rfl).reshape _ _))
  let v : Vec F S1x2x512x512 .f32 ← Prog.lift (.load stM (slotRect 0).toLoadRect (View.loadsAt_vmem h_S1x2x512x512))
  let _w : Vec F S2x512x512 .bf16 ← Prog.lift (.load kbM (Rect.unit (s := S2x512x512) ![0, 0, 0] S2x512x512.size inb_S2x512x512_S2x512x512_0_0_0).toLoadRect (View.loadsAt_vmem h_S2x512x512))
  Prog.lift (.store kbM (Rect.unit (s := S2x512x512) ![0, 0, 0] S2x512x512.size inb_S2x512x512_S2x512x512_0_0_0) (k0_pay17 v) Finset.univ
    (View.stores_vmem h_S2x512x512 ((Memref.isWhole_whole cc0_scratch3).storeExact_slice rfl _ packedbf16_S2x512x512_S2x512x512_0_0_0) (fun _ => rfl)) (.inl rfl))
def keepV : PP F PUnit := do
  Prog.lift (.waitDma2 (locS 1) (colSl vM 0 inb_S2x512x4096_S2x512x512_0_0_0) (slotOf stM 1) (View.wordExact_bits rfl) ((View.wordExact_bits rfl).reshape _ _))
  let v : Vec F S1x2x512x512 .f32 ← Prog.lift (.load stM (slotRect 1).toLoadRect (View.loadsAt_vmem h_S1x2x512x512))
  let _w : Vec F S2x512x512 .bf16 ← Prog.lift (.load vbM (Rect.unit (s := S2x512x512) ![0, 0, 0] S2x512x512.size inb_S2x512x512_S2x512x512_0_0_0).toLoadRect (View.loadsAt_vmem h_S2x512x512))
  Prog.lift (.store vbM (Rect.unit (s := S2x512x512) ![0, 0, 0] S2x512x512.size inb_S2x512x512_S2x512x512_0_0_0) (k0_pay17 v) Finset.univ
    (View.stores_vmem h_S2x512x512 ((Memref.isWhole_whole cc0_scratch4).storeExact_slice rfl _ packedbf16_S2x512x512_S2x512x512_0_0_0) (fun _ => rfl)) (.inl rfl))

/-- One device's turn of the scatter, its slot free or still to be awaited. -/
def turn (o : ℕ) (h : Inb o) (m : Fin 8) (σ : Fin 2) (n n' : Dev nD) : PP F PUnit := do
  copyIn o h; shipK o h m σ n; shipV o h m σ n'
def turnAfter (p : Fin 8) (o : ℕ) (h : Inb o) (m : Fin 8) (σ : Fin 2) (n n' : Dev nD) : PP F PUnit := do
  copyIn o h; flushK p σ; flushV p σ; shipK o h m σ n; shipV o h m σ n'

/-- Device 0's scatter, up to its own block of keys. -/
def scatter (d0 : Dev nD) (k0_h2 : k0_cond2 d0 = 1#1) : PP F PUnit := do
  semWaitWord (SemArray.scalar (sig.barrier 0 rfl) : Sems sig S_).sem 7#32
  turn 3072 inb_S2x512x4096_S2x512x512_0_0_3072 6 0 ⟨k0_dev2, k0_dev2_lt d0 k0_h2⟩ ⟨k0_dev3, k0_dev3_lt d0 k0_h2⟩
  turn 2560 inb_S2x512x4096_S2x512x512_0_0_2560 5 1 ⟨k0_dev4, k0_dev4_lt d0 k0_h2⟩ ⟨k0_dev5, k0_dev5_lt d0 k0_h2⟩
  turnAfter 6 1024 inb_S2x512x4096_S2x512x512_0_0_1024 2 0 ⟨k0_dev6, k0_dev6_lt d0 k0_h2⟩ ⟨k0_dev7, k0_dev7_lt d0 k0_h2⟩
  turnAfter 5 3584 inb_S2x512x4096_S2x512x512_0_0_3584 7 1 ⟨k0_dev8, k0_dev8_lt d0 k0_h2⟩ ⟨k0_dev9, k0_dev9_lt d0 k0_h2⟩
  turnAfter 2 1536 inb_S2x512x4096_S2x512x512_0_0_1536 3 0 ⟨k0_dev10, k0_dev10_lt d0 k0_h2⟩ ⟨k0_dev11, k0_dev11_lt d0 k0_h2⟩
  turnAfter 7 2048 inb_S2x512x4096_S2x512x512_0_0_2048 4 1 ⟨k0_dev12, k0_dev12_lt d0 k0_h2⟩ ⟨k0_dev13, k0_dev13_lt d0 k0_h2⟩
  turnAfter 3 512 inb_S2x512x4096_S2x512x512_0_0_512 1 0 ⟨k0_dev14, k0_dev14_lt d0 k0_h2⟩ ⟨k0_dev15, k0_dev15_lt d0 k0_h2⟩
  copyIn 0 inb_S2x512x4096_S2x512x512_0_0_0
  keepK

/-- A printed part at the kernel's own buffers. -/
abbrev onBufs {α : Type 1} (f : ∀ (arg0 : Memref sig .tc .vmem S1024x768 .bf16) (harg0 : arg0.IsWhole) (arg1 : Memref sig .tc .vmem S768x512 .bf16) (harg1 : arg1.IsWhole)
    (arg2 : Memref sig .tc .hbm S2x512x4096 .f32) (harg2 : arg2.IsWhole) (arg3 : Memref sig .tc .hbm S2x512x4096 .f32) (harg3 : arg3.IsWhole)
    (arg4 : Memref sig .tc .vmem S512x768 .bf16) (harg4 : arg4.IsWhole) (arg5 : Memref sig .tc .vmem S2x512x768 .f32) (harg5 : arg5.IsWhole)
    (arg6 : Memref sig .tc .vmem S2x2x512x512 .bf16) (harg6 : arg6.IsWhole) (arg7 : Memref sig .tc .vmem S2x2x512x512 .bf16) (harg7 : arg7.IsWhole)
    (arg8 : Memref sig .tc .vmem S2x2x512x512 .f32) (harg8 : arg8.IsWhole) (arg9 : Memref sig .tc .vmem S2x512x512 .bf16) (harg9 : arg9.IsWhole)
    (arg10 : Memref sig .tc .vmem S2x512x512 .bf16) (harg10 : arg10.IsWhole) (arg11 : Memref sig .tc .vmem S1024x512 .bf16) (harg11 : arg11.IsWhole)
    (arg12 : Memref sig .tc .vmem S1024x512 .bf16) (harg12 : arg12.IsWhole) (arg13 : Memref sig .tc .vmem S1024x768 .f32) (harg13 : arg13.IsWhole)
    (arg14 : Memref sig .tc .vmem S512x768 .bf16) (harg14 : arg14.IsWhole) (arg15 : Memref sig .tc .vmem S256x768 .bf16) (harg15 : arg15.IsWhole)
    (arg16 : Memref sig .tc .vmem S128x768 .bf16) (harg16 : arg16.IsWhole) (arg17 : Memref sig .tc .vmem S512x768 .bf16) (harg17 : arg17.IsWhole)
    (arg18 : Memref sig .tc .vmem S256x768 .bf16) (harg18 : arg18.IsWhole) (arg19 : Memref sig .tc .vmem S128x768 .bf16) (harg19 : arg19.IsWhole)
    (arg20 : DmaSems sig S8) (arg21 : DmaSems sig S8) (arg22 : DmaSems sig S_) (arg23 : DmaSems sig S_) (arg24 : DmaSems sig S2)
    (arg25 : DmaSems sig S3) (arg26 : DmaSems sig S3) (arg27 : DmaSems sig S3) (arg28 : DmaSems sig S3), α) : α :=
  f xM (Memref.isWhole_whole _) wqM (Memref.isWhole_whole _) kM (Memref.isWhole_whole _) vM (Memref.isWhole_whole _) woM (Memref.isWhole_whole _)
    oM (Memref.isWhole_whole _) ksM (Memref.isWhole_whole _) vsM (Memref.isWhole_whole _) stM (Memref.isWhole_whole _) kbM (Memref.isWhole_whole _)
    vbM (Memref.isWhole_whole _) qM (Memref.isWhole_whole _) cM (Memref.isWhole_whole _) aM (Memref.isWhole_whole _)
    (Memref.whole cc0_scratch8) (Memref.isWhole_whole _) (Memref.whole cc0_scratch9) (Memref.isWhole_whole _) (Memref.whole cc0_scratch10) (Memref.isWhole_whole _)
    (Memref.whole cc0_scratch11) (Memref.isWhole_whole _) (Memref.whole cc0_scratch12) (Memref.isWhole_whole _) (Memref.whole cc0_scratch13) (Memref.isWhole_whole _)
    cc0_scratch14 cc0_scratch15 cc0_scratch16 cc0_scratch17 cc0_scratch18 cc0_scratch19 cc0_scratch20 cc0_scratch21 cc0_scratch22

set_option maxRecDepth 65536 in
set_option maxHeartbeats 2000000 in
/-- The printed scatter is the seven turns in their order. -/
theorem scatter_eq (d0 : Dev nD) (h : k0_cond2 d0 = 1#1) :
    onBufs (k0_part17 (F := F)) d0 (SemArray.scalar (sig.barrier 0 rfl)) h = scatter d0 h := by
  simp only [onBufs, k0_part17_eq_skeleton]
  unfold k0_part17_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton,
    k0_part16_eq_skeleton]
  unfold k0_part1_skel k0_part2_skel k0_part3_skel k0_part4_skel k0_part5_skel k0_part6_skel k0_part7_skel k0_part8_skel
    k0_part9_skel k0_part10_skel k0_part11_skel k0_part12_skel k0_part13_skel k0_part14_skel k0_part15_skel k0_part16_skel
  simp only [scatter, turn, turnAfter, copyIn, flushK, flushV, shipK, shipV, keepK, keepV, semWaitWord, Prog.lift, Prog.bind_op,
    Prog.bind_ret, Prog.pure_eq_ret]
  rfl

/-! ## After the scatter -/

/-- The queries: the token rows times this device's columns of the query weights. -/
def queries : PP F PUnit := do
  let a : Vec F S1024x768 .bf16 ← Prog.lift (.load xM (Rect.unit (s := S1024x768) ![0, 0] S1024x768.size inb_S1024x768_S1024x768_0_0).toLoadRect (View.loadsAt_vmem h_S1024x768))
  let b : Vec F S768x512 .bf16 ← Prog.lift (.load wqM (Rect.unit (s := S768x512) ![0, 0] S768x512.size inb_S768x512_S768x512_0_0).toLoadRect (View.loadsAt_vmem h_S768x512))
  let _q : Vec F S1024x512 .bf16 ← Prog.lift (.load qM (Rect.unit (s := S1024x512) ![0, 0] S1024x512.size inb_S1024x512_S1024x512_0_0).toLoadRect (View.loadsAt_vmem h_S1024x512))
  Prog.lift (.store qM (Rect.unit (s := S1024x512) ![0, 0] S1024x512.size inb_S1024x512_S1024x512_0_0) (k0_pay19 a b) Finset.univ
    (View.stores_vmem h_S1024x512 ((Memref.isWhole_whole cc0_scratch5).storeExact_slice rfl _ packedbf16_S1024x512_S1024x512_0_0) (fun _ => rfl)) (.inl rfl))

/-- A device other than the first waits for the block of keys and the block of values it is sent. -/
def awaitK : PP F PUnit :=
  Prog.lift (.waitDma2 (Ch.sem .kr) (slotOf ksM 0) kbM (((Memref.isWhole_whole cc0_scratch0).wordExact_slice rfl _ (slotWords 0)).reshape _ _) (Memref.isWhole_whole _).wordExact)
def awaitV : PP F PUnit :=
  Prog.lift (.waitDma2 (Ch.sem .vr) (slotOf vsM 0) vbM (((Memref.isWhole_whole cc0_scratch1).wordExact_slice rfl _ (slotWords 0)).reshape _ _) (Memref.isWhole_whole _).wordExact)

abbrev isOther (d0 : Dev nD) : BitVec 1 :=
  Scalar.cmpi .ne (Scalar.extui (Scalar.cmpi .ne (Scalar.remsi (Scalar.divsi (Dev.word d0) 1#32) 8#32) 0#32) : BitVec 32) 0#32
abbrev isFirst (d0 : Dev nD) : BitVec 1 :=
  Scalar.cmpi .ne (Scalar.extui (Scalar.cmpi .eq (Scalar.remsi (Scalar.divsi (Dev.word d0) 1#32) 8#32) 0#32) : BitVec 32) 0#32

/-- The block-causal mask. -/
def maskV : IVec S512x512 1 :=
  k0_pay22 (iota .tc S512x512 32 [0] iota_S512x512_d0_w32) 64#32 k0_pay20 k0_pay21
    (Scalar.extui (Scalar.cmpi .sgt 64#32 0#32)) (Scalar.cmpi .slt 64#32 0#32)

/-- One head's block lies inside the context buffer. -/
theorem head_inb (b : Fin 2) (h : Fin 8) : ∀ a, (![512 * b.val, 64 * h.val] : Fin 2 → ℕ) a + S512x64.size a ≤ S1024x512.size a := by
  revert b h; decide
/-- One head's keys lie inside their buffer. -/
theorem kv_inb (b : Fin 2) (h : Fin 8) : ∀ a, (![b.val, 0, 64 * h.val] : Fin 3 → ℕ) a + S1x512x64.size a ≤ S2x512x512.size a := by
  revert b h; decide
abbrev headRect (b : Fin 2) (h : Fin 8) : Rect S1024x512 := Rect.unit (s := S1024x512) ![512 * b.val, 64 * h.val] S512x64.size (head_inb b h)
abbrev kvRect (b : Fin 2) (h : Fin 8) : Rect S2x512x512 := Rect.unit (s := S2x512x512) ![b.val, 0, 64 * h.val] S1x512x64.size (kv_inb b h)
/-- One head's block lies on packed rows. -/
theorem headPacked (b : Fin 2) (h : Fin 8) : (headRect b h).PackedRows (EltTy.packing .bf16) := by
  revert b h; decide

/-- One head's attention: its queries, keys and values read, its 512 × 64 context written. -/
def headP (b : Fin 2) (h : Fin 8) : PP F PUnit := do
  let q : Vec F S512x64 .bf16 ← Prog.lift (.load qM (headRect b h).toLoadRect (View.loadsAt_vmem h_S512x64))
  let k : Vec F S1x512x64 .bf16 ← Prog.lift (.load kbM (kvRect b h).toLoadRect (View.loadsAt_vmem h_S1x512x64))
  let v : Vec F S1x512x64 .bf16 ← Prog.lift (.load vbM (kvRect b h).toLoadRect (View.loadsAt_vmem h_S1x512x64))
  let _w : Vec F S512x64 .bf16 ← Prog.lift (.load cM (headRect b h).toLoadRect (View.loadsAt_vmem h_S512x64))
  Prog.lift (.store cM (headRect b h) (k0_pay30 maskV q k v) Finset.univ
    (View.stores_vmem h_S512x64 ((Memref.isWhole_whole cc0_scratch6).storeExact_slice rfl _ (headPacked b h)) (fun _ => rfl)) (.inl rfl))

/-- The heads in their order. -/
def headsP : List (Fin 2 × Fin 8) → PP F PUnit
  | [] => pure ⟨⟩
  | p :: l => do headP p.1 p.2; headsP l
def heads : List (Fin 2 × Fin 8) :=
  [(0, 0), (0, 1), (0, 2), (0, 3), (0, 4), (0, 5), (0, 6), (0, 7), (1, 0), (1, 1), (1, 2), (1, 3), (1, 4), (1, 5), (1, 6), (1, 7)]

/-- Half of the context's rows lie inside its buffer. -/
theorem half_inb (b : Fin 2) : ∀ a, (![512 * b.val, 0] : Fin 2 → ℕ) a + S512x512.size a ≤ S1024x512.size a := by
  revert b; decide
/-- Half of the accumulator's rows lie inside it. -/
theorem halfA_inb (b : Fin 2) : ∀ a, (![512 * b.val, 0] : Fin 2 → ℕ) a + S512x768.size a ≤ S1024x768.size a := by
  revert b; decide
/-- One half of the projection. -/
def projHalf (w : Vec F S512x768 .bf16) (b : Fin 2) : PP F PUnit := do
  let x : Vec F S512x512 .bf16 ← Prog.lift (.load cM (Rect.unit (s := S1024x512) ![512 * b.val, 0] S512x512.size (half_inb b)).toLoadRect (View.loadsAt_vmem h_S512x512))
  let _a : Vec F S512x768 .f32 ← Prog.lift (.load aM (Rect.unit (s := S1024x768) ![512 * b.val, 0] S512x768.size (halfA_inb b)).toLoadRect (View.loadsAt_vmem h_S512x768))
  Prog.lift (.store aM (Rect.unit (s := S1024x768) ![512 * b.val, 0] S512x768.size (halfA_inb b)) (k0_pay57 w x) Finset.univ (View.stores_vmem_bits_univ h_S512x768 rfl) (.inl rfl))
/-- The context times this device's rows of the output weights, a half of the rows at a time. -/
def project : PP F PUnit := do
  let w : Vec F S512x768 .bf16 ← Prog.lift (.load woM (Rect.unit (s := S512x768) ![0, 0] S512x768.size inb_S512x768_S512x768_0_0).toLoadRect (View.loadsAt_vmem h_S512x768))
  projHalf w 0; projHalf w 1

/-- An exchanged block is not empty. -/
theorem shPos (r : Fin 3) : 0 < (sh r).numel := by
  match r with | 0 => exact h_S512x768 | 1 => exact h_S256x768 | 2 => exact h_S128x768
/-- An exchanged block lies inside itself. -/
theorem shInb (r : Fin 3) : ∀ a, (![0, 0] : Fin 2 → ℕ) a + (sh r).size a ≤ (sh r).size a := by
  match r with | 0 => exact inb_S512x768_S512x768_0_0 | 1 => exact inb_S256x768_S256x768_0_0 | 2 => exact inb_S128x768_S128x768_0_0
/-- An exchanged block lies on packed rows. -/
theorem shPacked (r : Fin 3) : (Rect.unit (s := sh r) ![0, 0] (sh r).size (shInb r)).PackedRows (EltTy.packing .bf16) := by
  match r with | 0 => exact packedbf16_S512x768_S512x768_0_0 | 1 => exact packedbf16_S256x768_S256x768_0_0 | 2 => exact packedbf16_S128x768_S128x768_0_0
/-- An exchanged block has its own shape. -/
theorem shCasts (r : Fin 3) : (sh r).ShapeCasts (sh r) := by
  match r with | 0 => exact shapeCasts_S512x768_S512x768 | 1 => exact shapeCasts_S256x768_S256x768 | 2 => exact shapeCasts_S128x768_S128x768
/-- A send buffer's memref is the whole buffer. -/
theorem sndWhole (r : Fin 3) : (sndM r).IsWhole := by
  match r with | 0 => exact Memref.isWhole_whole _ | 1 => exact Memref.isWhole_whole _ | 2 => exact Memref.isWhole_whole _
/-- A receive buffer's memref is the whole buffer. -/
theorem rcvWhole (r : Fin 3) : (rcvM r).IsWhole := by
  match r with | 0 => exact Memref.isWhole_whole _ | 1 => exact Memref.isWhole_whole _ | 2 => exact Memref.isWhole_whole _

/-- The rows sent, rounded; the rows kept, with the received ones added. -/
def packP (r : Fin 3) (v : Vec F (sh r) .f32) : Vec F (sh r) .bf16 :=
  shapeCast (sh r) (truncf .bf16 v bitsLt_bf16_f32 : FVec F (sh r) .bf16) (shCasts r)
def sumP (r : Fin 3) (v : Vec F (sh r) .f32) (w : Vec F (sh r) .bf16) : Vec F (sh r) .f32 :=
  shapeCast (sh r) (addf v (extf .f32 w bitsLt_bf16_f32) : FVec F (sh r) .f32) (shCasts r)

abbrev aRect (r : Fin 3) (off : Fin 2 → ℕ) (h : ∀ a, off a + (sh r).size a ≤ S1024x768.size a) : Rect S1024x768 :=
  Rect.unit (s := S1024x768) off (sh r).size h
abbrev shRect (r : Fin 3) : Rect (sh r) := Rect.unit (s := sh r) ![0, 0] (sh r).size (shInb r)

/-- One exchange round: the rows given away rounded, sent, and the partner's added to the rows kept. -/
def exchange (r : Fin 3) (oS oK : Fin 2 → ℕ) (hS : ∀ a, oS a + (sh r).size a ≤ S1024x768.size a)
    (hK : ∀ a, oK a + (sh r).size a ≤ S1024x768.size a) (n : Dev nD) : PP F PUnit := do
  let v : Vec F (sh r) .f32 ← Prog.lift (.load aM (aRect r oS hS).toLoadRect (View.loadsAt_vmem (shPos r)))
  let _w : Vec F (sh r) .bf16 ← Prog.lift (.load (sndM r) (shRect r).toLoadRect (View.loadsAt_vmem (shPos r)))
  Prog.lift (.store (sndM r) (shRect r) (packP r v) Finset.univ
    (View.stores_vmem (shPos r) ((sndWhole r).storeExact_slice rfl _ (shPacked r)) (fun _ => rfl)) (.inl rfl))
  Prog.lift (.enqueueDma (sndM r) (.remote (Dev.tc n) (rcvM r) (.dma (Ch.sem (.rss r)))) (.dma (Ch.sem (.rsr r))) (sndWhole r).wordExact (rcvWhole r).wordExact ⟨⟨rfl, Or.inl rfl⟩, trivial⟩)
  Prog.lift (.waitDma2 (Ch.sem (.rss r)) (rcvM r) (sndM r) (rcvWhole r).wordExact (sndWhole r).wordExact)
  Prog.lift (.waitDma2 (Ch.sem (.rsr r)) (sndM r) (rcvM r) (sndWhole r).wordExact (rcvWhole r).wordExact)
  let a : Vec F (sh r) .f32 ← Prog.lift (.load aM (aRect r oK hK).toLoadRect (View.loadsAt_vmem (shPos r)))
  let b : Vec F (sh r) .bf16 ← Prog.lift (.load (rcvM r) (shRect r).toLoadRect (View.loadsAt_vmem (shPos r)))
  let _a : Vec F (sh r) .f32 ← Prog.lift (.load aM (aRect r oK hK).toLoadRect (View.loadsAt_vmem (shPos r)))
  Prog.lift (.store aM (aRect r oK hK) (sumP r a b) Finset.univ (View.stores_vmem_bits_univ (shPos r) rfl) (.inl rfl))

/-- One round of the hand-round: the finished rows sent to the partner, the partner's received. -/
def handRound (r : Fin 3) (o : Fin 2 → ℕ) (h : ∀ a, o a + (sh r).size a ≤ S1024x768.size a) (n : Dev nD) : PP F PUnit := do
  Prog.lift (.enqueueDma (aSl r o h) (.remote (Dev.tc n) (aSl r o h) (.dma (Ch.sem (.ags r)))) (.dma (Ch.sem (.agr r))) (View.wordExact_bits rfl) (View.wordExact_bits rfl) ⟨⟨rfl, Or.inl rfl⟩, trivial⟩)
  Prog.lift (.waitDma2 (Ch.sem (.ags r)) (aSl r o h) (aSl r o h) (View.wordExact_bits rfl) (View.wordExact_bits rfl))
  Prog.lift (.waitDma2 (Ch.sem (.agr r)) (aSl r o h) (aSl r o h) (View.wordExact_bits rfl) (View.wordExact_bits rfl))

/-- One sequence of the result lies inside it. -/
theorem out_inb (b : Fin 2) : ∀ a, (![b.val, 0, 0] : Fin 3 → ℕ) a + S1x512x768.size a ≤ S2x512x768.size a := by
  revert b; decide
/-- One half of the result. -/
def outHalf (b : Fin 2) : PP F PUnit := do
  let v : Vec F S512x768 .f32 ← Prog.lift (.load aM (Rect.unit (s := S1024x768) ![512 * b.val, 0] S512x768.size (halfA_inb b)).toLoadRect (View.loadsAt_vmem h_S512x768))
  let _o : Vec F S1x512x768 .f32 ← Prog.lift (.load oM (Rect.unit (s := S2x512x768) ![b.val, 0, 0] S1x512x768.size (out_inb b)).toLoadRect (View.loadsAt_vmem h_S1x512x768))
  Prog.lift (.store oM (Rect.unit (s := S2x512x768) ![b.val, 0, 0] S1x512x768.size (out_inb b)) (k0_pay1 v) Finset.univ (View.stores_vmem_bits_univ h_S1x512x768 rfl) (.inl rfl))

/-- The devices other than the first tell it that they are ready. -/
def barrierP (d0 : Dev nD) : PP F PUnit :=
  if h : k0_cond1 d0 = 1#1 then semSignalWord (⟨k0_dev1, k0_dev1_lt d0 h⟩ : Dev nD) (SemArray.scalar (sig.barrier 0 rfl) : Sems sig S_).sem 1#32 else pure ⟨⟩
/-- The first device hands out the keys and the values. -/
def scatterP (d0 : Dev nD) : PP F PUnit :=
  if h : k0_cond2 d0 = 1#1 then (do scatter d0 h; keepV) else pure ⟨⟩
/-- The others wait for theirs. -/
def awaitP (d0 : Dev nD) : PP F PUnit :=
  if _h : isOther d0 = 1#1 then (do awaitK; awaitV) else pure ⟨⟩
/-- The first device waits until the last two blocks have left. -/
def flushLast (d0 : Dev nD) : PP F PUnit :=
  if _h : isFirst d0 = 1#1 then (do flushK 4 1; flushV 4 1; flushK 1 0; flushV 1 0) else pure ⟨⟩

/-- The body on device `d0` once its number is read. -/
def phases (d0 : Dev nD) : PP F PUnit := do
  barrierP d0
  scatterP d0
  queries
  awaitP d0
  headsP heads
  project
  flushLast d0
  exchange 0 (k0_off1 d0) (k0_off2 d0) (k0_off1_inb d0) (k0_off2_inb d0) ⟨k0_dev16 d0, k0_dev16_lt d0⟩
  exchange 1 (k0_off3 d0) (k0_off4 d0) (k0_off3_inb d0) (k0_off4_inb d0) ⟨k0_dev17 d0, k0_dev17_lt d0⟩
  exchange 2 (k0_off5 d0) (k0_off6 d0) (k0_off5_inb d0) (k0_off6_inb d0) ⟨k0_dev18 d0, k0_dev18_lt d0⟩
  handRound 2 (k0_off7 d0) (k0_off7_inb d0) ⟨k0_dev19 d0, k0_dev19_lt d0⟩
  handRound 1 (k0_off8 d0) (k0_off8_inb d0) ⟨k0_dev20 d0, k0_dev20_lt d0⟩
  handRound 0 (k0_off9 d0) (k0_off9_inb d0) ⟨k0_dev21 d0, k0_dev21_lt d0⟩
  outHalf 0
  outHalf 1

/-- Continuing after a choice is choosing between the continuations. -/
theorem dite_bind_prog {α β : Type} (p : Prop) [Decidable p] (a : p → PP F α) (b : ¬ p → PP F α) (k : α → PP F β) :
    ((if h : p then a h else b h) >>= k) = if h : p then a h >>= k else b h >>= k := by
  split <;> rfl

set_option maxRecDepth 65536 in
set_option maxHeartbeats 4000000 in
/-- The printed part up to the queries: barrier, scatter, queries, wait. -/
theorem part18_eq : onBufs (k0_part18 (F := F)) = Prog.op .deviceId fun d0 => (do
    barrierP d0; scatterP d0; queries; awaitP d0
    pure ⟨d0, Scalar.remsi (Scalar.divsi (Dev.word d0) 1#32) 8#32, iota .tc S512x512 32 [0] iota_S512x512_d0_w32, 64#32, k0_pay20, k0_pay21,
      Scalar.extui (Scalar.cmpi .sgt 64#32 0#32), Scalar.cmpi .slt 64#32 0#32⟩) := by
  have hsc := fun d0 h => scatter_eq (F := F) d0 h
  simp only [onBufs] at hsc
  simp only [onBufs, k0_part18_eq_skeleton]
  unfold k0_part18_skel
  simp only [hsc, barrierP, scatterP, awaitP, dite_bind_prog, queries, awaitK, awaitV, keepV, semSignalWord, Prog.lift, Prog.bind_op, Prog.bind_ret,
    Prog.pure_eq_ret, Prog.bind_assoc]
  rfl

set_option maxRecDepth 65536 in
set_option maxHeartbeats 4000000 in
/-- The printed part with the projection, the last flush and the first load of the exchange. -/
theorem part31_eq (d0 : Dev nD) (v2 : BitVec 32) (hv : v2 = Scalar.remsi (Scalar.divsi (Dev.word d0) 1#32) 8#32) :
    onBufs (k0_part31 (F := F)) d0 v2 = (do
    project; flushLast d0
    let v : Vec F S512x768 .f32 ← Prog.lift (.load aM (aRect 0 (k0_off1 d0) (k0_off1_inb d0)).toLoadRect (View.loadsAt_vmem (shPos 0)))
    pure ⟨Scalar.andi (Scalar.shrsi v2 0#32) 1#32, Scalar.andi (Scalar.shrsi v2 1#32) 1#32, Scalar.andi (Scalar.shrsi v2 2#32) 1#32,
      Scalar.xori v2 1#32, Scalar.addi 0#32 (Scalar.muli (Scalar.andi (Scalar.shrsi v2 0#32) 1#32) 512#32), k0_pay59 v⟩) := by
  subst hv
  simp only [onBufs, k0_part31_eq_skeleton]
  unfold k0_part31_skel
  simp only [project, projHalf, flushLast, flushK, flushV, dite_bind_prog, Prog.lift, Prog.bind_op, Prog.bind_ret,
    Prog.pure_eq_ret, Prog.bind_assoc]
  rfl

set_option maxRecDepth 65536 in
set_option maxHeartbeats 4000000 in
/-- The printed body is the phases in their order. -/
theorem body_eq : onBufs (cc0_body (F := F)) = Prog.op .deviceId phases := by
  have h18 := part18_eq (F := F)
  have h31 := fun d0 => part31_eq (F := F) d0 _ rfl
  simp only [onBufs] at h18 h31
  simp only [onBufs, cc0_body_eq_skeleton]
  unfold cc0_body_skel
  simp only [h18, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part32_eq_skeleton, k0_part33_eq_skeleton, k0_part34_eq_skeleton, k0_part35_eq_skeleton, k0_part36_eq_skeleton]
  unfold k0_part19_skel k0_part20_skel k0_part21_skel k0_part22_skel k0_part23_skel k0_part24_skel k0_part25_skel k0_part26_skel k0_part27_skel k0_part28_skel k0_part29_skel k0_part30_skel k0_part32_skel k0_part33_skel k0_part34_skel k0_part35_skel k0_part36_skel
  unfold phases
  simp only [headsP, heads, headP, exchange, handRound, outHalf, queries,
    Prog.lift, Prog.bind_op, Prog.bind_ret, Prog.pure_eq_ret, Prog.bind_assoc]
  simp only [h31, Prog.lift, Prog.bind_op, Prog.bind_ret, Prog.pure_eq_ret, Prog.bind_assoc]
  rfl

end Cert.KernelIdeal.Attn
-- ==== Proof.PIdeal.Chan.lean ====
/-
The kernel's communication steps, once for every channel: a send, a wait on a channel with the closing of its cell, the
barrier's signal and wait.
-/
module

public import proofs.«01_k».proof.Proof.PIdeal.Progs

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

/-- A program on device `c`, ending in `Q`. -/
abbrev wpc {α : Type} (c : Dev nD) (p : PP F α) (Q : α → sProp 𝕄) : sProp 𝕄 :=
  wp frame (wpE (defs₀ (F := F)) 𝒱₀ (c : Thread nD τ) none) Set.univ p Q

/-- Device `c` owes `O`, whatever it has waited for. -/
def ow (c : Dev nD) (O : CellTallies nD τ sig Unit) : sProp 𝕄 := iprop(∃ W, owes (c : Thread nD τ) O W)

variable (V : Vals F) (κ : GSem nD τ sig → ℕ)

/-- Every channel's and every barrier cell's invariant, and the levels. -/
def known : sProp 𝕄 :=
  iprop((bigSep Finset.univ fun c : Dev nD => bigSep Finset.univ fun k : Ch => cellInv ER (Rd V) (κ (cell c k)) (cell c k))
    ∗ (bigSep Finset.univ fun c : Dev nD => cellInv ER (Rd V) (κ (bar c)) (bar c)) ∗ levAts L lv)
instance known_persistent : BI.Persistent (known V κ) := by unfold known; infer_instance

/-- The shared knowledge gives every channel's invariant. -/
theorem known_ch (c : Dev nD) (k : Ch) : known V κ ⊢ cellInv ER (Rd V) (κ (cell c k)) (cell c k) := by
  have h : known V κ ⊢ (bigSep Finset.univ fun c : Dev nD => bigSep Finset.univ fun k : Ch => cellInv ER (Rd V) (κ (cell c k)) (cell c k)) := by
    unfold known; iintro ⟨H, -⟩; iexact H
  exact h.trans ((bigSep_elim (Φ := fun c : Dev nD => bigSep Finset.univ fun k : Ch => cellInv ER (Rd V) (κ (cell c k)) (cell c k)) (Finset.mem_univ c)).trans
    (bigSep_elim (Φ := fun k : Ch => cellInv ER (Rd V) (κ (cell c k)) (cell c k)) (Finset.mem_univ k)))
/-- The shared knowledge gives every barrier cell's invariant. -/
theorem known_bar (c : Dev nD) : known V κ ⊢ cellInv ER (Rd V) (κ (bar c)) (bar c) := by
  have h : known V κ ⊢ (bigSep Finset.univ fun c : Dev nD => cellInv ER (Rd V) (κ (bar c)) (bar c)) := by
    unfold known; iintro ⟨-, H, -⟩; iexact H
  exact h.trans (bigSep_elim (Φ := fun c : Dev nD => cellInv ER (Rd V) (κ (bar c)) (bar c)) (Finset.mem_univ c))
/-- The shared knowledge gives the levels. -/
theorem known_lev : known V κ ⊢ levAts L lv := by
  unfold known; iintro ⟨-, -, H⟩; iexact H

/-- A channel of `c` at its beginning, to be waited for: where it stands, and what it will be credited. -/
def ready (c : Dev nD) (k : Ch) : sProp 𝕄 := iprop(atPos ER (cell c k) 0 ∅ 0 ∗ cred (tallyAt (cell c k) () (amt k)))
/-- The right to send on channel `k` of `c`. -/
def may (c : Dev nD) (k : Ch) : sProp 𝕄 := dutyTok ER (cell c k) 0 (0 : Fin 8)
def at0 (c : Dev nD) (k : Ch) : sProp 𝕄 := atPos ER (cell c k) 0 ∅ 0
/-- A channel of `c` done with. -/
def shut (c : Dev nD) (k : Ch) : sProp 𝕄 := semVal (cell c k) 0

/-- A channel that is not used is closed where it stands. -/
theorem shut_unused {α : Type} (c : Dev nD) (k : Ch) (h : ¬used c k) :
    iprop(known V κ ∗ at0 c k) ⊢ (iprop(|={Set.univ}=> shut c k) : sProp 𝕄) := by
  unfold at0 shut
  iintro ⟨#Hkn, Hat⟩
  iapply (Rounds.cell_close ER (Rd V) (Set.mem_univ (κ (cell c k))) id (R := 0) (fun r _ => by
    rcases Nat.eq_zero_or_pos r with rfl | hr
    · exact duties_unused V c h
    · exact duties_later V _ r hr))
  isplitr
  · iapply (known_ch V κ c k) $$ Hkn
  iexact Hat

/-- Wait on a channel: its payload comes, and its cell is closed. -/
theorem wp_chan_wait {sp sp' : Space} {s s' : Shape} {e e' : EltTy} (c : Dev nD) (k : Ch) (h : used c k)
    {src : Memref sig .tc sp' s' e'} {dst : Memref sig .tc sp s e} {hsrc : src.view.WordExact} {hdst : dst.view.WordExact}
    (hc : dst.view.dmaCredit = amt k) {O : CellTallies nD τ sig Unit} {n : ℕ} (hO : Above n O) (hl : lvCh k ≤ n)
    (Q : PUnit → sProp 𝕄) :
    iprop(known V κ ∗ at0 c k ∗ cred (tallyAt (cell c k) () (amt k)) ∗ ow c O
        ∗ ((pay V c k ∗ shut c k ∗ ow c O) -∗ Q ⟨⟩))
      ⊢ wpc c (Prog.lift (.waitDma2 k.sem src dst hsrc hdst)) Q := by
  unfold wpc Prog.lift at0 shut
  iintro ⟨#Hkn, Hat, Hcr, Ho, Hk⟩
  unfold ow
  icases Ho with ⟨%W, HO⟩
  rw [← hc]
  iapply (Rounds.wp_wait_rest_token 𝒱₀ ER (Rd V) (c : Thread nD τ) none (κ := κ (cell c k))
      (wpE_waitDma2_eq (src := src) (dst := dst) 𝒱₀ (c : Thread nD τ) none Set.univ) (Set.mem_univ _) () (O := O) (W := W) (R := 0) (m := 0) (T := ∅)
      (by rw [Nat.zero_add]; exact hc.trans (expect_ch V c h).symm)) $$ [Hcr HO Hat]
  · isplitr; · iapply (known_ch V κ c k) $$ Hkn
    isplitl [Hcr]; · iexact Hcr
    isplitl [HO]; · iexact HO
    isplitr
    · ihave Hl := (known_lev V κ) $$ Hkn
      iapply (mayWait c (.dma k.sem) hO (by rw [show lv ((c : Thread nD τ), SemLoc.dma k.sem) () = lvCh k from lv_ch c k ()]; exact hl)) $$ Hl
    iexact Hat
  iintro ⟨HO, Hat, -, Hpay⟩
  ihave Hp := (Entails.of_eq (rest_ch V c h)) $$ Hpay
  imod (Rounds.cell_close ER (Rd V) (Set.mem_univ (κ (cell c k))) id (R := 0 + 1) (duties_later V (cell c k))) $$ [Hat] with Hz
  · isplitr; · iapply (known_ch V κ c k) $$ Hkn
    iexact Hat
  rw [wp_ret]; imodintro
  iapply Hk
  isplitl [Hp]; · iexact Hp
  isplitl [Hz]; · iexact Hz
  iexists _; iexact HO

/-- Send on channel `k₁` of `c` to channel `k₂` of `n`. -/
theorem wp_chan_send {sp sp' : Space} {s : Shape} {e : EltTy} (c n : Dev nD) (k₁ k₂ : Ch) (h₁ : used c k₁) (h₂ : used n k₂)
    {src : Memref sig .tc sp s e} {dst : Memref sig .tc sp' s e} {hsc : dst.view.ref.isScScratch = false}
    {hsrc : src.view.WordExact} {hdst : dst.view.WordExact}
    {hsem : DmaTarget.Typed sp (.dma k₂.sem) (.remote (Dev.tc n : Thread nD τ) dst (.dma k₁.sem) hsc)}
    (hN : dst.view.dmaCredit = amt k₂) (ha : amt k₁ = amt k₂)
    {fs : Buf (Elt F) (src.view.loc (c : Thread nD τ))} {fd : Buf (Elt F) (dst.view.loc (n : Thread nD τ))} {X : sProp 𝕄}
    {O : CellTallies nD τ sig Unit}
    (hpay₁ : (src.view.loc (c : Thread nD τ) ↦[src.view.set]{fullShare} fs) ⊢ pay V c k₁)
    (hpay₂ : iprop((dst.view.loc (n : Thread nD τ) ↦[dst.view.set]{fullShare} (dst.view.write (Elt F) fd (src.view.read (Elt F) fs) Finset.univ)) ∗ X)
      ⊢ pay V n k₂) (Q : PUnit → sProp 𝕄) :
    iprop(known V κ ∗ (src.view.loc (c : Thread nD τ) ↦[src.view.set]{fullShare} fs) ∗ (dst.view.loc (n : Thread nD τ) ↦[dst.view.set]{fullShare} fd)
        ∗ X ∗ ow c (O + tallyAt (cell n k₂) () (amt k₂)) ∗ may c k₁ ∗ reached ER (cell c k₁) 0 ∗ may n k₂ ∗ reached ER (cell n k₂) 0
        ∗ ((cred (tallyAt (cell c k₁) () (amt k₁)) ∗ ow c O) -∗ Q ⟨⟩))
      ⊢ wpc c (Prog.lift (.enqueueDma src (.remote (Dev.tc n : Thread nD τ) dst (.dma k₁.sem) hsc) (.dma k₂.sem) hsrc hdst hsem)) Q := by
  unfold wpc Prog.lift may
  iintro ⟨#Hkn, Hs, Hd, HX, Ho, Ht1, #Hr1, Ht2, #Hr2, Hk⟩
  unfold ow
  icases Ho with ⟨%W, HO⟩
  rw [ha]
  iapply (Rounds.wp_send_pointsTo_with 𝒱₀ ER (Rd V) (c : Thread nD τ) none (c' := (n : Thread nD τ)) (κ₁ := κ (cell c k₁)) (κ₂ := κ (cell n k₂))
    (sS := .dma k₁.sem) (sem := .dma k₂.sem) (r₁ := 0) (r₂ := 0) (d₁ := (0 : Fin 8)) (d₂ := (0 : Fin 8)) (fd := fd) (F := X)
    (by rw [show (Rd V).duties ((c : Thread nD τ), SemLoc.dma k₁.sem) 0 = {0} from duties_ch V c h₁]; exact Finset.mem_singleton_self _)
    (by rw [show (Rd V).duties ((n : Thread nD τ), SemLoc.dma k₂.sem) 0 = {0} from duties_ch V n h₂]; exact Finset.mem_singleton_self _)
    () () (amt k₂) hN ((amount_ch V c k₁ 0 0).trans ha) (amount_ch V n k₂ 0 0) O rfl (W := W)
    (by rw [show (Rd V).payload ((c : Thread nD τ), SemLoc.dma k₁.sem) 0 0 = pay V c k₁ from payload_ch V c k₁ 0 0]; exact hpay₁)
    (by rw [show (Rd V).payload ((n : Thread nD τ), SemLoc.dma k₂.sem) 0 0 = pay V n k₂ from payload_ch V n k₂ 0 0]; exact hpay₂)) $$ [Hs Hd HX HO Ht1 Ht2]
  · isplitr; · iapply (known_ch V κ c k₁) $$ Hkn
    isplitr; · iapply (known_ch V κ n k₂) $$ Hkn
    isplitl [Hs]; · iexact Hs
    isplitl [Hd HX]
    · isplitl [Hd]; · iexact Hd
      iexact HX
    isplitl [HO]; · iexact HO
    isplitl [Ht1]; · iexact Ht1
    isplitr; · iexact Hr1
    isplitl [Ht2]; · iexact Ht2
    iexact Hr2
  iintro ⟨Hc, HO⟩
  rw [wp_ret]; imodintro
  iapply Hk
  isplitl [Hc]; · iexact Hc
  iexists W; iexact HO

end Cert.KernelIdeal.Attn
-- ==== Proof.PIdeal.Rules.lean ====
/-
The kernel's memory steps at a device, and the rows of the accumulator as the views see them.
-/
module

public import proofs.«01_k».proof.Proof.PIdeal.Chan

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F] [Named F]

local notation "𝕄" => MT nD τ sig Unit (Elt F) ℕ UU ℕ

/-- A step, then the rest. -/
theorem wpc_bind {α β : Type} (c : Dev nD) (p : PP F α) (k : α → PP F β) (Q : β → sProp 𝕄) :
    wpc c p (fun a => wpc c (k a) Q) ⊢ wpc c (p >>= k) Q := by
  unfold wpc; rw [wp_bind]
/-- A finished program ends in what holds of its value. -/
theorem wpc_pure {α : Type} (c : Dev nD) (a : α) (Q : α → sProp 𝕄) : Q a ⊢ wpc (F := F) c (pure a) Q := by
  unfold wpc
  rw [Prog.pure_eq_ret, wp_ret]; exact fupd_intro

/-- A load through a rectangle. -/
theorem wpc_load {cs : CoreSpace} {s : Shape} {e : EltTy} (c : Dev nD) {M : Memref sig .tc cs s e} {r : Rect s}
    {hl : M.view.LoadsAt r.toLoadRect} {S : Finset (Idx (M.view.loc (c : Thread nD τ)))} {f : Buf (Elt F) (M.view.loc (c : Thread nD τ))}
    (hS : (M.access r).set ⊆ S) (Q : (r.shape.Idx → Elt F e) → sProp 𝕄) :
    iprop((M.view.loc (c : Thread nD τ) ↦[S]{fullShare} f)
        ∗ ((M.view.loc (c : Thread nD τ) ↦[S]{fullShare} f) -∗ Q ((M.access r).read (Elt F) f)))
      ⊢ wpc c (Prog.lift (.load M r.toLoadRect hl)) Q := by
  unfold wpc Prog.lift
  iintro ⟨H, Hk⟩
  iapply (wp_load_rect 𝒱₀ (c : Thread nD τ) none Set.univ (m := M) (r := r) hS) $$ [H]
  · iexact H
  iintro H
  rw [wp_ret]; imodintro
  iapply Hk; iexact H

/-- A store through a rectangle. -/
theorem wpc_store {cs : CoreSpace} {s : Shape} {e : EltTy} (c : Dev nD) {M : Memref sig .tc cs s e} {r : Rect s} {w : r.shape.Idx → Elt F e}
    {hx : (M.access r).Stores Finset.univ} {hm : Finset.univ = Finset.univ ∨ ∀ a, r.stride a = 1}
    {S : Finset (Idx (M.view.loc (c : Thread nD τ)))} {f : Buf (Elt F) (M.view.loc (c : Thread nD τ))}
    (hS : (M.access r).set ⊆ S) (Q : PUnit → sProp 𝕄) :
    iprop((M.view.loc (c : Thread nD τ) ↦[S]{fullShare} f)
        ∗ ((M.view.loc (c : Thread nD τ) ↦[S]{fullShare} ((M.access r).write (Elt F) f w Finset.univ)) -∗ Q ⟨⟩))
      ⊢ wpc c (Prog.lift (.store M r w Finset.univ hx hm)) Q := by
  unfold wpc Prog.lift
  iintro ⟨H, Hk⟩
  iapply (wp_store 𝒱₀ (c : Thread nD τ) none Set.univ (m := M) (r := r) (Mk := Finset.univ) hS) $$ [H]
  · iexact H
  iintro H
  rw [wp_ret]; imodintro
  iapply Hk; iexact H

/-- The counters by which a copy in flight is followed. -/
abbrev EC : UEmb Counters (MT nD τ sig Unit (Elt F) ℕ UU ℕ) := countersEmb (U := UU)

/-- A copy within the device begins. -/
theorem wpc_copy {sp sp' : Space} {s : Shape} {e : EltTy} (c : Dev nD) {src : Memref sig .tc sp s e} {dst : Memref sig .tc sp' s e}
    {q : DmaSem sig} {hsrc : src.view.WordExact} {hdst : dst.view.WordExact}
    {hsem : DmaTarget.Typed (nD := nD) (τ := τ) (p := .tc) sp (.dma q) (.here dst)} {sh' : PosShare TreeShare}
    {fs : Buf (Elt F) (src.view.loc (c : Thread nD τ))} {fd : Buf (Elt F) (dst.view.loc (c : Thread nD τ))}
    {N : ℕ} (hN : dst.view.dmaCredit = N) (hN0 : 0 < N) (Q : PUnit → sProp 𝕄) :
    iprop((src.view.loc (c : Thread nD τ) ↦[src.view.set]{sh'} fs) ∗ (dst.view.loc (c : Thread nD τ) ↦[dst.view.set]{fullShare} fd)
        ∗ semVal ((c : Thread nD τ), .dma q) 0
        ∗ (Flight EC (c : Thread nD τ) (.dma q) () N
            iprop((dst.view.loc (c : Thread nD τ) ↦[dst.view.set]{fullShare} (dst.view.write (Elt F) fd (src.view.read (Elt F) fs) Finset.univ))
              ∗ (src.view.loc (c : Thread nD τ) ↦[src.view.set]{sh'} fs)) -∗ Q ⟨⟩))
      ⊢ wpc c (Prog.lift (.enqueueDma src (.here dst) (.dma q) hsrc hdst hsem)) Q := by
  unfold wpc Prog.lift
  iintro ⟨Hs, Hd, Hv, Hk⟩
  iapply (Transfers.wp_dmaLocal EC 𝒱₀ (c : Thread nD τ) none (src := src) (dst := dst) (q := sh') (sm := .dma q) (fs := fs) (fd := fd) () N (show dst.view.amount (.dma q) = N from hN) hN0 (Finset.Subset.refl _)) $$ [Hs Hd Hv]
  · isplitl [Hs]; · iexact Hs
    isplitl [Hd]; · iexact Hd
    iexact Hv
  iintro Hf
  rw [wp_ret]; imodintro
  iapply Hk; iexact Hf

/-- The copy is waited for. -/
theorem wpc_copied {sp sp' : Space} {s s' : Shape} {e e' : EltTy} (c : Dev nD) {src : Memref sig .tc sp' s' e'} {dst : Memref sig .tc sp s e}
    {q : DmaSem sig} {hsrc : src.view.WordExact} {hdst : dst.view.WordExact} {N : ℕ} (hN : dst.view.dmaCredit = N)
    (hq : chOf q = none) {O : CellTallies nD τ sig Unit} (hO : Above 0 O) (D : sProp 𝕄) (Q : PUnit → sProp 𝕄) :
    iprop(levAts L lv ∗ Flight EC (c : Thread nD τ) (.dma q) () N D ∗ ow c O
        ∗ ((D ∗ semVal ((c : Thread nD τ), .dma q) 0 ∗ ow c O) -∗ Q ⟨⟩))
      ⊢ wpc c (Prog.lift (.waitDma2 q src dst hsrc hdst)) Q := by
  unfold wpc Prog.lift ow
  iintro ⟨Hl, Hf, ⟨%W, HO⟩, Hk⟩
  iapply (Transfers.wp_waitLocalO EC 𝒱₀ (c : Thread nD τ) none (srcw := src) (dstw := dst) () hN (O := O) (W := W)) $$ [Hl Hf HO]
  · isplitl [Hf]; · iexact Hf
    isplitl [HO]; · iexact HO
    iapply (mayWait c (.dma q) hO (by rw [lv_loc c q hq])) $$ Hl
  iintro ⟨HD, Hv, HO⟩
  rw [wp_ret]; imodintro
  iapply Hk
  isplitl [HD]; · iexact HD
  isplitl [Hv]; · iexact Hv
  iexists _; iexact HO

/-! ## Rows -/

/-- Where an element of the block at row `lo` lies in the accumulator. -/
theorem aRect_emb (r : Fin 3) (lo : ℕ) (h) (j : (sh r).Idx) : (aRect r ![lo, 0] h).emb j = at' lo r j := by
  have hlo : lo + nr r ≤ 1024 := h 0
  funext a
  match a with
  | 0 =>
    apply Fin.ext
    show lo + 1 * (j 0).val = (lo + (j 0).val) % 1024
    have hj : (j 0).val < nr r := (j 0).isLt
    rw [Nat.mod_eq_of_lt (by omega)]; omega
  | 1 =>
    apply Fin.ext
    show 0 + 1 * (j 1).val = (j 1).val
    omega
/-- The block at row `lo` covers those rows. -/
theorem aRect_set (r : Fin 3) (lo : ℕ) (h) : ((aM : Memref sig .tc .vmem S1024x768 .f32).access (aRect r ![lo, 0] h)).set = rows lo (nr r) := by
  show ((View.whole cc0_scratch7).slice (aRect r ![lo, 0] h)).set = _
  rw [View.set_slice_whole]
  ext i
  rw [show (aRect r ![lo, 0] h).set = (aRect r ![lo, 0] h).toLoadRect.set from rfl, LoadRect.mem_set]
  simp only [rows, Finset.mem_filter, Finset.mem_univ, true_and]
  constructor
  · intro hi
    obtain ⟨j, hj, e⟩ := hi 0
    have hj' : j < nr r := hj
    have e' : (i 0).val = lo + 1 * j := e
    omega
  · intro hi a
    match a with
    | 0 =>
      refine ⟨(i 0).val - lo, ?_, ?_⟩
      · show _ < nr r; omega
      · show (i 0).val = lo + 1 * _; omega
    | 1 =>
      refine ⟨(i 1).val, (i 1).isLt, ?_⟩
      show (i 1).val = 0 + 1 * (i 1).val; omega
/-- Reading the block at row `lo` reads those rows. -/
theorem aRect_read (r : Fin 3) (lo : ℕ) (h) (X : Vec F S1024x768 .f32) :
    ((aM : Memref sig .tc .vmem S1024x768 .f32).access (aRect r ![lo, 0] h)).read (Elt F) X = fun j => X (at' lo r j) := by
  funext j
  show X ((aRect r ![lo, 0] h).emb j) = _
  rw [aRect_emb]
/-- Every element of those rows is an element of the block. -/
theorem mem_rows {r : Fin 3} {lo : ℕ} (h : lo + nr r ≤ 1024) {i : S1024x768.Idx} (hi : i ∈ rows lo (nr r)) : ∃ j : (sh r).Idx, at' lo r j = i := by
  simp only [rows, Finset.mem_filter, Finset.mem_univ, true_and] at hi
  refine ⟨fun | 0 => ⟨(i 0).val - lo, by show _ < nr r; omega⟩ | 1 => i 1, ?_⟩
  funext a
  match a with
  | 0 =>
    apply Fin.ext
    show (lo + ((i 0).val - lo)) % 1024 = (i 0).val
    rw [Nat.mod_eq_of_lt (by omega)]; omega
  | 1 => rfl
/-- Stored rows, as contents. -/
theorem aRect_write (r : Fin 3) (lo : ℕ) (h) (f X : Vec F S1024x768 .f32) (w : Vec F (sh r) .f32) (hw : ∀ j, w j = X (at' lo r j)) :
    ∀ i ∈ rows lo (nr r), ((aM : Memref sig .tc .vmem S1024x768 .f32).access (aRect r ![lo, 0] h)).write (Elt F) f w Finset.univ i = X i := by
  intro i hi
  obtain ⟨j, rfl⟩ := mem_rows (show lo + nr r ≤ 1024 from h 0) hi
  rw [← aRect_emb r lo h j]
  have := View.write_emb_of_mem (v := (aM : Memref sig .tc .vmem S1024x768 .f32).access (aRect r ![lo, 0] h)) (Val := Elt F) f w (Finset.mem_univ j)
  refine Eq.trans this ?_
  rw [aRect_emb]; exact hw j

end Cert.KernelIdeal.Attn
-- ==== Proof.PIdeal.Exchange.lean ====
/-
One round of the exchange and one of the hand-round, for every round and device.
-/
module

public import proofs.«01_k».proof.Proof.PIdeal.Rules
public import Idealize.ShloMosaic.Lib.Pointwise.Reshape

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- Ownership of rows depends only on the contents of those rows. -/
theorem rowB_congr (c : Dev nD) {lo n : ℕ} {X Y : Vec F S1024x768 .f32} (h : ∀ i ∈ rows lo n, X i = Y i) :
    rowB (F := F) c lo n X ⊢ rowB c lo n Y := by
  unfold rowB; exact Entails.of_eq (pointsTo_congr h)

/-- Owning a memref's elements at known contents gives ownership at what they read. -/
theorem ownB_intro (c : Dev nD) {sp : Space} {s : Shape} {e : EltTy} (M : Memref sig .tc sp s e) {X : s.Idx → Elt F e}
    {f : Buf (Elt F) (M.view.loc (c : Thread nD τ))} (h : M.view.read (Elt F) f = X) :
    (M.view.loc (c : Thread nD τ) ↦[M.view.set]{fullShare} f) ⊢ ownB (F := F) c M X := by
  unfold ownB; iintro H; iexists f; isplitr
  · ipureintro; exact h
  · iexact H
/-- Owning a memref's elements at known contents gives ownership at some contents. -/
theorem anyB_intro (c : Dev nD) {sp : Space} {s : Shape} {e : EltTy} (M : Memref sig .tc sp s e)
    (f : Buf (Elt F) (M.view.loc (c : Thread nD τ))) :
    (M.view.loc (c : Thread nD τ) ↦[M.view.set]{fullShare} f) ⊢ anyB (F := F) c M := by
  unfold anyB; iintro H; iexists f; iexact H

/-- Rows put together and taken apart. -/
theorem rowB_split (c : Dev nD) (lo n k : ℕ) (X : Vec F S1024x768 .f32) :
    rowB (F := F) c lo (n + k) X ⊢ iprop(rowB c lo n X ∗ rowB c (lo + n) k X) := by
  unfold rowB; rw [rows_union]
  have h : Disjoint (rows lo n) (rows (lo + n) k) := rows_disjoint (.inl le_rfl)
  exact (pointsTo_union (ℓ := (aM : Memref sig .tc .vmem S1024x768 .f32).view.loc (c : Thread nD τ)) (I := rows lo n) (J := rows (lo + n) k) h).1
/-- Two adjacent row ranges at the same contents make one. -/
theorem rowB_join (c : Dev nD) (lo n k : ℕ) (X : Vec F S1024x768 .f32) :
    iprop(rowB c lo n X ∗ rowB c (lo + n) k X) ⊢ rowB (F := F) c lo (n + k) X := by
  unfold rowB; rw [rows_union]
  have h : Disjoint (rows lo n) (rows (lo + n) k) := rows_disjoint (.inl le_rfl)
  exact (pointsTo_union (ℓ := (aM : Memref sig .tc .vmem S1024x768 .f32).view.loc (c : Thread nD τ)) (I := rows lo n) (J := rows (lo + n) k) h).2

/-- The send buffer's view covers the whole buffer. -/
theorem snd_set (r : Fin 3) : (sndM r).view.set = Finset.univ := by
  match r with | 0 => exact View.set_whole _ | 1 => exact View.set_whole _ | 2 => exact View.set_whole _
/-- The receive buffer's view covers the whole buffer. -/
theorem rcv_set (r : Fin 3) : (rcvM r).view.set = Finset.univ := by
  match r with | 0 => exact View.set_whole _ | 1 => exact View.set_whole _ | 2 => exact View.set_whole _
/-- A whole store into the send buffer is read back as stored. -/
theorem snd_store (r : Fin 3) (f : (sndM r).view.ty.Contents (Elt F)) (w : Vec F (sh r) .bf16) :
    (sndM r).view.read (Elt F) (((sndM r).access (shRect r)).write (Elt F) f w Finset.univ) = w := by
  have hz : (![0, 0] : Fin 2 → ℕ) = fun _ => 0 := by funext a; fin_cases a <;> rfl
  match r with
  | 0 => exact (View.read_whole cc0_scratch8 _).trans (Memref.write_access_unit_zero_univ (Elt F) cc0_scratch8 hz _ f w)
  | 1 => exact (View.read_whole cc0_scratch9 _).trans (Memref.write_access_unit_zero_univ (Elt F) cc0_scratch9 hz _ f w)
  | 2 => exact (View.read_whole cc0_scratch10 _).trans (Memref.write_access_unit_zero_univ (Elt F) cc0_scratch10 hz _ f w)
/-- A whole load of the receive buffer reads its contents. -/
theorem rcv_load (r : Fin 3) (f : (rcvM r).view.ty.Contents (Elt F)) :
    ((rcvM r).access (shRect r)).read (Elt F) f = (rcvM r).view.read (Elt F) f := by
  have hz : (![0, 0] : Fin 2 → ℕ) = fun _ => 0 := by funext a; fin_cases a <;> rfl
  match r with
  | 0 => exact Memref.readAt_unit_zero (Elt F) cc0_scratch11 hz _ f
  | 1 => exact Memref.readAt_unit_zero (Elt F) cc0_scratch12 hz _ f
  | 2 => exact Memref.readAt_unit_zero (Elt F) cc0_scratch13 hz _ f

/-- A send buffer's copy credits one exchange block. -/
theorem snd_credit (r : Fin 3) : (sndM r).view.dmaCredit = NR r := by
  match r with | 0 => rfl | 1 => rfl | 2 => rfl
/-- A copy of accumulator rows credits one handed-round block. -/
theorem aSl_credit (r : Fin 3) (o : Fin 2 → ℕ) (h) : (aSl r o h).view.dmaCredit = NA r := by
  match r with | 0 => rfl | 1 => rfl | 2 => rfl

/-- Packing rounds every element. -/
theorem packP_eq (r : Fin 3) (v : Vec F (sh r) .f32) : packP r v = fun j => FloatOps.truncf .bf16 bitsLt_bf16_f32 (v j) := by
  unfold packP; rw [shapeCast_id]; rfl
/-- The sum adds each received element, widened, to the kept one. -/
theorem sumP_eq (r : Fin 3) (v : Vec F (sh r) .f32) (w : Vec F (sh r) .bf16) :
    sumP r v w = fun j => FloatOps.addf (v j) (FloatOps.extf .f32 bitsLt_bf16_f32 (w j)) := by
  unfold sumP; rw [shapeCast_id]; rfl

variable (V : Vals F) (κ : GSem nD τ sig → ℕ)

/-- The packed block at the partner, with the rows given away, is what the partner's landing promises. -/
theorem pay_rsr (r : Fin 3) (c : Dev nD) : iprop(ownB (pt r c) (rcvM r) (packed V r c) ∗ rowAny c (sb r c) (nr r)) ⊢ pay V (pt r c) (.rsr r) := by
  show _ ⊢ iprop(ownB (pt r c) (rcvM r) (packed V r (pt r (pt r c))) ∗ rowAny (pt r (pt r c)) (kb r (pt r c)) (nr r))
  rw [pt_pt]; exact .rfl

/-- An exchange round: the rows given away go to the partner, which may then be written to; the rows kept gain the
    partner's. -/
theorem wp_exchange (r : Fin 3) (c n : Dev nD) (oS oK : Fin 2 → ℕ) (hS hK) (eS : oS = ![sb r c, 0]) (eK : oK = ![kb r c, 0])
    (hn : n = pt r c) (Q : PUnit → sProp 𝕄) :
    iprop(known V κ ∗ rch c ∗ rch (pt r c) ∗ rowB c (sb r c) (nr r) (acc V r c) ∗ rowB c (kb r c) (nr r) (acc V r c)
        ∗ anyB c (sndM r) ∗ anyB (pt r c) (rcvM r) ∗ ow c (OR c (3 - r)) ∗ may c (.rss r) ∗ may (pt r c) (.rsr r)
        ∗ at0 c (.rss r) ∗ at0 c (.rsr r) ∗ cred (tallyAt (cell c (.rsr r)) () (amt (.rsr r)))
        ∗ ((rowB c (kb r c) (nr r) (acc V (r + 1) c) ∗ rowAny (pt r c) (kb r c) (nr r) ∗ anyB c (sndM r) ∗ anyB c (rcvM r)
            ∗ ow c (OR c (2 - r)) ∗ shut c (.rss r) ∗ shut c (.rsr r)) -∗ Q ⟨⟩))
      ⊢ wpc c (exchange r oS oK hS hK n) Q := by
  subst eS eK hn
  unfold exchange
  iintro ⟨#Hkn, #Hrc, #Hrp, HrS, HrK, Hsnd, Hrcv, Ho, Htss, Htsr, Hass, Hasr, Hcr, Hk⟩
  unfold anyB
  icases Hsnd with ⟨%fs, Hsnd⟩
  icases Hrcv with ⟨%fd, Hrcv⟩
  iapply (wpc_bind c _ _ _)
  iapply (wpc_load c (M := aM) (r := aRect r ![sb r c, 0] hS) (S := rows (sb r c) (nr r)) (f := acc V r c) (by rw [aRect_set]) _)
  isplitl [HrS]; · unfold rowB; iexact HrS
  iintro HrS
  iapply (wpc_bind c _ _ _)
  iapply (wpc_load c (M := sndM r) (r := shRect r) (S := (sndM r).view.set) (f := fs) (View.set_slice_subset _ _) _)
  isplitl [Hsnd]; · iexact Hsnd
  iintro Hsnd
  iapply (wpc_bind c _ _ _)
  iapply (wpc_store c (M := sndM r) (r := shRect r) (S := (sndM r).view.set) (f := fs) (View.set_slice_subset _ _) _)
  isplitl [Hsnd]; · iexact Hsnd
  iintro Hsnd
  iapply (wpc_bind c _ _ _)
  iapply (wp_chan_send V κ c (pt r c) (.rss r) (.rsr r) trivial trivial (by rfl) (by rfl) (X := rowAny c (sb r c) (nr r))
    (fs := ((sndM r).access (shRect r)).write (Elt F) fs (packP r (((aM : Memref sig .tc .vmem S1024x768 .f32).access (aRect r ![sb r c, 0] hS)).read (Elt F) (acc V r c))) Finset.univ)
    (fd := fd) (O := OR c (2 - r)) (by show _ ⊢ anyB c (sndM r); unfold anyB; iintro H; iexists _; iexact H)
    (by
      exact (BIClass.sep_mono (ownB_intro (pt r c) (rcvM r) (by rw [View.read_write_univ, snd_store, packP_eq, aRect_read]; rfl)) (BIBase.Entails.rfl)).trans (pay_rsr V r c)) _)
  isplitr; · iexact Hkn
  isplitl [Hsnd]; · iexact Hsnd
  isplitl [Hrcv]; · iexact Hrcv
  isplitl [HrS]; · unfold rowAny rowB; iexists _; iexact HrS
  isplitl [Ho]; · rw [OR_succ]; iexact Ho
  isplitl [Htss]; · iexact Htss
  isplitr; · iapply (rch_at c (.rss r)) $$ Hrc
  isplitl [Htsr]; · iexact Htsr
  isplitr; · iapply (rch_at (pt r c) (.rsr r)) $$ Hrp
  iintro ⟨Hcs, Ho⟩
  iapply (wpc_bind c _ _ _)
  iapply (wp_chan_wait V κ c (.rss r) trivial (snd_credit r) (above_OR c r) (Nat.zero_le _) _)
  isplitr; · iexact Hkn
  isplitl [Hass]; · iexact Hass
  isplitl [Hcs]; · iexact Hcs
  isplitl [Ho]; · iexact Ho
  iintro ⟨Hsnd, Hz1, Ho⟩
  iapply (wpc_bind c _ _ _)
  iapply (wp_chan_wait V κ c (.rsr r) trivial (by rfl) (above_OR c r) (le_refl _) _)
  isplitr; · iexact Hkn
  isplitl [Hasr]; · iexact Hasr
  isplitl [Hcr]; · iexact Hcr
  isplitl [Ho]; · iexact Ho
  iintro ⟨Hp, Hz2, Ho⟩
  unfold pay ownB
  icases Hp with ⟨⟨%fr, %hfr, Hrcv⟩, Hrow⟩
  iapply (wpc_bind c _ _ _)
  iapply (wpc_load c (M := aM) (r := aRect r ![kb r c, 0] hK) (S := rows (kb r c) (nr r)) (f := acc V r c) (by rw [aRect_set]) _)
  isplitl [HrK]; · unfold rowB; iexact HrK
  iintro HrK
  iapply (wpc_bind c _ _ _)
  iapply (wpc_load c (M := rcvM r) (r := shRect r) (S := (rcvM r).view.set) (f := fr) (View.set_slice_subset _ _) _)
  isplitl [Hrcv]; · iexact Hrcv
  iintro Hrcv
  iapply (wpc_bind c _ _ _)
  iapply (wpc_load c (M := aM) (r := aRect r ![kb r c, 0] hK) (S := rows (kb r c) (nr r)) (f := acc V r c) (by rw [aRect_set]) _)
  isplitl [HrK]; · iexact HrK
  iintro HrK
  iapply (wpc_store c (M := aM) (r := aRect r ![kb r c, 0] hK) (S := rows (kb r c) (nr r)) (f := acc V r c) (by rw [aRect_set]) _)
  isplitl [HrK]; · iexact HrK
  iintro HrK
  iapply Hk
  isplitl [HrK]
  · iapply (rowB_congr c (aRect_write r (kb r c) hK (acc V r c) (acc V (r + 1) c) _ (fun j => ?_)))
    rotate_left
    · unfold rowB; iexact HrK
    rw [sumP_eq, aRect_read, rcv_load, hfr]
    show FloatOps.addf _ (FloatOps.extf .f32 bitsLt_bf16_f32 (FloatOps.truncf .bf16 bitsLt_bf16_f32 (acc V r (pt r c) (at' (sb r (pt r c)) r j)))) = _
    unfold sb
    rw [pt_pt]
    show _ = FloatOps.addf _ (FloatOps.extf .f32 bitsLt_bf16_f32 (FloatOps.truncf .bf16 bitsLt_bf16_f32 (acc V r (pt (Fin.ofNat 3 r) c) (at' (kb r c) r j))))
    rw [show Fin.ofNat 3 (r : ℕ) = r from by fin_cases r <;> rfl]
  isplitl [Hrow]; · iexact Hrow
  isplitl [Hsnd]; · unfold anyB; iexact Hsnd
  isplitl [Hrcv]; · iexists fr; iexact Hrcv
  isplitl [Ho]; · iexact Ho
  isplitl [Hz1]; · iexact Hz1
  iexact Hz2

/-- A round of the hand-round: the finished rows go to the partner, its rows come. -/
theorem wp_handRound (r : Fin 3) (c n : Dev nD) (o : Fin 2 → ℕ) (h) (e : o = ![kb r c, 0]) (hn : n = pt r c) (Q : PUnit → sProp 𝕄) :
    iprop(known V κ ∗ rch c ∗ rch (pt r c) ∗ rowB c (kb r c) (nr r) (fin V) ∗ rowAny (pt r c) (kb r c) (nr r)
        ∗ ow c (OA c (r + 1)) ∗ may c (.ags r) ∗ may (pt r c) (.agr r)
        ∗ at0 c (.ags r) ∗ at0 c (.agr r) ∗ cred (tallyAt (cell c (.agr r)) () (amt (.agr r)))
        ∗ ((rowB c (kb r c) (nr r) (fin V) ∗ rowB c (sb r c) (nr r) (fin V) ∗ ow c (OA c r) ∗ shut c (.ags r) ∗ shut c (.agr r)) -∗ Q ⟨⟩))
      ⊢ wpc c (handRound r o h n) Q := by
  subst e hn
  unfold handRound
  iintro ⟨#Hkn, #Hrc, #Hrp, HrK, HrP, Ho, Htss, Htsr, Hass, Hasr, Hcr, Hk⟩
  unfold rowAny
  icases HrP with ⟨%X, HrP⟩
  have hset : (aSl r ![kb r c, 0] h).view.set = rows (kb r c) (nr r) := aRect_set r _ h
  iapply (wpc_bind c _ _ _)
  iapply (wp_chan_send V κ c (pt r c) (.ags r) (.agr r) trivial trivial (aSl_credit r _ h) (by rfl) (X := iprop(emp))
    (fs := fin V) (fd := X) (O := OA c r)
    (by
      rw [hset]; show _ ⊢ rowB c (kb r c) (nr r) (fin V); exact .rfl)
    (by
      rw [hset]
      iintro ⟨H, -⟩
      show _ ⊢ rowB (pt r c) (kb r (pt r (pt r c))) (nr r) (fin V)
      rw [pt_pt]
      iapply (rowB_congr (pt r c) (aRect_write r (kb r c) h X (fin V) _ (fun j => ?_)))
      · exact congrFun (aRect_read r (kb r c) h (fin V)) j) _)
  rw [hset]
  isplitr; · iexact Hkn
  isplitl [HrK]; · unfold rowB; iexact HrK
  isplitl [HrP]; · unfold rowB; iexact HrP
  isplitr; · iempintro
  isplitl [Ho]; · rw [OA_succ]; iexact Ho
  isplitl [Htss]; · iexact Htss
  isplitr; · iapply (rch_at c (.ags r)) $$ Hrc
  isplitl [Htsr]; · iexact Htsr
  isplitr; · iapply (rch_at (pt r c) (.agr r)) $$ Hrp
  iintro ⟨Hcs, Ho⟩
  iapply (wpc_bind c _ _ _)
  iapply (wp_chan_wait V κ c (.ags r) trivial (aSl_credit r _ h) (above_OA c r) (Nat.zero_le _) _)
  isplitr; · iexact Hkn
  isplitl [Hass]; · iexact Hass
  isplitl [Hcs]; · iexact Hcs
  isplitl [Ho]; · iexact Ho
  iintro ⟨HrK, Hz1, Ho⟩
  iapply (wp_chan_wait V κ c (.agr r) trivial (aSl_credit r _ h) (above_OA c r) (le_refl _) _)
  isplitr; · iexact Hkn
  isplitl [Hasr]; · iexact Hasr
  isplitl [Hcr]; · iexact Hcr
  isplitl [Ho]; · iexact Ho
  iintro ⟨HrS, Hz2, Ho⟩
  iapply Hk
  isplitl [HrK]; · unfold pay; iexact HrK
  isplitl [HrS]; · unfold pay sb; iexact HrS
  isplitl [Ho]; · iexact Ho
  isplitl [Hz1]; · iexact Hz1
  iexact Hz2

end Cert.KernelIdeal.Attn
-- ==== Proof.PIdeal.Heads.lean ====
/-
The queries, the attention of the sixteen heads, the projection and the result, at a device.
-/
module

public import proofs.«01_k».proof.Proof.PIdeal.Exchange
public import Idealize.ShloMosaic.Lib.Pointwise.Reshape

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The values -/

/-- One head's context, from the queries, keys and values. -/
def headOf (q : Vec F S1024x512 .bf16) (k v : Vec F S2x512x512 .bf16) (b : Fin 2) (h : Fin 8) : Vec F S512x64 .bf16 :=
  k0_pay30 maskV (fun j => q ((headRect b h).emb j)) (fun j => k ((kvRect b h).emb j)) (fun j => v ((kvRect b h).emb j))
/-- The context: head by head. -/
def ctx (q : Vec F S1024x512 .bf16) (k v : Vec F S2x512x512 .bf16) : Vec F S1024x512 .bf16 := fun i =>
  headOf q k v ⟨(i 0).val / 512, by have : (i 0).val < 1024 := (i 0).isLt; omega⟩ ⟨(i 1).val / 64, by have : (i 1).val < 512 := (i 1).isLt; omega⟩
    (ix2 ⟨(i 0).val % 512, Nat.mod_lt _ (by decide)⟩ ⟨(i 1).val % 64, Nat.mod_lt _ (by decide)⟩)
abbrev halfRect (b : Fin 2) : Rect S1024x512 := Rect.unit (s := S1024x512) ![512 * b.val, 0] S512x512.size (half_inb b)
/-- The context times the output weights. -/
def proj (w : Vec F S512x768 .bf16) (x : Vec F S1024x512 .bf16) : Vec F S1024x768 .f32 := fun i =>
  k0_pay57 w (fun j => x ((halfRect ⟨(i 0).val / 512, by have : (i 0).val < 1024 := (i 0).isLt; omega⟩).emb j))
    (ix2 ⟨(i 0).val % 512, Nat.mod_lt _ (by decide)⟩ (i 1))
/-- The rows as two sequences. -/
def outV (X : Vec F S1024x768 .f32) : Vec F S2x512x768 .f32 := fun i =>
  X (ix2 ⟨512 * (i 0).val + (i 1).val, by have : (i 0).val < 2 := (i 0).isLt; have : (i 1).val < 512 := (i 1).isLt; show _ < 1024; omega⟩ (i 2))

/-- The accumulator, whole, by rows. -/
theorem rowB_whole (c : Dev nD) (X : Vec F S1024x768 .f32) : rowB (F := F) c 0 1024 X ⊣⊢ ownB c aM X := by
  have hu : (aM : Memref sig .tc .vmem S1024x768 .f32).view.set = rows 0 1024 := by rw [rows_all]; exact View.set_whole _
  unfold rowB ownB
  rw [hu]
  constructor
  · iintro H; iexists X; isplitr
    · ipureintro; rfl
    · iexact H
  · iintro ⟨%f, %hf, H⟩
    have hf' : f = X := hf
    subst hf'; iexact H
/-- The accumulator at some contents is its two halves at some contents. -/
theorem anyB_rows (c : Dev nD) : anyB (F := F) c aM ⊢ iprop(∃ X, rowB c 0 512 X ∗ rowB c 512 512 X) := by
  have hu : (aM : Memref sig .tc .vmem S1024x768 .f32).view.set = rows 0 1024 := by rw [rows_all]; exact View.set_whole _
  unfold anyB
  rw [hu]
  iintro ⟨%f, H⟩
  iexists f
  iapply (rowB_split c 0 512 512 f)
  unfold rowB; iexact H

/-- A whole buffer's contents. -/
theorem ownB_whole_elim (c : Dev nD) (b : Ref sig .tc) (X : b.ty.Contents (Elt F)) :
    ownB (F := F) c (Memref.whole b) X ⊢ ((Memref.whole b).view.loc (c : Thread nD τ) ↦[(Memref.whole b).view.set]{fullShare} X) := by
  unfold ownB
  iintro ⟨%f, %h, H⟩
  have h' : f = X := h
  subst h'; iexact H

/-! ## The steps -/

/-- The query step leaves the projected queries in their buffer. -/
theorem wp_queries (c : Dev nD) (X : Vec F S1024x768 .bf16) (W : Vec F S768x512 .bf16) (Q : PUnit → sProp 𝕄) :
    iprop(ownB c xM X ∗ ownB c wqM W ∗ anyB c qM
        ∗ ((ownB c xM X ∗ ownB c wqM W ∗ ownB c qM (k0_pay19 X W)) -∗ Q ⟨⟩))
      ⊢ wpc c queries Q := by
  have hz : (![0, 0] : Fin 2 → ℕ) = fun _ => 0 := by funext a; fin_cases a <;> rfl
  unfold queries ownB anyB
  iintro ⟨⟨%fx, %hx, Hx⟩, ⟨%fw, %hw, Hw⟩, ⟨%fq, Hq⟩, Hk⟩
  have hx' : fx = X := hx
  have hw' : fw = W := hw
  subst hx' hw'
  iapply (wpc_bind c _ _ _)
  iapply (wpc_load c (M := xM) (S := xM.view.set) (f := fx) (View.set_slice_subset _ _) _)
  isplitl [Hx]; · iexact Hx
  iintro Hx
  iapply (wpc_bind c _ _ _)
  iapply (wpc_load c (M := wqM) (S := wqM.view.set) (f := fw) (View.set_slice_subset _ _) _)
  isplitl [Hw]; · iexact Hw
  iintro Hw
  iapply (wpc_bind c _ _ _)
  iapply (wpc_load c (M := qM) (S := qM.view.set) (f := fq) (View.set_slice_subset _ _) _)
  isplitl [Hq]; · iexact Hq
  iintro Hq
  iapply (wpc_store c (M := qM) (S := qM.view.set) (f := fq) (View.set_slice_subset _ _) _)
  isplitl [Hq]; · iexact Hq
  iintro Hq
  iapply Hk
  isplitl [Hx]; · iexists fx; isplitr; · ipureintro; rfl
                  iexact Hx
  isplitl [Hw]; · iexists fw; isplitr; · ipureintro; rfl
                  iexact Hw
  iexists _
  isplitr
  rotate_left
  · iexact Hq
  ipureintro
  refine (Memref.write_access_unit_zero_univ (Elt F) cc0_scratch5 hz inb_S1024x512_S1024x512_0_0 _ _).trans ?_
  rw [show ((xM : Memref sig .tc .vmem S1024x768 .bf16).access (Rect.unit (s := S1024x768) ![0, 0] S1024x768.size inb_S1024x768_S1024x768_0_0)).read (Elt F) fx = fx
      from Memref.readAt_unit_zero (Elt F) cc0_stg0_0 hz _ fx,
    show ((wqM : Memref sig .tc .vmem S768x512 .bf16).access (Rect.unit (s := S768x512) ![0, 0] S768x512.size inb_S768x512_S768x512_0_0)).read (Elt F) fw = fw
      from Memref.readAt_unit_zero (Elt F) cc0_stg1_0 hz _ fw]

/-- Contents of the context buffer once the heads of a list are written. -/
def Done (q : Vec F S1024x512 .bf16) (k v : Vec F S2x512x512 .bf16) (D : List (Fin 2 × Fin 8)) (f : Vec F S1024x512 .bf16) : Prop :=
  ∀ p ∈ D, ∀ j, f ((headRect p.1 p.2).emb j) = headOf q k v p.1 p.2 j

/-- Where an element of one head's block lies in the context buffer. -/
theorem headRect_emb_val (b : Fin 2) (h : Fin 8) (j : S512x64.Idx) :
    ((headRect b h).emb j 0).val = 512 * b.val + (j 0).val ∧ ((headRect b h).emb j 1).val = 64 * h.val + (j 1).val :=
  ⟨show 512 * b.val + 1 * (j 0).val = _ by omega, show 64 * h.val + 1 * (j 1).val = _ by omega⟩

/-- Writing one more head extends the list of heads done. -/
theorem done_cons (q : Vec F S1024x512 .bf16) (k v : Vec F S2x512x512 .bf16) (D : List (Fin 2 × Fin 8)) (f : Vec F S1024x512 .bf16)
    (b : Fin 2) (h : Fin 8) (hf : Done q k v D f) :
    Done q k v ((b, h) :: D) (((cM : Memref sig .tc .vmem S1024x512 .bf16).access (headRect b h)).write (Elt F) f (headOf q k v b h) Finset.univ) := by
  have same : ∀ j, (((cM : Memref sig .tc .vmem S1024x512 .bf16).access (headRect b h)).write (Elt F) f (headOf q k v b h) Finset.univ) ((headRect b h).emb j)
      = headOf q k v b h j := fun j =>
    View.write_emb_of_mem (v := (cM : Memref sig .tc .vmem S1024x512 .bf16).access (headRect b h)) (Val := Elt F) f _ (Finset.mem_univ j)
  intro p hp j
  by_cases e : p = (b, h)
  · subst e; exact same j
  · rcases List.mem_cons.mp hp with hp | hp
    · exact absurd hp e
    · refine Eq.trans (View.write_of_not_mem (v := (cM : Memref sig .tc .vmem S1024x512 .bf16).access (headRect b h)) (Val := Elt F) f _ Finset.univ ?_) (hf p hp j)
      intro hm
      obtain ⟨j', -, e'⟩ := Finset.mem_map.mp hm
      have e'' : (headRect b h).emb j' = (headRect p.1 p.2).emb j := e'
      have h1 := headRect_emb_val b h j'
      have h2 := headRect_emb_val p.1 p.2 j
      rw [e''] at h1
      have a0 : (j 0).val < 512 := (j 0).isLt
      have a1 : (j 1).val < 64 := (j 1).isLt
      have b0 : (j' 0).val < 512 := (j' 0).isLt
      have b1 : (j' 1).val < 64 := (j' 1).isLt
      apply e
      refine Prod.ext (Fin.ext ?_) (Fin.ext ?_)
      · show p.1.val = b.val; omega
      · show p.2.val = h.val; omega

/-- One head's step adds that head to those done. -/
theorem wp_head (c : Dev nD) (b : Fin 2) (h : Fin 8) (q : Vec F S1024x512 .bf16) (k v : Vec F S2x512x512 .bf16)
    (D : List (Fin 2 × Fin 8)) (Q : PUnit → sProp 𝕄) :
    iprop(ownB c qM q ∗ ownB c kbM k ∗ ownB c vbM v
        ∗ (∃ f, ⌜Done q k v D f⌝ ∗ ((cM : Memref sig .tc .vmem S1024x512 .bf16).view.loc (c : Thread nD τ) ↦[(cM : Memref sig .tc .vmem S1024x512 .bf16).view.set]{fullShare} f))
        ∗ ((ownB c qM q ∗ ownB c kbM k ∗ ownB c vbM v
        ∗ (∃ f, ⌜Done q k v ((b, h) :: D) f⌝ ∗ ((cM : Memref sig .tc .vmem S1024x512 .bf16).view.loc (c : Thread nD τ) ↦[(cM : Memref sig .tc .vmem S1024x512 .bf16).view.set]{fullShare} f))) -∗ Q ⟨⟩))
      ⊢ wpc c (headP b h) Q := by
  unfold headP ownB
  iintro ⟨⟨%fq, %hq, Hq⟩, ⟨%fk, %hk, Hkb⟩, ⟨%fv, %hv, Hv⟩, ⟨%fc, %hc, Hc⟩, Hk⟩
  have hq' : fq = q := hq
  have hk' : fk = k := hk
  have hv' : fv = v := hv
  subst hq' hk' hv'
  iapply (wpc_bind c _ _ _)
  iapply (wpc_load c (M := qM) (S := qM.view.set) (f := fq) (View.set_slice_subset _ _) _)
  isplitl [Hq]; · iexact Hq
  iintro Hq
  iapply (wpc_bind c _ _ _)
  iapply (wpc_load c (M := kbM) (S := kbM.view.set) (f := fk) (View.set_slice_subset _ _) _)
  isplitl [Hkb]; · iexact Hkb
  iintro Hkb
  iapply (wpc_bind c _ _ _)
  iapply (wpc_load c (M := vbM) (S := vbM.view.set) (f := fv) (View.set_slice_subset _ _) _)
  isplitl [Hv]; · iexact Hv
  iintro Hv
  iapply (wpc_bind c _ _ _)
  iapply (wpc_load c (M := cM) (S := cM.view.set) (f := fc) (View.set_slice_subset _ _) _)
  isplitl [Hc]; · iexact Hc
  iintro Hc
  iapply (wpc_store c (M := cM) (S := cM.view.set) (f := fc) (View.set_slice_subset _ _) _)
  isplitl [Hc]; · iexact Hc
  iintro Hc
  iapply Hk
  isplitl [Hq]; · iexists fq; isplitr; · ipureintro; rfl
                  iexact Hq
  isplitl [Hkb]; · iexists fk; isplitr; · ipureintro; rfl
                   iexact Hkb
  isplitl [Hv]; · iexists fv; isplitr; · ipureintro; rfl
                  iexact Hv
  iexists _
  isplitr
  rotate_left
  · iexact Hc
  ipureintro
  exact done_cons fq fk fv D fc b h hc

/-- A list of heads' steps adds them all to those done. -/
theorem wp_heads (c : Dev nD) (q : Vec F S1024x512 .bf16) (k v : Vec F S2x512x512 .bf16) (Q : PUnit → sProp 𝕄) (l : List (Fin 2 × Fin 8)) :
    ∀ D : List (Fin 2 × Fin 8),
    iprop(ownB c qM q ∗ ownB c kbM k ∗ ownB c vbM v
        ∗ (∃ f, ⌜Done q k v D f⌝ ∗ ((cM : Memref sig .tc .vmem S1024x512 .bf16).view.loc (c : Thread nD τ) ↦[(cM : Memref sig .tc .vmem S1024x512 .bf16).view.set]{fullShare} f))
        ∗ ((ownB c qM q ∗ ownB c kbM k ∗ ownB c vbM v
        ∗ (∃ f, ⌜Done q k v (l.reverse ++ D) f⌝ ∗ ((cM : Memref sig .tc .vmem S1024x512 .bf16).view.loc (c : Thread nD τ) ↦[(cM : Memref sig .tc .vmem S1024x512 .bf16).view.set]{fullShare} f))) -∗ Q ⟨⟩))
      ⊢ wpc c (headsP l) Q := by
  induction l with
  | nil =>
    intro D
    iintro ⟨Hq, Hkb, Hv, Hc, Hk⟩
    unfold headsP
    iapply (wpc_pure c _ _)
    iapply Hk
    isplitl [Hq]; · iexact Hq
    isplitl [Hkb]; · iexact Hkb
    isplitl [Hv]; · iexact Hv
    iexact Hc
  | cons p l ih =>
    intro D
    iintro ⟨Hq, Hkb, Hv, Hc, Hk⟩
    unfold headsP
    iapply (wpc_bind c _ _ _)
    iapply (wp_head c p.1 p.2 q k v D _)
    isplitl [Hq]; · iexact Hq
    isplitl [Hkb]; · iexact Hkb
    isplitl [Hv]; · iexact Hv
    isplitl [Hc]; · iexact Hc
    iintro ⟨Hq, Hkb, Hv, Hc⟩
    iapply (ih (p :: D))
    isplitl [Hq]; · iexact Hq
    isplitl [Hkb]; · iexact Hkb
    isplitl [Hv]; · iexact Hv
    isplitl [Hc]; · iexact Hc
    rw [List.reverse_cons, List.append_assoc]
    iexact Hk

/-- Once every head is done, the buffer holds the context. -/
theorem done_all (q : Vec F S1024x512 .bf16) (k v : Vec F S2x512x512 .bf16) (f : Vec F S1024x512 .bf16) (h : Done q k v (heads.reverse ++ []) f) : f = ctx q k v := by
  funext i
  have hi0 : (i 0).val < 1024 := (i 0).isLt
  have hi1 : (i 1).val < 512 := (i 1).isLt
  have hm : ∀ p : Fin 2 × Fin 8, p ∈ heads.reverse ++ [] := by decide
  have := h (⟨(i 0).val / 512, by omega⟩, ⟨(i 1).val / 64, by omega⟩) (hm _) (ix2 ⟨(i 0).val % 512, Nat.mod_lt _ (by decide)⟩ ⟨(i 1).val % 64, Nat.mod_lt _ (by decide)⟩)
  unfold ctx
  rw [← this]
  congr 1
  funext a
  match a with
  | 0 => apply Fin.ext; show _ = 512 * ((i 0).val / 512) + 1 * ((i 0).val % 512); omega
  | 1 => apply Fin.ext; show _ = 64 * ((i 1).val / 64) + 1 * ((i 1).val % 64); omega

/-- The attention of the sixteen heads. -/
theorem wp_attn (c : Dev nD) (q : Vec F S1024x512 .bf16) (k v : Vec F S2x512x512 .bf16) (Q : PUnit → sProp 𝕄) :
    iprop(ownB c qM q ∗ ownB c kbM k ∗ ownB c vbM v ∗ anyB c cM
        ∗ ((ownB c qM q ∗ ownB c kbM k ∗ ownB c vbM v ∗ ownB c cM (ctx q k v)) -∗ Q ⟨⟩))
      ⊢ wpc c (headsP heads) Q := by
  iintro ⟨Hq, Hkb, Hv, Hc, Hk⟩
  unfold anyB
  icases Hc with ⟨%f, Hc⟩
  iapply (wp_heads c q k v Q heads [])
  isplitl [Hq]; · iexact Hq
  isplitl [Hkb]; · iexact Hkb
  isplitl [Hv]; · iexact Hv
  isplitl [Hc]
  · iexists f; isplitr
    · ipureintro; intro p hp; exact absurd hp (List.not_mem_nil)
    · iexact Hc
  iintro ⟨Hq, Hkb, Hv, ⟨%g, %hg, Hc⟩⟩
  iapply Hk
  isplitl [Hq]; · iexact Hq
  isplitl [Hkb]; · iexact Hkb
  isplitl [Hv]; · iexact Hv
  iapply (ownB_intro c cM (show (cM : Memref sig .tc .vmem S1024x512 .bf16).view.read (Elt F) g = ctx q k v from done_all q k v g hg)) $$ Hc

/-- One half of the projection writes its half of the rows. -/
theorem wp_projHalf (c : Dev nD) (b : Fin 2) (w : Vec F S512x768 .bf16) (x : Vec F S1024x512 .bf16) (Y : Vec F S1024x768 .f32) (Q : PUnit → sProp 𝕄) :
    iprop(ownB c cM x ∗ rowB c (512 * b.val) 512 Y
        ∗ ((ownB c cM x ∗ rowB c (512 * b.val) 512 (proj w x)) -∗ Q ⟨⟩))
      ⊢ wpc c (projHalf w b) Q := by
  unfold projHalf ownB
  iintro ⟨⟨%fx, %hx, Hx⟩, Hr, Hk⟩
  have hx' : fx = x := hx
  subst hx'
  have hset : ((aM : Memref sig .tc .vmem S1024x768 .f32).access (aRect 0 ![512 * b.val, 0] (halfA_inb b))).set ⊆ rows (512 * b.val) 512 := by
    rw [aRect_set]
  iapply (wpc_bind c _ _ _)
  iapply (wpc_load c (M := cM) (S := cM.view.set) (f := fx) (View.set_slice_subset _ _) _)
  isplitl [Hx]; · iexact Hx
  iintro Hx
  iapply (wpc_bind c _ _ _)
  iapply (wpc_load c (M := aM) (S := rows (512 * b.val) 512) (f := Y) hset _)
  isplitl [Hr]; · unfold rowB; iexact Hr
  iintro Hr
  iapply (wpc_store c (M := aM) (S := rows (512 * b.val) 512) (f := Y) hset _)
  isplitl [Hr]; · iexact Hr
  iintro Hr
  iapply Hk
  isplitl [Hx]; · iexists fx; isplitr; · ipureintro; rfl
                  iexact Hx
  iapply (rowB_congr c (aRect_write 0 (512 * b.val) (halfA_inb b) Y (proj w fx) _ (fun j => ?_)))
  rotate_left
  · unfold rowB; iexact Hr
  have hj0 : (j 0).val < 512 := (j 0).isLt
  have e0 : ((at' (512 * b.val) 0 j) 0).val = 512 * b.val + (j 0).val := by
    show (512 * b.val + (j 0).val) % 1024 = _
    have : b.val < 2 := b.isLt
    rw [Nat.mod_eq_of_lt (by omega)]
  unfold proj
  have e1 : (⟨((at' (512 * b.val) 0 j) 0).val / 512, by have : ((at' (512 * b.val) 0 j) 0).val < 1024 := ((at' (512 * b.val) 0 j) 0).isLt; omega⟩ : Fin 2) = b := by
    apply Fin.ext; show _ / 512 = _; rw [e0]; omega
  rw [e1]
  have e2 : (ix2 ⟨((at' (512 * b.val) 0 j) 0).val % 512, Nat.mod_lt _ (by decide)⟩ ((at' (512 * b.val) 0 j) 1) : S512x768.Idx) = j := by
    funext a
    match a with
    | 0 => apply Fin.ext; show _ % 512 = _; rw [e0]; omega
    | 1 => rfl
  rw [e2]
  rfl

/-- The projection writes all rows of the partial product. -/
theorem wp_project (c : Dev nD) (w : Vec F S512x768 .bf16) (x : Vec F S1024x512 .bf16) (Q : PUnit → sProp 𝕄) :
    iprop(ownB c woM w ∗ ownB c cM x ∗ anyB c aM
        ∗ ((ownB c woM w ∗ ownB c cM x ∗ rowB c 0 1024 (proj w x)) -∗ Q ⟨⟩))
      ⊢ wpc c project Q := by
  have hz : (![0, 0] : Fin 2 → ℕ) = fun _ => 0 := by funext a; fin_cases a <;> rfl
  unfold project
  iintro ⟨Hw, Hx, Ha, Hk⟩
  unfold ownB
  icases Hw with ⟨%fw, %hw, Hw⟩
  have hw' : fw = w := hw
  subst hw'
  ihave Ha := (anyB_rows c) $$ Ha
  icases Ha with ⟨%Y, Ha0, Ha1⟩
  iapply (wpc_bind c _ _ _)
  iapply (wpc_load c (M := woM) (S := woM.view.set) (f := fw) (View.set_slice_subset _ _) _)
  isplitl [Hw]; · iexact Hw
  iintro Hw
  rw [show ((woM : Memref sig .tc .vmem S512x768 .bf16).access (Rect.unit (s := S512x768) ![0, 0] S512x768.size inb_S512x768_S512x768_0_0)).read (Elt F) fw = fw
      from Memref.readAt_unit_zero (Elt F) cc0_stg2_0 hz _ fw]
  iapply (wpc_bind c _ _ _)
  iapply (wp_projHalf c 0 fw x Y _)
  isplitl [Hx]; · unfold ownB; iexact Hx
  isplitl [Ha0]; · iexact Ha0
  iintro ⟨Hx, Ha0⟩
  iapply (wp_projHalf c 1 fw x Y _)
  isplitl [Hx]; · iexact Hx
  isplitl [Ha1]; · iexact Ha1
  iintro ⟨Hx, Ha1⟩
  iapply Hk
  isplitl [Hw]; · iexists fw; isplitr; · ipureintro; rfl
                  iexact Hw
  isplitl [Hx]; · unfold ownB; iexact Hx
  iapply (rowB_join c 0 512 512 (proj fw x))
  isplitl [Ha0]; · iexact Ha0
  iexact Ha1

/-! ## The result -/

abbrev outRect (b : Fin 2) : Rect S2x512x768 := Rect.unit (s := S2x512x768) ![b.val, 0, 0] S1x512x768.size (out_inb b)

/-- The stored block is the rows with a leading unit axis. -/
theorem pay1_eq (v : Vec F S512x768 .f32) (j : S1x512x768.Idx) : k0_pay1 v j = v (ix2 (j 1) (j 2)) := by
  have h := Shape.reshapeEquiv_eq_of_vals shapeCasts_S512x768_S1x512x768 j (ix2 (j 1) (j 2) : S512x768.Idx) ((j 1).val * 768 + (j 2).val) ((j 1).val * 768 + (j 2).val)
  unfold k0_pay1
  show v (Shape.reshapeEquiv _ j) = _
  simp only [pointwise]

/-- Writing one half of the result changes that sequence and no other. -/
theorem out_write (b : Fin 2) (X : Vec F S1024x768 .f32) (f : Vec F S2x512x768 .f32) :
    (oM : Memref sig .tc .vmem S2x512x768 .f32).view.read (Elt F) (((oM : Memref sig .tc .vmem S2x512x768 .f32).access (Rect.unit (s := S2x512x768) ![b.val, 0, 0] S1x512x768.size (out_inb b))).write (Elt F) f
        (k0_pay1 (((aM : Memref sig .tc .vmem S1024x768 .f32).access (Rect.unit (s := S1024x768) ![512 * b.val, 0] S512x768.size (halfA_inb b))).read (Elt F) X)) Finset.univ)
      = fun i : S2x512x768.Idx => if (i 0).val = b.val then outV X i else f i := by
  refine Eq.trans (View.read_whole cc0_stg3_0 _) ?_
  funext i
  by_cases hi : (i 0).val = b.val
  · rw [if_pos hi]
    have e : (outRect b).emb (ix3 0 (i 1) (i 2) : S1x512x768.Idx) = i := by
      funext a
      match a with
      | 0 => apply Fin.ext; show b.val + 1 * 0 = (i 0).val; rw [hi]; omega
      | 1 => apply Fin.ext; show 0 + 1 * (i 1).val = (i 1).val; omega
      | 2 => apply Fin.ext; show 0 + 1 * (i 2).val = (i 2).val; omega
    conv_lhs => rw [← e]
    refine Eq.trans (View.write_emb_of_mem (v := (oM : Memref sig .tc .vmem S2x512x768 .f32).access (outRect b)) (Val := Elt F) f _ (Finset.mem_univ _)) ?_
    refine Eq.trans (cast_eq _ _) ?_
    refine Eq.trans (pay1_eq _ _) ?_
    unfold outV
    refine congrArg X ?_
    funext a
    match a with
    | 0 => apply Fin.ext; show 512 * b.val + 1 * (i 1).val = 512 * (i 0).val + (i 1).val; rw [hi]; omega
    | 1 => apply Fin.ext; show 0 + 1 * (i 2).val = (i 2).val; omega
  · rw [if_neg hi]
    refine View.write_of_not_mem (v := (oM : Memref sig .tc .vmem S2x512x768 .f32).access (outRect b)) (Val := Elt F) f _ Finset.univ ?_
    intro hm
    obtain ⟨j', -, e'⟩ := Finset.mem_map.mp hm
    have e'' : (outRect b).emb j' = i := e'
    apply hi
    rw [← e'']
    show b.val + 1 * (j' 0).val = b.val
    have : (j' 0).val < 1 := (j' 0).isLt
    omega

/-- One half of the result is copied from the accumulator. -/
theorem wp_outHalf (c : Dev nD) (b : Fin 2) (X : Vec F S1024x768 .f32) (f : Vec F S2x512x768 .f32) (Q : PUnit → sProp 𝕄) :
    iprop(ownB c aM X ∗ ownB c oM f
        ∗ ((ownB c aM X ∗ ownB c oM (fun i => if (i 0).val = b.val then outV X i else f i)) -∗ Q ⟨⟩))
      ⊢ wpc c (outHalf b) Q := by
  unfold outHalf
  iintro ⟨Ha, Ho, Hk⟩
  ihave Ha := (ownB_whole_elim c cc0_scratch7 X) $$ Ha
  ihave Ho := (ownB_whole_elim c cc0_stg3_0 f) $$ Ho
  iapply (wpc_bind c _ _ _)
  iapply (wpc_load c (M := aM) (S := aM.view.set) (f := X) (View.set_slice_subset _ _) _)
  isplitl [Ha]; · iexact Ha
  iintro Ha
  iapply (wpc_bind c _ _ _)
  iapply (wpc_load c (M := oM) (S := oM.view.set) (f := f) (View.set_slice_subset _ _) _)
  isplitl [Ho]; · iexact Ho
  iintro Ho
  iapply (wpc_store c (M := oM) (S := oM.view.set) (f := f) (View.set_slice_subset _ _) _)
  isplitl [Ho]; · iexact Ho
  iintro Ho
  iapply Hk
  isplitl [Ha]; · iapply (ownB_intro c aM rfl) $$ Ha
  iapply (ownB_intro c oM (out_write b X f)) $$ Ho

/-- Both halves of the result. -/
theorem wp_out (c : Dev nD) (X : Vec F S1024x768 .f32) (Q : PUnit → sProp 𝕄) :
    iprop(ownB c aM X ∗ anyB c oM ∗ ((ownB c aM X ∗ ownB c oM (outV X)) -∗ Q ⟨⟩))
      ⊢ wpc c (do outHalf 0; outHalf 1) Q := by
  iintro ⟨Ha, Ho, Hk⟩
  unfold anyB
  icases Ho with ⟨%fo, Ho⟩
  iapply (wpc_bind c _ _ _)
  iapply (wp_outHalf c 0 X fo _)
  isplitl [Ha]; · iexact Ha
  isplitl [Ho]; · iapply (ownB_intro c oM rfl) $$ Ho
  iintro ⟨Ha, Ho⟩
  iapply (wp_outHalf c 1 X _ _)
  isplitl [Ha]; · iexact Ha
  isplitl [Ho]; · iexact Ho
  iintro ⟨Ha, Ho⟩
  iapply Hk
  isplitl [Ha]; · iexact Ha
  have e : (fun i : S2x512x768.Idx => if (i 0).val = (1 : Fin 2).val then outV X i else if (i 0).val = (0 : Fin 2).val then outV X i else fo i) = outV X := by
    funext i
    by_cases h1 : (i 0).val = (1 : Fin 2).val
    · rw [if_pos h1]
    · rw [if_neg h1, if_pos (by
        have a : (i 0).val < 2 := (i 0).isLt
        have b : (i 0).val ≠ 1 := h1
        show (i 0).val = 0
        omega)]
  iapply (Entails.of_eq (congrArg (ownB c oM) e)) $$ Ho

end Cert.KernelIdeal.Attn
-- ==== Proof.PIdeal.Scatter.lean ====
/-
Device 0 hands out the keys and the values: a turn of the scatter, for every device and slot.
-/
module

public import proofs.«01_k».proof.Proof.PIdeal.Heads
public import Idealize.ShloMosaic.Lib.Pointwise.Reshape

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

open Idealize.ShloMosaic.Transfers (Flight)

/-! ## Slots of the staging buffers -/

section Slots
variable {e : EltTy} (B : Memref sig .tc .vmem S2x2x512x512 e) (σ : Fin 2)

/-- A slot's view covers what its rectangle covers. -/
theorem slot_set : (slotOf B σ).view.set = (B.access (slotRect σ)).set := View.set_reshape _ _
/-- Reading a slot is reading its rectangle without the leading unit axis. -/
theorem slot_read (f : B.view.ty.Contents (Elt F)) :
    (slotOf B σ).view.read (Elt F) f = shapeCast S2x512x512 ((B.access (slotRect σ)).read (Elt F) f) shapeCasts_S1x2x512x512_S2x512x512 := rfl
end Slots

/-- Both staging slots have the same credit. -/
theorem st_credit (t : Fin 2) : (slotOf stM t).view.dmaCredit = (slotOf stM 0).view.dmaCredit := by
  match t with | 0 => rfl | 1 => rfl
abbrev NS : ℕ := (slotOf stM 0).view.dmaCredit
/-- A staged copy credits something. -/
theorem NS_pos : 0 < NS := View.dmaCredit_pos (slotOf stM 0).view (by simp [Shape.numel, Fin.prod_univ_succ])
/-- The local copies' semaphores belong to no channel. -/
theorem loc_none (t : Fin 2) : chOf (locS t) = none := by revert t; decide

/-- The 512 columns from `o`, and the same rounded. -/
def colV (X : Vec F S2x512x4096 .f32) (o : ℕ) (h : Inb o) : Vec F S2x512x512 .f32 := fun j =>
  X ((Rect.unit (s := S2x512x4096) ![0, 0, o] S2x512x512.size h).emb j)
def rnd (X : Vec F S2x512x512 .f32) : Vec F S2x512x512 .bf16 := fun j => FloatOps.truncf .bf16 bitsLt_bf16_f32 (X j)
def blk (X : Vec F S2x512x4096 .f32) (o : ℕ) (h : Inb o) : Vec F S2x512x512 .bf16 := rnd (colV X o h)

/-- The block stored into a slot is the staged block, rounded. -/
theorem pay3_slot (v : Vec F S1x2x512x512 .f32) :
    shapeCast S2x512x512 (k0_pay3 v) shapeCasts_S1x2x512x512_S2x512x512 = rnd (shapeCast S2x512x512 v shapeCasts_S1x2x512x512_S2x512x512) := by
  unfold k0_pay3 rnd
  simp only [shapeCast_comp, shapeCast_id]; rfl
/-- The block device 0 keeps is the staged block, rounded. -/
theorem pay17_slot (v : Vec F S1x2x512x512 .f32) : k0_pay17 v = rnd (shapeCast S2x512x512 v shapeCasts_S1x2x512x512_S2x512x512) := by
  unfold k0_pay17 rnd
  simp only [shapeCast_id]; rfl

/-- A copy within device 0 is in flight; at its end comes `P`. -/
def fly (t : Fin 2) (P : sProp 𝕄) : sProp 𝕄 :=
  iprop(∃ D, Flight EC ((0 : Dev nD) : Thread nD τ) (.dma (locS t)) () NS D ∗ (D -∗ P))
/-- The staged block with its source. -/
def staged (M : Memref sig .tc .hbm S2x512x4096 .f32) (t : Fin 2) (X : Vec F S2x512x4096 .f32) (o : ℕ) (h : Inb o) : sProp 𝕄 :=
  iprop(ownB 0 (slotOf stM t) (colV X o h) ∗ ownB 0 M X)
def lsem (t : Fin 2) : sProp 𝕄 := semVal (((0 : Dev nD) : Thread nD τ), .dma (locS t)) 0

/-- Fetching columns into a staging slot puts their copy in flight. -/
theorem wp_fetch (M : Memref sig .tc .hbm S2x512x4096 .f32) (t : Fin 2) (X : Vec F S2x512x4096 .f32) (o : ℕ) (h : Inb o)
    {hsrc : (colSl M o h).view.WordExact} {hdst : (slotOf stM t).view.WordExact}
    {hsem : DmaTarget.Typed (nD := nD) (τ := τ) (p := .tc) .hbm (.dma (locS t)) (.here (slotOf stM t))} (Q : PUnit → sProp 𝕄) :
    iprop(ownB 0 M X ∗ anyB 0 (slotOf stM t) ∗ lsem t ∗ (fly t (staged M t X o h) -∗ Q ⟨⟩))
      ⊢ wpc 0 (Prog.lift (.enqueueDma (colSl M o h) (.here (slotOf stM t)) (.dma (locS t)) hsrc hdst hsem)) Q := by
  have hsub : (colSl M o h).view.set ⊆ M.view.set := View.set_slice_subset _ _
  iintro ⟨HM, Hst, Hv, Hk⟩
  unfold ownB anyB lsem
  icases HM with ⟨%f, %hf, HM⟩
  icases Hst with ⟨%g, Hst⟩
  ihave HM' := (pointsTo_split_subset (ℓ := M.view.loc ((0 : Dev nD) : Thread nD τ)) (q := fullShare) (f := f) (I := (colSl M o h).view.set) (S := M.view.set) hsub).1 $$ HM
  icases HM' with ⟨HM1, HM2⟩
  iapply (wpc_copy 0 (src := colSl M o h) (dst := slotOf stM t) (fs := f) (fd := g) (st_credit t) NS_pos Q)
  isplitl [HM1]; · iexact HM1
  isplitl [Hst]; · iexact Hst
  isplitl [Hv]; · iexact Hv
  iintro Hf
  iapply Hk
  unfold fly staged
  iexists _
  isplitl [Hf]; · iexact Hf
  iintro ⟨Hd, Hs⟩
  isplitl [Hd]
  · iapply (ownB_intro 0 (slotOf stM t) (by
      rw [View.read_write_univ]
      show _ = colV X o h
      unfold colV; rw [← hf]; rfl)) $$ Hd
  · unfold ownB; iexists f
    isplitr
    · ipureintro; exact hf
    iapply (pointsTo_split_subset (ℓ := M.view.loc ((0 : Dev nD) : Thread nD τ)) (q := fullShare) (f := f) (I := (colSl M o h).view.set) (S := M.view.set) hsub).2
    isplitl [Hs]; · iexact Hs
    iexact HM2

/-- The wait for a staged block. -/
theorem wp_fetched {sp' : Space} {s' : Shape} {e' : EltTy} (t : Fin 2) {src : Memref sig .tc sp' s' e'} {hsrc : src.view.WordExact}
    {hdst : (slotOf stM t).view.WordExact} (P : sProp 𝕄) {O : CellTallies nD τ sig Unit} (hO : Above 0 O) (Q : PUnit → sProp 𝕄) :
    iprop(levAts L lv ∗ fly t P ∗ ow 0 O ∗ ((P ∗ lsem t ∗ ow 0 O) -∗ Q ⟨⟩))
      ⊢ wpc 0 (Prog.lift (.waitDma2 (locS t) src (slotOf stM t) hsrc hdst)) Q := by
  unfold fly lsem
  iintro ⟨Hl, ⟨%D, Hf, Hw⟩, Ho, Hk⟩
  iapply (wpc_copied 0 (st_credit t) (loc_none t) hO D Q)
  isplitl [Hl]; · iexact Hl
  isplitl [Hf]; · iexact Hf
  isplitl [Ho]; · iexact Ho
  iintro ⟨HD, Hv, Ho⟩
  iapply Hk
  isplitl [HD Hw]; · iapply Hw; iexact HD
  isplitl [Hv]; · iexact Hv
  iexact Ho

variable (V : Vals F) (κ : GSem nD τ sig → ℕ)

/-- Rounding a staged block into a slot and sending it, for keys and values alike. -/
def ship (M : Memref sig .tc .hbm S2x512x4096 .f32) (t : Fin 2) (B : Memref sig .tc .vmem S2x2x512x512 .bf16)
    (Lb : Memref sig .tc .vmem S2x512x512 .bf16) (k₁ k₂ : Ch) (o : ℕ) (h : Inb o) (σ : Fin 2) (n : Dev nD)
    (hB : (B.access (slotRect σ)).Stores Finset.univ) (hw : (slotOf B σ).view.WordExact) (hL : Lb.view.WordExact)
    (hsc : Lb.view.ref.isScScratch = false)
    (hsem : DmaTarget.Typed (nD := nD) (τ := τ) (p := .tc) .vmem (.dma k₂.sem) (.remote (Dev.tc n : Thread nD τ) Lb (.dma k₁.sem) hsc)) : PP F PUnit := do
  Prog.lift (.waitDma2 (locS t) (colSl M o h) (slotOf stM t) (View.wordExact_bits rfl) ((View.wordExact_bits rfl).reshape _ _))
  let v : Vec F S1x2x512x512 .f32 ← Prog.lift (.load stM (slotRect t).toLoadRect (View.loadsAt_vmem h_S1x2x512x512))
  let _w : Vec F S1x2x512x512 .bf16 ← Prog.lift (.load B (slotRect σ).toLoadRect (View.loadsAt_vmem h_S1x2x512x512))
  Prog.lift (.store B (slotRect σ) (k0_pay3 v) Finset.univ hB (.inl rfl))
  Prog.lift (.enqueueDma (slotOf B σ) (.remote (Dev.tc n) Lb (.dma k₁.sem) hsc) (.dma k₂.sem) hw hL hsem)

/-- Shipping a staged block rounds it into a slot and pays the receiver's channel. -/
theorem wp_ship (M : Memref sig .tc .hbm S2x512x4096 .f32) (t : Fin 2) (B : Memref sig .tc .vmem S2x2x512x512 .bf16)
    (Lb : Memref sig .tc .vmem S2x512x512 .bf16) (k₁ k₂ : Ch) (o : ℕ) (h : Inb o) (σ : Fin 2) (n : Dev nD) (hB hw hL hsc hsem)
    (h₁ : used 0 k₁) (h₂ : used n k₂) (hN : Lb.view.dmaCredit = amt k₂) (ha : amt k₁ = amt k₂)
    (X : Vec F S2x512x4096 .f32) (R : sProp 𝕄) {O : CellTallies nD τ sig Unit} (hO : Above 0 (O + tallyAt (cell n k₂) () (amt k₂)))
    (hp₁ : anyB 0 (slotOf B σ) ⊢ pay V 0 k₁) (hp₂ : iprop(ownB n Lb (blk X o h) ∗ R) ⊢ pay V n k₂) (Q : PUnit → sProp 𝕄) :
    iprop(known V κ ∗ rch 0 ∗ rch n ∗ fly t (staged M t X o h) ∗ anyB 0 (slotOf B σ) ∗ anyB n Lb ∗ R
        ∗ ow 0 (O + tallyAt (cell n k₂) () (amt k₂)) ∗ may 0 k₁ ∗ may n k₂
        ∗ ((ownB 0 M X ∗ anyB 0 (slotOf stM t) ∗ lsem t ∗ cred (tallyAt (cell 0 k₁) () (amt k₁)) ∗ ow 0 O) -∗ Q ⟨⟩))
      ⊢ wpc 0 (ship M t B Lb k₁ k₂ o h σ n hB hw hL hsc hsem) Q := by
  unfold ship
  iintro ⟨#Hkn, #Hr0, #Hrn, Hf, HB, HL, HR, Ho, Ht1, Ht2, Hk⟩
  iapply (wpc_bind 0 _ _ _)
  iapply (wp_fetched t _ hO _)
  isplitr; · iapply (known_lev V κ) $$ Hkn
  isplitl [Hf]; · iexact Hf
  isplitl [Ho]; · iexact Ho
  iintro ⟨HP, Hv, Ho⟩
  unfold staged
  icases HP with ⟨Hst, HM⟩
  unfold ownB anyB
  icases Hst with ⟨%fs, %hfs, Hst⟩
  icases HB with ⟨%fb, HB⟩
  icases HL with ⟨%fl, HL⟩
  iapply (wpc_bind 0 _ _ _)
  iapply (wpc_load 0 (M := stM) (r := slotRect t) (S := (slotOf stM t).view.set) (f := fs) (by rw [slot_set]) _)
  isplitl [Hst]; · iexact Hst
  iintro Hst
  iapply (wpc_bind 0 _ _ _)
  iapply (wpc_load 0 (M := B) (r := slotRect σ) (S := (slotOf B σ).view.set) (f := fb) (by rw [slot_set]) _)
  isplitl [HB]; · iexact HB
  iintro HB
  iapply (wpc_bind 0 _ _ _)
  iapply (wpc_store 0 (M := B) (r := slotRect σ) (S := (slotOf B σ).view.set) (f := fb) (by rw [slot_set]) _)
  isplitl [HB]; · iexact HB
  iintro HB
  iapply (wp_chan_send V κ 0 n k₁ k₂ h₁ h₂ hN ha (X := R) (O := O)
    (fs := (B.access (slotRect σ)).write (Elt F) fb (k0_pay3 ((stM.access (slotRect t)).read (Elt F) fs)) Finset.univ) (fd := fl)
    ((anyB_intro 0 (slotOf B σ) _).trans hp₁)
    ((BIClass.sep_mono (ownB_intro n Lb (by
      rw [View.read_write_univ, slot_read, View.read_write_univ, pay3_slot, ← slot_read stM t fs, hfs]; rfl)) BIBase.Entails.rfl).trans hp₂) Q)
  isplitr; · iexact Hkn
  isplitl [HB]; · iexact HB
  isplitl [HL]; · iexact HL
  isplitl [HR]; · iexact HR
  isplitl [Ho]; · iexact Ho
  isplitl [Ht1]; · iexact Ht1
  isplitr; · iapply (rch_at 0 k₁) $$ Hr0
  isplitl [Ht2]; · iexact Ht2
  isplitr; · iapply (rch_at n k₂) $$ Hrn
  iintro ⟨Hc, Ho⟩
  iapply Hk
  isplitl [HM]; · iexact HM
  isplitl [Hst]; · iexists fs; iexact Hst
  isplitl [Hv]; · iexact Hv
  isplitl [Hc]; · iexact Hc
  iexact Ho

/-- Rounding a staged block into device 0's own landing buffer. -/
def keep (M : Memref sig .tc .hbm S2x512x4096 .f32) (t : Fin 2) (Lb : Memref sig .tc .vmem S2x512x512 .bf16)
    (hB : (Lb.access (Rect.unit (s := S2x512x512) ![0, 0, 0] S2x512x512.size inb_S2x512x512_S2x512x512_0_0_0)).Stores Finset.univ) : PP F PUnit := do
  Prog.lift (.waitDma2 (locS t) (colSl M 0 inb_S2x512x4096_S2x512x512_0_0_0) (slotOf stM t) (View.wordExact_bits rfl) ((View.wordExact_bits rfl).reshape _ _))
  let v : Vec F S1x2x512x512 .f32 ← Prog.lift (.load stM (slotRect t).toLoadRect (View.loadsAt_vmem h_S1x2x512x512))
  let _w : Vec F S2x512x512 .bf16 ← Prog.lift (.load Lb (Rect.unit (s := S2x512x512) ![0, 0, 0] S2x512x512.size inb_S2x512x512_S2x512x512_0_0_0).toLoadRect (View.loadsAt_vmem h_S2x512x512))
  Prog.lift (.store Lb (Rect.unit (s := S2x512x512) ![0, 0, 0] S2x512x512.size inb_S2x512x512_S2x512x512_0_0_0) (k0_pay17 v) Finset.univ hB (.inl rfl))

/-- Keeping a staged block leaves it, rounded, in device 0's landing buffer. -/
theorem wp_keep (M : Memref sig .tc .hbm S2x512x4096 .f32) (t : Fin 2) (Lb : Memref sig .tc .vmem S2x512x512 .bf16) (hB)
    (hL : ∀ (f : Lb.view.ty.Contents (Elt F)) (w : Vec F S2x512x512 .bf16),
      Lb.view.read (Elt F) ((Lb.access (Rect.unit (s := S2x512x512) ![0, 0, 0] S2x512x512.size inb_S2x512x512_S2x512x512_0_0_0)).write (Elt F) f w Finset.univ) = w)
    (X : Vec F S2x512x4096 .f32) {O : CellTallies nD τ sig Unit} (hO : Above 0 O) (Q : PUnit → sProp 𝕄) :
    iprop(levAts L lv ∗ fly t (staged M t X 0 inb_S2x512x4096_S2x512x512_0_0_0) ∗ anyB 0 Lb ∗ ow 0 O
        ∗ ((ownB 0 M X ∗ anyB 0 (slotOf stM t) ∗ lsem t ∗ ownB 0 Lb (blk X 0 inb_S2x512x4096_S2x512x512_0_0_0) ∗ ow 0 O) -∗ Q ⟨⟩))
      ⊢ wpc 0 (keep M t Lb hB) Q := by
  unfold keep
  iintro ⟨Hl, Hf, HB, Ho, Hk⟩
  iapply (wpc_bind 0 _ _ _)
  iapply (wp_fetched t _ hO _)
  isplitl [Hl]; · iexact Hl
  isplitl [Hf]; · iexact Hf
  isplitl [Ho]; · iexact Ho
  iintro ⟨HP, Hv, Ho⟩
  unfold staged
  icases HP with ⟨Hst, HM⟩
  unfold anyB
  icases HB with ⟨%fb, HB⟩
  ihave Hst' := (show ownB (F := F) 0 (slotOf stM t) (colV X 0 inb_S2x512x4096_S2x512x512_0_0_0) ⊢ _ from by unfold ownB; exact BIBase.Entails.rfl) $$ Hst
  icases Hst' with ⟨%fs, %hfs, Hst⟩
  iapply (wpc_bind 0 _ _ _)
  iapply (wpc_load 0 (M := stM) (r := slotRect t) (S := (slotOf stM t).view.set) (f := fs) (by rw [slot_set]) _)
  isplitl [Hst]; · iexact Hst
  iintro Hst
  iapply (wpc_bind 0 _ _ _)
  iapply (wpc_load 0 (M := Lb) (S := Lb.view.set) (f := fb) (View.set_slice_subset _ _) _)
  isplitl [HB]; · iexact HB
  iintro HB
  iapply (wpc_store 0 (M := Lb) (S := Lb.view.set) (f := fb) (View.set_slice_subset _ _) _)
  isplitl [HB]; · iexact HB
  iintro HB
  iapply Hk
  isplitl [HM]; · iexact HM
  isplitl [Hst]; · iexists fs; iexact Hst
  isplitl [Hv]; · iexact Hv
  isplitl [HB]
  · iapply (ownB_intro 0 Lb (by
      rw [hL, pay17_slot, ← slot_read stM t fs, hfs]; rfl)) $$ HB
  iexact Ho

end Cert.KernelIdeal.Attn
-- ==== Proof.PIdeal.Turns.lean ====
/-
The order of the scatter on device 0, from the barrier to its own block, and the waits at its end.
-/
module

public import proofs.«01_k».proof.Proof.PIdeal.Scatter
public import Idealize.ShloMosaic.Lib.Pipeline.BigSepL

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

open Idealize.ShloMosaic.Transfers (Flight)
variable (V : Vals F) (κ : GSem nD τ sig → ℕ)

/-- Everyone's channels have begun. -/
def allr : sProp 𝕄 := bigSep Finset.univ fun c : Dev nD => rch c
instance allr_persistent : BI.Persistent (allr (F := F)) := by unfold allr; infer_instance
/-- When everyone's channels have begun, so have one device's. -/
theorem allr_at (c : Dev nD) : allr (F := F) ⊢ rch c := by
  unfold allr; exact bigSep_elim (Finset.mem_univ c)

/-- Device 0's keys, values, staging slots and local semaphores. -/
def base (K W : Vec F S2x512x4096 .f32) : sProp 𝕄 :=
  iprop(ownB 0 kM K ∗ ownB 0 vM W ∗ (anyB 0 (slotOf stM 0) ∗ anyB 0 (slotOf stM 1)) ∗ lsem 0 ∗ lsem 1)
/-- What is used up when device `m` is sent its keys and values. -/
def give (m : Dev nD) : sProp 𝕄 :=
  iprop(may 0 (.ks m) ∗ may 0 (.vs m) ∗ may m .kr ∗ may m .vr ∗ at0 0 (.ks m) ∗ at0 0 (.vs m) ∗ anyB m kbM ∗ anyB m vbM ∗ partners m)
/-- What is held while the blocks sent to `p` have not been seen to leave. -/
def sent (p : Dev nD) : sProp 𝕄 :=
  iprop(cred (tallyAt (cell 0 (.ks p)) () (amt (.ks p))) ∗ cred (tallyAt (cell 0 (.vs p)) () (amt (.vs p))) ∗ at0 0 (.ks p) ∗ at0 0 (.vs p))
def slots (σ : Fin 2) : sProp 𝕄 := iprop(anyB 0 (slotOf ksM σ) ∗ anyB 0 (slotOf vsM σ))
def closed (p : Dev nD) : sProp 𝕄 := iprop(shut 0 (.ks p) ∗ shut 0 (.vs p))

/-- A slot of keys or of values credits one block. -/
theorem slot_credit (σ : Fin 2) : (slotOf ksM σ).view.dmaCredit = NK ∧ (slotOf vsM σ).view.dmaCredit = NK := by
  match σ with | 0 => exact ⟨rfl, rfl⟩ | 1 => exact ⟨rfl, rfl⟩

/-- The wait for the blocks sent to `p`: their slot is free. -/
theorem wp_flush (p : Dev nD) (σ : Fin 2) (hp : p ≠ 0) (hσ : slotFor p = σ) {O : CellTallies nD τ sig Unit} (hO : Above 0 O)
    (k : PUnit → PP F PUnit) (Q : PUnit → sProp 𝕄) :
    iprop(known V κ ∗ sent p ∗ ow 0 O ∗ ((slots σ ∗ closed p ∗ ow 0 O) -∗ wpc 0 (k ⟨⟩) Q))
      ⊢ wpc 0 (do flushK p σ; let a ← flushV p σ; k a) Q := by
  subst hσ
  unfold sent slots closed flushK flushV
  iintro ⟨#Hkn, ⟨Hc1, Hc2, Ha1, Ha2⟩, Ho, Hk⟩
  iapply (wpc_bind 0 _ _ _)
  iapply (wp_chan_wait V κ 0 (.ks p) ⟨rfl, hp⟩ (slot_credit (slotFor p)).1 hO (Nat.zero_le _) _)
  isplitr; · iexact Hkn
  isplitl [Ha1]; · iexact Ha1
  isplitl [Hc1]; · iexact Hc1
  isplitl [Ho]; · iexact Ho
  iintro ⟨Hs1, Hz1, Ho⟩
  iapply (wpc_bind 0 _ _ _)
  iapply (wp_chan_wait V κ 0 (.vs p) ⟨rfl, hp⟩ (slot_credit (slotFor p)).2 hO (Nat.zero_le _) _)
  isplitr; · iexact Hkn
  isplitl [Ha2]; · iexact Ha2
  isplitl [Hc2]; · iexact Hc2
  isplitl [Ho]; · iexact Ho
  iintro ⟨Hs2, Hz2, Ho⟩
  iapply Hk
  isplitl [Hs1 Hs2]
  · isplitl [Hs1]
    · unfold pay; iexact Hs1
    · unfold pay; iexact Hs2
  isplitl [Hz1 Hz2]
  · isplitl [Hz1]; · iexact Hz1
    iexact Hz2
  iexact Ho

/-- The fetch of a block of keys and a block of values. -/
theorem wp_copyIn (K W : Vec F S2x512x4096 .f32) (o : ℕ) (h : Inb o) (Q : PUnit → sProp 𝕄) :
    iprop(base K W ∗ ((fly 0 (staged kM 0 K o h) ∗ fly 1 (staged vM 1 W o h)) -∗ Q ⟨⟩)) ⊢ wpc 0 (copyIn o h) Q := by
  unfold base copyIn
  iintro ⟨⟨HK, HW, ⟨Hs0, Hs1⟩, Hl0, Hl1⟩, Hk⟩
  iapply (wpc_bind 0 _ _ _)
  iapply (wp_fetch kM 0 K o h _)
  isplitl [HK]; · iexact HK
  isplitl [Hs0]; · iexact Hs0
  isplitl [Hl0]; · iexact Hl0
  iintro Hf0
  iapply (wp_fetch vM 1 W o h _)
  isplitl [HW]; · iexact HW
  isplitl [Hs1]; · iexact Hs1
  isplitl [Hl1]; · iexact Hl1
  iintro Hf1
  iapply Hk
  isplitl [Hf0]; · iexact Hf0
  iexact Hf1

/-- The two blocks rounded and sent. -/
theorem wp_ships (K W : Vec F S2x512x4096 .f32) (o : ℕ) (h : Inb o) (m n n' : Dev nD) (σ : Fin 2) (hm : m ≠ 0) (hσ : slotFor m = σ)
    (hn : n = m) (hn' : n' = m) (hk : V.kp m = blk K o h) (hv : V.vp m = blk W o h) (l : List (Fin 8)) (Q : PUnit → sProp 𝕄) :
    iprop(known V κ ∗ allr ∗ (fly 0 (staged kM 0 K o h) ∗ fly 1 (staged vM 1 W o h)) ∗ slots σ ∗ give m ∗ ow 0 (OS (m :: l))
        ∗ ((base K W ∗ sent m ∗ ow 0 (OS l)) -∗ Q ⟨⟩))
      ⊢ wpc 0 (do shipK o h m σ n; shipV o h m σ n') Q := by
  subst hn hn' hσ
  unfold slots give base sent
  iintro ⟨#Hkn, #Hall, ⟨Hf0, Hf1⟩, ⟨Hs1, Hs2⟩, ⟨Ht1, Ht2, Hu1, Hu2, Ha1, Ha2, Hk1, Hv1, Hp⟩, Ho, Hk⟩
  have e1 : ∀ hB hw hL hsc hsem, shipK (F := F) o h n' (slotFor n') n' = ship kM 0 ksM kbM (.ks n') .kr o h (slotFor n') n' hB hw hL hsc hsem :=
    fun _ _ _ _ _ => rfl
  have e2 : ∀ hB hw hL hsc hsem, shipV (F := F) o h n' (slotFor n') n' = ship vM 1 vsM vbM (.vs n') .vr o h (slotFor n') n' hB hw hL hsc hsem :=
    fun _ _ _ _ _ => rfl
  rw [e1 (View.stores_vmem h_S1x2x512x512 ((Memref.isWhole_whole cc0_scratch0).storeExact_slice rfl _ (slotPacked _)) (fun _ => rfl))
      (((Memref.isWhole_whole cc0_scratch0).wordExact_slice rfl _ (slotWords _)).reshape _ _) (Memref.isWhole_whole _).wordExact rfl
      ⟨⟨rfl, Or.inl rfl⟩, trivial⟩,
    e2 (View.stores_vmem h_S1x2x512x512 ((Memref.isWhole_whole cc0_scratch1).storeExact_slice rfl _ (slotPacked _)) (fun _ => rfl))
      (((Memref.isWhole_whole cc0_scratch1).wordExact_slice rfl _ (slotWords _)).reshape _ _) (Memref.isWhole_whole _).wordExact rfl
      ⟨⟨rfl, Or.inl rfl⟩, trivial⟩]
  iapply (wpc_bind 0 _ _ _)
  iapply (wp_ship V κ kM 0 ksM kbM (.ks n') .kr o h (slotFor n') n' _ _ _ _ _ ⟨rfl, hm⟩ hm rfl rfl K (partners n') (O := OS l + vO n')
    ((above_OS (n' :: l)).mono (Nat.zero_le _)) BIBase.Entails.rfl (by rw [← hk]; exact BIBase.Entails.rfl) _)
  isplitr; · iexact Hkn
  isplitr; · iapply (allr_at 0) $$ Hall
  isplitr; · iapply (allr_at n') $$ Hall
  isplitl [Hf0]; · iexact Hf0
  isplitl [Hs1]; · iexact Hs1
  isplitl [Hk1]; · iexact Hk1
  isplitl [Hp]; · iexact Hp
  isplitl [Ho]; · iexact Ho
  isplitl [Ht1]; · iexact Ht1
  isplitl [Hu1]; · iexact Hu1
  iintro ⟨HK, Hst0, Hl0, Hc1, Ho⟩
  iapply (wp_ship V κ vM 1 vsM vbM (.vs n') .vr o h (slotFor n') n' _ _ _ _ _ ⟨rfl, hm⟩ hm rfl rfl W iprop(emp) (O := OS l)
    (above_add ((above_OS l).mono (Nat.zero_le _)) (above_ch _ _ _ (by decide))) BIBase.Entails.rfl
    (by rw [← hv]; show _ ⊢ ownB n' vbM (V.vp n'); iintro ⟨H, -⟩; iexact H) _)
  isplitr; · iexact Hkn
  isplitr; · iapply (allr_at 0) $$ Hall
  isplitr; · iapply (allr_at n') $$ Hall
  isplitl [Hf1]; · iexact Hf1
  isplitl [Hs2]; · iexact Hs2
  isplitl [Hv1]; · iexact Hv1
  isplitr; · iempintro
  isplitl [Ho]; · iexact Ho
  isplitl [Ht2]; · iexact Ht2
  isplitl [Hu2]; · iexact Hu2
  iintro ⟨HW, Hst1, Hl1, Hc2, Ho⟩
  iapply Hk
  isplitl [HK HW Hst0 Hst1 Hl0 Hl1]
  · isplitl [HK]; · iexact HK
    isplitl [HW]; · iexact HW
    isplitl [Hst0 Hst1]
    · isplitl [Hst0]; · iexact Hst0
      iexact Hst1
    isplitl [Hl0]; · iexact Hl0
    iexact Hl1
  isplitl [Hc1 Hc2 Ha1 Ha2]
  · isplitl [Hc1]; · iexact Hc1
    isplitl [Hc2]; · iexact Hc2
    isplitl [Ha1]; · iexact Ha1
    iexact Ha2
  iexact Ho

/-! ## The state between turns -/

/-- A slot of the key and value buffers: free, or filled for a device. -/
def hold (σ : Fin 2) : Option (Fin 8) → sProp 𝕄
  | none => slots σ
  | some p => iprop(⌜slotFor p = σ ∧ p ≠ 0⌝ ∗ sent p)
def other (σ : Fin 2) : Fin 2 := match σ with | 0 => 1 | 1 => 0
/-- The other slot's other slot is the slot. -/
theorem other_other (σ : Fin 2) : other (other σ) = σ := by revert σ; decide
/-- Between turns: slot `σ` is next, in state `a`; the other in state `b`; the devices of `l` remain; those of `D` are done. -/
def St (K W : Vec F S2x512x4096 .f32) (σ : Fin 2) (a b : Option (Fin 8)) (l D : List (Fin 8)) : sProp 𝕄 :=
  iprop(base K W ∗ hold σ a ∗ hold (other σ) b ∗ bigSepL l give ∗ bigSepL D closed ∗ ow 0 (OS l))

/-- One turn through a free slot serves device `m`. -/
theorem wp_turn (K W : Vec F S2x512x4096 .f32) (o : ℕ) (h : Inb o) (m n n' : Dev nD) (σ : Fin 2) (hm : m ≠ 0) (hσ : slotFor m = σ)
    (hn : n = m) (hn' : n' = m) (hk : V.kp m = blk K o h) (hv : V.vp m = blk W o h) (b : Option (Fin 8)) (l D : List (Fin 8)) (Q : PUnit → sProp 𝕄) :
    iprop(known V κ ∗ allr ∗ St K W σ none b (m :: l) D ∗ (St K W (other σ) b (some m) l D -∗ Q ⟨⟩))
      ⊢ wpc 0 (turn o h m σ n n') Q := by
  unfold St turn
  rw [bigSepL_cons', other_other]
  iintro ⟨#Hkn, #Hall, ⟨Hb, Hs, Hs', ⟨Hg, Hl⟩, HD, Ho⟩, Hk⟩
  iapply (wpc_bind 0 _ _ _)
  iapply (wp_copyIn K W o h _)
  isplitl [Hb]; · iexact Hb
  iintro Hf
  iapply (wp_ships V κ K W o h m n n' σ hm hσ hn hn' hk hv l _)
  isplitr; · iexact Hkn
  isplitr; · iexact Hall
  isplitl [Hf]; · iexact Hf
  isplitl [Hs]; · unfold hold; iexact Hs
  isplitl [Hg]; · iexact Hg
  isplitl [Ho]; · iexact Ho
  iintro ⟨Hb, Hm, Ho⟩
  iapply Hk
  isplitl [Hb]; · iexact Hb
  isplitl [Hs']; · iexact Hs'
  isplitl [Hm]
  · unfold hold
    isplitr
    · ipureintro; exact ⟨hσ, hm⟩
    iexact Hm
  isplitl [Hl]; · iexact Hl
  isplitl [HD]; · iexact HD
  iexact Ho

/-- One turn through a slot still leaving for `p` waits for it, then serves device `m`. -/
theorem wp_turnAfter (K W : Vec F S2x512x4096 .f32) (p : Fin 8) (o : ℕ) (h : Inb o) (m n n' : Dev nD) (σ : Fin 2) (hm : m ≠ 0) (hσ : slotFor m = σ)
    (hn : n = m) (hn' : n' = m) (hk : V.kp m = blk K o h) (hv : V.vp m = blk W o h) (b : Option (Fin 8)) (l D : List (Fin 8)) (Q : PUnit → sProp 𝕄) :
    iprop(known V κ ∗ allr ∗ St K W σ (some p) b (m :: l) D ∗ (St K W (other σ) b (some m) l (p :: D) -∗ Q ⟨⟩))
      ⊢ wpc 0 (turnAfter p o h m σ n n') Q := by
  unfold St turnAfter
  rw [bigSepL_cons', bigSepL_cons', other_other]
  iintro ⟨#Hkn, #Hall, ⟨Hb, Hs, Hs', ⟨Hg, Hl⟩, HD, Ho⟩, Hk⟩
  unfold hold
  icases Hs with ⟨%hp, Hs⟩
  iapply (wpc_bind 0 _ _ _)
  iapply (wp_copyIn K W o h _)
  isplitl [Hb]; · iexact Hb
  iintro Hf
  iapply (wp_flush V κ p σ hp.2 hp.1 ((above_OS (m :: l)).mono (Nat.zero_le _)) _ _)
  isplitr; · iexact Hkn
  isplitl [Hs]; · iexact Hs
  isplitl [Ho]; · iexact Ho
  iintro ⟨Hs, Hc, Ho⟩
  iapply (wp_ships V κ K W o h m n n' σ hm hσ hn hn' hk hv l _)
  isplitr; · iexact Hkn
  isplitr; · iexact Hall
  isplitl [Hf]; · iexact Hf
  isplitl [Hs]; · iexact Hs
  isplitl [Hg]; · iexact Hg
  isplitl [Ho]; · iexact Ho
  iintro ⟨Hb, Hm, Ho⟩
  iapply Hk
  isplitl [Hb]; · iexact Hb
  isplitl [Hs']; · iexact Hs'
  isplitl [Hm]
  · isplitr
    · ipureintro; exact ⟨hσ, hm⟩
    iexact Hm
  isplitl [Hl]; · iexact Hl
  isplitl [HD Hc]
  · isplitl [Hc]; · iexact Hc
    iexact HD
  iexact Ho

end Cert.KernelIdeal.Attn
-- ==== Proof.PIdeal.Front.lean ====
/-
The front of the body: the barrier, the scatter on device 0 and the wait for it elsewhere, the attention, the projection.
-/
module

public import proofs.«01_k».proof.Proof.PIdeal.Turns

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

open Idealize.ShloMosaic.Transfers (Flight)
variable (V : Vals F) (κ : GSem nD τ sig → ℕ)

/-- A device's own landing buffers of the exchange, and its partners'. -/
def recvs (c : Dev nD) : sProp 𝕄 := bigSep Finset.univ fun r : Fin 3 => anyB c (rcvM r)
def recvsP (c : Dev nD) : sProp 𝕄 := bigSep Finset.univ fun r : Fin 3 => anyB (pt r c) (rcvM r)

/-- Over all devices, own landing buffers and partners' landing buffers are the same resources. -/
theorem recvs_around : bigSep Finset.univ (recvs (F := F)) = bigSep Finset.univ (recvsP (F := F)) := by
  unfold recvs recvsP
  rw [Pipeline.bigSep_univ_comm, Pipeline.bigSep_univ_comm (fun (c : Dev nD) (r : Fin 3) => anyB (pt r c) (rcvM r))]
  refine bigSep_congr fun r _ => ?_
  exact bigSep_univ_equiv (⟨pt r, pt r, pt_pt r, pt_pt r⟩ : Dev nD ≃ Dev nD) (Φ := fun c : Dev nD => anyB (F := F) c (rcvM r))

/-- The barrier's harvest, sorted. -/
theorem gather : iprop((bigSep (Finset.univ.erase 0) fun m : Dev nD => offer (F := F) m) ∗ recvs 0 ∗ rch 0)
    ⊢ iprop(allr ∗ recvsP 0 ∗ bigSep (Finset.univ.erase 0) fun m : Dev nD => iprop(anyB (F := F) m kbM ∗ anyB m vbM ∗ recvsP m)) := by
  have e : (bigSep (Finset.univ.erase 0) fun m : Dev nD => offer (F := F) m)
      = iprop((bigSep (Finset.univ.erase 0) fun m : Dev nD => anyB m kbM) ∗ (bigSep (Finset.univ.erase 0) fun m : Dev nD => anyB m vbM)
        ∗ (bigSep (Finset.univ.erase 0) fun m : Dev nD => recvs m) ∗ bigSep (Finset.univ.erase 0) fun m : Dev nD => rch m) := by
    unfold offer recvs
    rw [bigSep_sep', bigSep_sep', bigSep_sep']
  have e2 : (bigSep (Finset.univ.erase 0) fun m : Dev nD => iprop(anyB (F := F) m kbM ∗ anyB m vbM ∗ recvsP m))
      = iprop((bigSep (Finset.univ.erase 0) fun m : Dev nD => anyB m kbM) ∗ (bigSep (Finset.univ.erase 0) fun m : Dev nD => anyB m vbM)
        ∗ bigSep (Finset.univ.erase 0) fun m : Dev nD => recvsP m) := by
    rw [bigSep_sep', bigSep_sep']
  have e3 : bigSep Finset.univ (recvs (F := F)) = iprop(recvs 0 ∗ bigSep (Finset.univ.erase 0) fun m : Dev nD => recvs m) := bigSep_univ_split 0
  have e4 : bigSep Finset.univ (recvsP (F := F)) = iprop(recvsP 0 ∗ bigSep (Finset.univ.erase 0) fun m : Dev nD => recvsP m) := bigSep_univ_split 0
  have e5 : allr (F := F) = iprop(rch 0 ∗ bigSep (Finset.univ.erase 0) fun m : Dev nD => rch m) := bigSep_univ_split 0
  rw [e, e2]
  iintro ⟨⟨Hk, Hv, Hr, Hrch⟩, Hr0, Hrch0⟩
  isplitl [Hrch Hrch0]
  · rw [e5]; isplitl [Hrch0]; · iexact Hrch0
    iexact Hrch
  ihave H := (show iprop(recvs (F := F) 0 ∗ bigSep (Finset.univ.erase 0) fun m : Dev nD => recvs m) ⊢ _ from
    Entails.of_eq (e3.symm.trans (recvs_around.trans e4))) $$ [Hr Hr0]
  · isplitl [Hr0]; · iexact Hr0
    iexact Hr
  icases H with ⟨H0, H⟩
  isplitl [H0]; · iexact H0
  isplitl [Hk]; · iexact Hk
  isplitl [Hv]; · iexact Hv
  iexact H

/-- Device 0's rights and positions for its sends to `m`. -/
def gv (m : Dev nD) : sProp 𝕄 :=
  iprop(may 0 (.ks m) ∗ may 0 (.vs m) ∗ may m .kr ∗ may m .vr ∗ at0 0 (.ks m) ∗ at0 0 (.vs m))
/-- Device 0's rights and the other devices' buffers make up everything the scatter uses. -/
theorem gives_all : iprop(allr ∗ (bigSep (Finset.univ.erase 0) fun m : Dev nD => gv (F := F) m)
      ∗ bigSep (Finset.univ.erase 0) fun m : Dev nD => iprop(anyB (F := F) m kbM ∗ anyB m vbM ∗ recvsP m))
    ⊢ bigSepL order give := by
  rw [← bigSep_eq_bigSepL_of_eq (S := (Finset.univ.erase 0 : Finset (Dev nD))) order (by decide) (by decide) (give (F := F)), ← bigSep_sep']
  refine bigSep_with_persistent fun m _ => ?_
  unfold gv give partners recvsP allr
  iintro ⟨#Hall, ⟨H1, H2, H3, H4, H5, H6⟩, Hk, Hv, Hp⟩
  isplitl [H1]; · iexact H1
  isplitl [H2]; · iexact H2
  isplitl [H3]; · iexact H3
  isplitl [H4]; · iexact H4
  isplitl [H5]; · iexact H5
  isplitl [H6]; · iexact H6
  isplitl [Hk]; · iexact Hk
  isplitl [Hv]; · iexact Hv
  isplitl [Hp]; · iexact Hp
  iexact Hall

/-- The kernel's first test holds on the devices other than 0. -/
theorem cond1_ne (c : Dev nD) : k0_cond1 c = 1#1 ↔ c ≠ 0 := by revert c; decide +kernel
/-- The kernel's second test holds on device 0. -/
theorem cond2_eq (c : Dev nD) : k0_cond2 c = 1#1 ↔ c = 0 := by revert c; decide +kernel
/-- The test for the other devices holds exactly off device 0. -/
theorem isOther_ne (c : Dev nD) : isOther c = 1#1 ↔ c ≠ 0 := by revert c; decide +kernel
/-- The test for the first device holds exactly on device 0. -/
theorem isFirst_eq (c : Dev nD) : isFirst c = 1#1 ↔ c = 0 := by revert c; decide +kernel

/-- A device given by its number is that device. -/
theorem dev_at {n : ℕ} {h : n < 8} (m : Dev nD) (e : n = m.val) : (⟨n, h⟩ : Dev nD) = m := Fin.ext e

/-- Device `m`'s 512 columns lie inside the array. -/
theorem colInb (m : Fin 8) : Inb (512 * m.val) := by revert m; decide

/-- The wait for everyone's barrier signal. -/
theorem wp_barWait (Q : PUnit → sProp 𝕄) :
    iprop(known V κ ∗ atPos ER (bar 0) 0 ∅ 0 ∗ cred (tallyAt (bar 0) () 7) ∗ ow 0 (OS order)
        ∗ (((bigSep (Finset.univ.erase 0) fun m : Dev nD => offer (F := F) m) ∗ semVal (bar 0) 0 ∗ ow 0 (OS order)) -∗ Q ⟨⟩))
      ⊢ wpc 0 (semWaitWord (SemArray.scalar (sig.barrier 0 rfl) : Sems sig S_).sem 7#32) Q := by
  unfold wpc semWaitWord
  iintro ⟨#Hkn, Hat, Hcr, Ho, Hk⟩
  unfold ow
  icases Ho with ⟨%W, HO⟩
  iapply (Rounds.wp_wait_rest_token 𝒱₀ ER (Rd V) ((0 : Dev nD) : Thread nD τ) none (κ := κ (bar 0))
      (wpE_semWait_eq 𝒱₀ ((0 : Dev nD) : Thread nD τ) none Set.univ) (Set.mem_univ _) () (O := OS order) (W := W) (R := 0) (m := 0) (T := ∅)
      (by rw [Nat.zero_add]; exact (expect_bar V).symm)) $$ [Hcr HO Hat]
  · isplitr; · iapply (known_bar V κ 0) $$ Hkn
    isplitl [Hcr]; · iexact Hcr
    isplitl [HO]; · iexact HO
    isplitr
    · ihave Hl := (known_lev V κ) $$ Hkn
      iapply (mayWait 0 barS (above_OS order) (by rw [lv_bar])) $$ Hl
    iexact Hat
  iintro ⟨HO, Hat, -, Hpay⟩
  ihave Hp := (show bigSep ((Rd V).duties (((0 : Dev nD) : Thread nD τ), .reg (SemArray.scalar (sig.barrier 0 rfl) : Sems sig S_).sem) 0 \ ∅)
      (fun d => (Rd V).payload (((0 : Dev nD) : Thread nD τ), .reg (SemArray.scalar (sig.barrier 0 rfl) : Sems sig S_).sem) 0 d)
      ⊢ bigSep (Finset.univ.erase 0) fun m : Dev nD => offer (F := F) m from Entails.of_eq (rest_bar V)) $$ Hpay
  imod (Rounds.cell_close ER (Rd V) (Set.mem_univ (κ (bar 0))) id (R := 0 + 1) (duties_later V (bar 0))) $$ [Hat] with Hz
  · isplitr; · iapply (known_bar V κ 0) $$ Hkn
    iexact Hat
  rw [wp_ret]; imodintro
  iapply Hk
  isplitl [Hp]; · iexact Hp
  isplitl [Hz]; · iexact Hz
  iexists _; iexact HO

/-- The barrier signal of a device other than the first. -/
theorem wp_barrier (c : Dev nD) (hc : c ≠ 0) (Q : PUnit → sProp 𝕄) :
    iprop(known V κ ∗ ow c (OR c 3 + tallyAt (bar 0) () 1) ∗ dutyTok ER (bar 0) 0 c ∗ offer c ∗ reached ER (bar 0) 0
        ∗ (ow c (OR c 3) -∗ Q ⟨⟩))
      ⊢ wpc c (barrierP c) Q := by
  unfold barrierP
  rw [dif_pos ((cond1_ne c).2 hc), dev_at (0 : Dev nD) k0_dev1_eq]
  unfold wpc semSignalWord
  iintro ⟨#Hkn, Ho, Ht, Hoff, #Hr, Hk⟩
  unfold ow
  icases Ho with ⟨%W, HO⟩
  iapply (Rounds.wp_signal 𝒱₀ ER (Rd V) (c : Thread nD τ) none (dst := ((0 : Dev nD) : Thread nD τ)) (κ := κ (bar 0)) (d := c)
      (by rw [show (Rd V).duties (((0 : Dev nD) : Thread nD τ), barS) 0 = _ from duties_bar V]; exact Finset.mem_erase.2 ⟨hc, Finset.mem_univ _⟩)
      ((amount_bar V 0 0 c).trans (by decide)) () (OR c 3) rfl)
    $$ [HO Ht Hoff]
  · isplitr; · iapply (known_bar V κ 0) $$ Hkn
    isplitl [HO]; · iexact HO
    isplitl [Ht]; · iexact Ht
    isplitl [Hoff]
    · rw [show (Rd V).payload (((0 : Dev nD) : Thread nD τ), barS) 0 c = offer c from payload_bar V 0 0 c]; iexact Hoff
    iexact Hr
  iintro HO
  rw [wp_ret]; imodintro
  iapply Hk; iexists W; iexact HO

/-- The wait for the keys and the values. -/
theorem wp_await (c : Dev nD) (hc : c ≠ 0) (Q : PUnit → sProp 𝕄) :
    iprop(known V κ ∗ ready c .kr ∗ ready c .vr ∗ ow c (OR c 3)
        ∗ ((ownB c kbM (V.kp c) ∗ ownB c vbM (V.vp c) ∗ partners c ∗ shut c .kr ∗ shut c .vr ∗ ow c (OR c 3)) -∗ Q ⟨⟩))
      ⊢ wpc c (awaitP c) Q := by
  unfold awaitP
  rw [dif_pos ((isOther_ne c).2 hc)]
  unfold awaitK awaitV ready
  iintro ⟨#Hkn, ⟨Ha1, Hc1⟩, ⟨Ha2, Hc2⟩, Ho, Hk⟩
  iapply (wpc_bind c _ _ _)
  iapply (wp_chan_wait V κ c .kr hc (by rfl) (above_OR3 c) (le_refl _) _)
  isplitr; · iexact Hkn
  isplitl [Ha1]; · unfold at0; iexact Ha1
  isplitl [Hc1]; · iexact Hc1
  isplitl [Ho]; · iexact Ho
  iintro ⟨Hp, Hz1, Ho⟩
  unfold pay
  icases Hp with ⟨Hkb, Hp⟩
  iapply (wp_chan_wait V κ c .vr hc (by rfl) (above_OR3 c) (le_refl _) _)
  isplitr; · iexact Hkn
  isplitl [Ha2]; · unfold at0; iexact Ha2
  isplitl [Hc2]; · iexact Hc2
  isplitl [Ho]; · iexact Ho
  iintro ⟨Hvb, Hz2, Ho⟩
  iapply Hk
  isplitl [Hkb]; · iexact Hkb
  isplitl [Hvb]; · unfold pay; iexact Hvb
  isplitl [Hp]; · iexact Hp
  isplitl [Hz1]; · iexact Hz1
  isplitl [Hz2]; · iexact Hz2
  iexact Ho

/-- Device 0 keeps its own block of keys: rounded, it stands in its landing buffer. -/
theorem wp_keepK (X : Vec F S2x512x4096 .f32) {O : CellTallies nD τ sig Unit} (hO : Above 0 O) (Q : PUnit → sProp 𝕄) :
    iprop(levAts L lv ∗ fly 0 (staged kM 0 X 0 inb_S2x512x4096_S2x512x512_0_0_0) ∗ anyB 0 kbM ∗ ow 0 O
        ∗ ((ownB 0 kM X ∗ anyB 0 (slotOf stM 0) ∗ lsem 0 ∗ ownB 0 kbM (blk X 0 inb_S2x512x4096_S2x512x512_0_0_0) ∗ ow 0 O) -∗ Q ⟨⟩))
      ⊢ wpc 0 keepK Q :=
  wp_keep kM 0 kbM (View.stores_vmem h_S2x512x512 ((Memref.isWhole_whole cc0_scratch3).storeExact_slice rfl _ packedbf16_S2x512x512_S2x512x512_0_0_0) (fun _ => rfl))
    (fun f w => (View.read_whole cc0_scratch3 _).trans (Memref.write_access_unit_zero_univ (Elt F) cc0_scratch3 (by funext a; fin_cases a <;> rfl) _ f w)) X hO Q
/-- Device 0 keeps its own block of values: rounded, it stands in its landing buffer. -/
theorem wp_keepV (X : Vec F S2x512x4096 .f32) {O : CellTallies nD τ sig Unit} (hO : Above 0 O) (Q : PUnit → sProp 𝕄) :
    iprop(levAts L lv ∗ fly 1 (staged vM 1 X 0 inb_S2x512x4096_S2x512x512_0_0_0) ∗ anyB 0 vbM ∗ ow 0 O
        ∗ ((ownB 0 vM X ∗ anyB 0 (slotOf stM 1) ∗ lsem 1 ∗ ownB 0 vbM (blk X 0 inb_S2x512x4096_S2x512x512_0_0_0) ∗ ow 0 O) -∗ Q ⟨⟩))
      ⊢ wpc 0 keepV Q :=
  wp_keep vM 1 vbM (View.stores_vmem h_S2x512x512 ((Memref.isWhole_whole cc0_scratch4).storeExact_slice rfl _ packedbf16_S2x512x512_S2x512x512_0_0_0) (fun _ => rfl))
    (fun f w => (View.read_whole cc0_scratch4 _).trans (Memref.write_access_unit_zero_univ (Elt F) cc0_scratch4 (by funext a; fin_cases a <;> rfl) _ f w)) X hO Q

/-- Device 0's scatter. -/
theorem wp_scatter0 (K W : Vec F S2x512x4096 .f32) (hk : ∀ m : Fin 8, V.kp m = blk K (512 * m.val) (colInb m))
    (hv : ∀ m : Fin 8, V.vp m = blk W (512 * m.val) (colInb m)) (Q : PUnit → sProp 𝕄) :
    iprop(known V κ ∗ atPos ER (bar 0) 0 ∅ 0 ∗ cred (tallyAt (bar 0) () 7) ∗ ow 0 (OS order) ∗ base K W ∗ slots 0 ∗ slots 1
        ∗ (bigSep (Finset.univ.erase 0) fun m : Dev nD => gv (F := F) m) ∗ recvs 0 ∗ rch 0 ∗ anyB 0 kbM ∗ anyB 0 vbM
        ∗ ((base K W ∗ hold 1 (some 4) ∗ hold 0 (some 1) ∗ bigSepL [3, 7, 2, 5, 6] closed ∗ ow 0 (OR 0 3) ∗ semVal (bar 0) 0
            ∗ ownB 0 kbM (V.kp 0) ∗ ownB 0 vbM (V.vp 0) ∗ partners 0) -∗ Q ⟨⟩))
      ⊢ wpc 0 (scatterP 0) Q := by
  unfold scatterP
  rw [dif_pos ((cond2_eq 0).2 rfl)]
  unfold scatter
  iintro ⟨#Hkn, Hat, Hcr, Ho, Hb, Hs0, Hs1, Hgv, Hrc, Hr0, Hkb, Hvb, Hk⟩
  iapply (wpc_bind 0 _ _ _)
  iapply (wpc_bind 0 _ _ _)
  iapply (wp_barWait V κ _)
  isplitr; · iexact Hkn
  isplitl [Hat]; · iexact Hat
  isplitl [Hcr]; · iexact Hcr
  isplitl [Ho]; · iexact Ho
  iintro ⟨Hoff, Hz, Ho⟩
  ihave Hg := (gather (F := F)) $$ [Hoff Hrc Hr0]
  · isplitl [Hoff]; · iexact Hoff
    isplitl [Hrc]; · iexact Hrc
    iexact Hr0
  icases Hg with ⟨#Hall, Hp0, Hg⟩
  ihave Hl := (gives_all (F := F)) $$ [Hgv Hg]
  · isplitr; · iexact Hall
    isplitl [Hgv]; · iexact Hgv
    iexact Hg
  iapply (wpc_bind 0 _ _ _)
  iapply (wp_turn V κ K W _ _ 6 _ _ 0 (by decide) rfl (dev_at 6 k0_dev2_eq) (dev_at 6 k0_dev3_eq) (hk 6) (hv 6) none [5, 2, 7, 3, 4, 1] [] _)
  isplitr; · iexact Hkn
  isplitr; · iexact Hall
  isplitl [Ho Hb Hs0 Hs1 Hl]
  · unfold St hold
    isplitl [Hb]; · iexact Hb
    isplitl [Hs0]; · iexact Hs0
    isplitl [Hs1]; · iexact Hs1
    isplitl [Hl]; · iexact Hl
    isplitr; · iempintro
    iexact Ho
  iintro H
  iapply (wpc_bind 0 _ _ _)
  iapply (wp_turn V κ K W _ _ 5 _ _ 1 (by decide) rfl (dev_at 5 k0_dev4_eq) (dev_at 5 k0_dev5_eq) (hk 5) (hv 5) (some 6) [2, 7, 3, 4, 1] [] _)
  isplitr; · iexact Hkn
  isplitr; · iexact Hall
  isplitl [H]; · iexact H
  iintro H
  iapply (wpc_bind 0 _ _ _)
  iapply (wp_turnAfter V κ K W 6 _ _ 2 _ _ 0 (by decide) rfl (dev_at 2 k0_dev6_eq) (dev_at 2 k0_dev7_eq) (hk 2) (hv 2) (some 5) [7, 3, 4, 1] [] _)
  isplitr; · iexact Hkn
  isplitr; · iexact Hall
  isplitl [H]; · iexact H
  iintro H
  iapply (wpc_bind 0 _ _ _)
  iapply (wp_turnAfter V κ K W 5 _ _ 7 _ _ 1 (by decide) rfl (dev_at 7 k0_dev8_eq) (dev_at 7 k0_dev9_eq) (hk 7) (hv 7) (some 2) [3, 4, 1] [6] _)
  isplitr; · iexact Hkn
  isplitr; · iexact Hall
  isplitl [H]; · iexact H
  iintro H
  iapply (wpc_bind 0 _ _ _)
  iapply (wp_turnAfter V κ K W 2 _ _ 3 _ _ 0 (by decide) rfl (dev_at 3 k0_dev10_eq) (dev_at 3 k0_dev11_eq) (hk 3) (hv 3) (some 7) [4, 1] [5, 6] _)
  isplitr; · iexact Hkn
  isplitr; · iexact Hall
  isplitl [H]; · iexact H
  iintro H
  iapply (wpc_bind 0 _ _ _)
  iapply (wp_turnAfter V κ K W 7 _ _ 4 _ _ 1 (by decide) rfl (dev_at 4 k0_dev12_eq) (dev_at 4 k0_dev13_eq) (hk 4) (hv 4) (some 3) [1] [2, 5, 6] _)
  isplitr; · iexact Hkn
  isplitr; · iexact Hall
  isplitl [H]; · iexact H
  iintro H
  iapply (wpc_bind 0 _ _ _)
  iapply (wp_turnAfter V κ K W 3 _ _ 1 _ _ 0 (by decide) rfl (dev_at 1 k0_dev14_eq) (dev_at 1 k0_dev15_eq) (hk 1) (hv 1) (some 4) [] [7, 2, 5, 6] _)
  isplitr; · iexact Hkn
  isplitr; · iexact Hall
  isplitl [H]; · iexact H
  iintro H
  unfold St
  icases H with ⟨Hb, Hh1, Hh0, -, HD, Ho⟩
  iapply (wpc_bind 0 _ _ _)
  iapply (wp_copyIn K W 0 _ _)
  isplitl [Hb]; · iexact Hb
  iintro ⟨Hf0, Hf1⟩
  iapply (wp_keepK K ((above_OR3 0).mono (by decide)) _)
  isplitr; · iapply (known_lev V κ) $$ Hkn
  isplitl [Hf0]; · iexact Hf0
  isplitl [Hkb]; · iexact Hkb
  isplitl [Ho]; · iexact Ho
  iintro ⟨HK, Hst0, Hl0, Hkb, Ho⟩
  iapply (wp_keepV W ((above_OR3 0).mono (by decide)) _)
  isplitr; · iapply (known_lev V κ) $$ Hkn
  isplitl [Hf1]; · iexact Hf1
  isplitl [Hvb]; · iexact Hvb
  isplitl [Ho]; · iexact Ho
  iintro ⟨HW, Hst1, Hl1, Hvb, Ho⟩
  iapply Hk
  isplitl [HK HW Hst0 Hst1 Hl0 Hl1]
  · unfold base
    isplitl [HK]; · iexact HK
    isplitl [HW]; · iexact HW
    isplitl [Hst0 Hst1]
    · isplitl [Hst0]; · iexact Hst0
      iexact Hst1
    isplitl [Hl0]; · iexact Hl0
    iexact Hl1
  isplitl [Hh1]; · iexact Hh1
  isplitl [Hh0]; · iexact Hh0
  isplitl [HD]; · iexact HD
  isplitl [Ho]; · iexact Ho
  isplitl [Hz]; · iexact Hz
  isplitl [Hkb]; · rw [hk 0]; iexact Hkb
  isplitl [Hvb]; · rw [hv 0]; iexact Hvb
  unfold partners
  isplitl [Hp0]; · unfold recvsP; iexact Hp0
  unfold allr; iexact Hall

/-- The waits for the last two blocks. -/
theorem wp_flushLast0 {O : CellTallies nD τ sig Unit} (hO : Above 0 O) (Q : PUnit → sProp 𝕄) :
    iprop(known V κ ∗ hold 1 (some 4) ∗ hold 0 (some 1) ∗ bigSepL [3, 7, 2, 5, 6] closed ∗ ow 0 O
        ∗ ((slots 0 ∗ slots 1 ∗ (bigSep (Finset.univ.erase 0) fun m : Dev nD => closed (F := F) m) ∗ ow 0 O) -∗ Q ⟨⟩))
      ⊢ wpc 0 (flushLast 0) Q := by
  unfold flushLast hold
  rw [dif_pos ((isFirst_eq 0).2 rfl),
    bigSep_eq_bigSepL_of_eq (S := (Finset.univ.erase 0 : Finset (Dev nD))) [1, 4, 3, 7, 2, 5, 6] (by decide) (by decide) (closed (F := F)),
    bigSepL_cons' (1 : Fin 8), bigSepL_cons' (4 : Fin 8)]
  iintro ⟨#Hkn, ⟨-, H4⟩, ⟨-, H1⟩, HD, Ho, Hk⟩
  iapply (wp_flush V κ 4 1 (by decide) rfl hO _ _)
  isplitr; · iexact Hkn
  isplitl [H4]; · iexact H4
  isplitl [Ho]; · iexact Ho
  iintro ⟨Hs1, Hz4, Ho⟩
  iapply (show wpc (F := F) 0 (flushK 1 0 >>= fun _ => flushV 1 0 >>= fun a => pure a) Q ⊢ wpc 0 (do flushK 1 0; flushV 1 0) Q from by
    rw [bind_pure])
  iapply (wp_flush V κ 1 0 (by decide) rfl hO _ _)
  isplitr; · iexact Hkn
  isplitl [H1]; · iexact H1
  isplitl [Ho]; · iexact Ho
  iintro ⟨Hs0, Hz1, Ho⟩
  iapply (wpc_pure 0 _ _)
  iapply Hk
  isplitl [Hs0]; · iexact Hs0
  isplitl [Hs1]; · iexact Hs1
  isplitl [HD Hz1 Hz4]
  · isplitl [Hz1]; · iexact Hz1
    isplitl [Hz4]; · iexact Hz4
    iexact HD
  iexact Ho

end Cert.KernelIdeal.Attn
-- ==== Proof.PIdeal.Tail.lean ====
/-
The tail of the body: three exchange rounds, three hand-rounds, the result.
-/
module

public import proofs.«01_k».proof.Proof.PIdeal.Front

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

open Idealize.ShloMosaic.Transfers (Flight)
variable (V : Vals F) (κ : GSem nD τ sig → ℕ)

/-- First row of the rows `c` still has when round `r` begins. -/
def up (r : Fin 3) (c : Dev nD) : ℕ := match r with | 0 => 0 | 1 => kb 0 c | 2 => kb 1 c
/-- The rows a device still has are the half it keeps and the half it gives, in either order. -/
theorem up_cases (r : Fin 3) (c : Dev nD) :
    (kb r c = up r c ∧ sb r c = up r c + nr r) ∨ (sb r c = up r c ∧ kb r c = up r c + nr r) := by revert r c; decide

/-- They split into the half kept and the half given. -/
theorem rowB_halve (r : Fin 3) (c : Dev nD) (X : Vec F S1024x768 .f32) :
    rowB c (up r c) (nr r + nr r) X ⊢ iprop(rowB (F := F) c (sb r c) (nr r) X ∗ rowB c (kb r c) (nr r) X) := by
  rcases up_cases r c with ⟨h1, h2⟩ | ⟨h1, h2⟩ <;> rw [h1, h2] <;> refine (rowB_split c _ _ _ X).trans ?_
  · exact sep_comm.1
  · exact BIBase.Entails.rfl
/-- The two halves make up the rows again. -/
theorem rowB_unhalve (r : Fin 3) (c : Dev nD) (X : Vec F S1024x768 .f32) :
    iprop(rowB (F := F) c (kb r c) (nr r) X ∗ rowB c (sb r c) (nr r) X) ⊢ rowB c (up r c) (nr r + nr r) X := by
  rcases up_cases r c with ⟨h1, h2⟩ | ⟨h1, h2⟩ <;> rw [h1, h2] <;> refine BIBase.Entails.trans ?_ (rowB_join c _ _ _ X)
  · exact BIBase.Entails.rfl
  · exact sep_comm.1

/-- The rows a device has left after the last round are its own finished rows. -/
theorem rows_owner (c : Dev nD) (i : S1024x768.Idx) (hi : i ∈ rows (kb 2 c) (nr 2)) : owner i = c := by
  simp only [rows, Finset.mem_filter, Finset.mem_univ, true_and] at hi
  apply Fin.ext
  have hc := c.isLt
  have e : kb 2 c = c.val % 2 * 512 + c.val / 2 % 2 * 256 + c.val / 4 % 2 * 128 := rfl
  rw [e] at hi
  show (i 0).val / 512 % 2 + (i 0).val / 256 % 2 * 2 + (i 0).val / 128 % 2 * 4 = c.val
  have hn : nr 2 = 128 := rfl
  have hp : (i 0).val / 128 = c.val % 2 * 4 + c.val / 2 % 2 * 2 + c.val / 4 % 2 := by omega
  have h1 : (i 0).val / 256 = (i 0).val / 128 / 2 := by omega
  have h2 : (i 0).val / 512 = (i 0).val / 128 / 4 := by omega
  rw [h1, h2, hp]
  exact (show ∀ c : Fin 8, (c.val % 2 * 4 + c.val / 2 % 2 * 2 + c.val / 4 % 2) / 4 % 2 + (c.val % 2 * 4 + c.val / 2 % 2 * 2 + c.val / 4 % 2) / 2 % 2 * 2
    + (c.val % 2 * 4 + c.val / 2 % 2 * 2 + c.val / 4 % 2) % 2 * 4 = c.val by decide) c

/-- The rights, positions and credits of one exchange round; the same of one hand-round; and what is closed at their ends. -/
def tx (r : Fin 3) (c : Dev nD) : sProp 𝕄 :=
  iprop(may c (.rss r) ∗ may (pt r c) (.rsr r) ∗ at0 c (.rss r) ∗ at0 c (.rsr r) ∗ cred (tallyAt (cell c (.rsr r)) () (amt (.rsr r))))
def th (r : Fin 3) (c : Dev nD) : sProp 𝕄 :=
  iprop(may c (.ags r) ∗ may (pt r c) (.agr r) ∗ at0 c (.ags r) ∗ at0 c (.agr r) ∗ cred (tallyAt (cell c (.agr r)) () (amt (.agr r))))
def zx (r : Fin 3) (c : Dev nD) : sProp 𝕄 := iprop(shut c (.rss r) ∗ shut c (.rsr r))
def zh (r : Fin 3) (c : Dev nD) : sProp 𝕄 := iprop(shut c (.ags r) ∗ shut c (.agr r))

/-- One exchange round adds the partner's rows to the half kept. -/
theorem wp_round (r : Fin 3) (c n : Dev nD) (oS oK : Fin 2 → ℕ) (hS hK) (eS : oS = ![sb r c, 0]) (eK : oK = ![kb r c, 0])
    (hn : n = pt r c) (Q : PUnit → sProp 𝕄) :
    iprop(known V κ ∗ allr ∗ rowB c (up r c) (nr r + nr r) (acc V r c) ∗ anyB c (sndM r) ∗ anyB (pt r c) (rcvM r) ∗ ow c (OR c (3 - r)) ∗ tx r c
        ∗ ((rowB c (kb r c) (nr r) (acc V (r + 1) c) ∗ rowAny (pt r c) (kb r c) (nr r) ∗ anyB c (sndM r) ∗ anyB c (rcvM r)
            ∗ ow c (OR c (2 - r)) ∗ zx r c) -∗ Q ⟨⟩))
      ⊢ wpc c (exchange r oS oK hS hK n) Q := by
  unfold tx zx
  iintro ⟨#Hkn, #Hall, Hrow, Hs, Hr, Ho, ⟨H1, H2, H3, H4, H5⟩, Hk⟩
  ihave Hrow' := (rowB_halve r c _) $$ Hrow
  icases Hrow' with ⟨HS, HK⟩
  iapply (wp_exchange V κ r c n oS oK hS hK eS eK hn Q)
  isplitr; · iexact Hkn
  isplitr; · iapply (allr_at c) $$ Hall
  isplitr; · iapply (allr_at (pt r c)) $$ Hall
  isplitl [HS]; · iexact HS
  isplitl [HK]; · iexact HK
  isplitl [Hs]; · iexact Hs
  isplitl [Hr]; · iexact Hr
  isplitl [Ho]; · iexact Ho
  isplitl [H1]; · iexact H1
  isplitl [H2]; · iexact H2
  isplitl [H3]; · iexact H3
  isplitl [H4]; · iexact H4
  isplitl [H5]; · iexact H5
  iexact Hk

/-- One hand-round doubles the finished rows a device has. -/
theorem wp_hand (r : Fin 3) (c n : Dev nD) (o : Fin 2 → ℕ) (h) (e : o = ![kb r c, 0]) (hn : n = pt r c) (Q : PUnit → sProp 𝕄) :
    iprop(known V κ ∗ allr ∗ rowB c (kb r c) (nr r) (fin V) ∗ rowAny (pt r c) (kb r c) (nr r) ∗ ow c (OA c (r + 1)) ∗ th r c
        ∗ ((rowB c (up r c) (nr r + nr r) (fin V) ∗ ow c (OA c r) ∗ zh r c) -∗ Q ⟨⟩))
      ⊢ wpc c (handRound r o h n) Q := by
  unfold th zh
  iintro ⟨#Hkn, #Hall, HK, HP, Ho, ⟨H1, H2, H3, H4, H5⟩, Hk⟩
  iapply (wp_handRound V κ r c n o h e hn Q)
  isplitr; · iexact Hkn
  isplitr; · iapply (allr_at c) $$ Hall
  isplitr; · iapply (allr_at (pt r c)) $$ Hall
  isplitl [HK]; · iexact HK
  isplitl [HP]; · iexact HP
  isplitl [Ho]; · iexact Ho
  isplitl [H1]; · iexact H1
  isplitl [H2]; · iexact H2
  isplitl [H3]; · iexact H3
  isplitl [H4]; · iexact H4
  isplitl [H5]; · iexact H5
  iintro ⟨HK, HS, Ho, Hz⟩
  iapply Hk
  isplitl [HK HS]
  · iapply (rowB_unhalve r c _)
    isplitl [HK]; · iexact HK
    iexact HS
  isplitl [Ho]; · iexact Ho
  iexact Hz

/-- The first row sent in exchange round 0. -/
theorem off1_eq (c : Dev nD) : k0_off1 c = ![sb 0 c, 0] := by revert c; decide +kernel
/-- The first row kept in exchange round 0. -/
theorem off2_eq (c : Dev nD) : k0_off2 c = ![kb 0 c, 0] := by revert c; decide +kernel
/-- The first row sent in exchange round 1. -/
theorem off3_eq (c : Dev nD) : k0_off3 c = ![sb 1 c, 0] := by revert c; decide +kernel
/-- The first row kept in exchange round 1. -/
theorem off4_eq (c : Dev nD) : k0_off4 c = ![kb 1 c, 0] := by revert c; decide +kernel
/-- The first row sent in exchange round 2. -/
theorem off5_eq (c : Dev nD) : k0_off5 c = ![sb 2 c, 0] := by revert c; decide +kernel
/-- The first row kept in exchange round 2. -/
theorem off6_eq (c : Dev nD) : k0_off6 c = ![kb 2 c, 0] := by revert c; decide +kernel
/-- The first row handed on in round 2. -/
theorem off7_eq (c : Dev nD) : k0_off7 c = ![kb 2 c, 0] := by revert c; decide +kernel
/-- The first row handed on in round 1. -/
theorem off8_eq (c : Dev nD) : k0_off8 c = ![kb 1 c, 0] := by revert c; decide +kernel
/-- The first row handed on in round 0. -/
theorem off9_eq (c : Dev nD) : k0_off9 c = ![kb 0 c, 0] := by revert c; decide +kernel
/-- The devices the rounds address. -/
theorem devs_eq (c : Dev nD) : k0_dev16 c = (pt 0 c).val ∧ k0_dev17 c = (pt 1 c).val ∧ k0_dev18 c = (pt 2 c).val
    ∧ k0_dev19 c = (pt 2 c).val ∧ k0_dev20 c = (pt 1 c).val ∧ k0_dev21 c = (pt 0 c).val := by revert c; decide +kernel

/-- A product over three rounds, written out. -/
theorem bigSep_three (Φ : Fin 3 → sProp 𝕄) : bigSep Finset.univ Φ = iprop(Φ 0 ∗ Φ 1 ∗ Φ 2) := by
  rw [bigSep_univ_eq_bigSepL [0, 1, 2] (by decide) (by decide)]; rfl

/-- The rounds and the result. -/
def tailP (d0 : Dev nD) : PP F PUnit := do
  exchange 0 (k0_off1 d0) (k0_off2 d0) (k0_off1_inb d0) (k0_off2_inb d0) ⟨k0_dev16 d0, k0_dev16_lt d0⟩
  exchange 1 (k0_off3 d0) (k0_off4 d0) (k0_off3_inb d0) (k0_off4_inb d0) ⟨k0_dev17 d0, k0_dev17_lt d0⟩
  exchange 2 (k0_off5 d0) (k0_off6 d0) (k0_off5_inb d0) (k0_off6_inb d0) ⟨k0_dev18 d0, k0_dev18_lt d0⟩
  handRound 2 (k0_off7 d0) (k0_off7_inb d0) ⟨k0_dev19 d0, k0_dev19_lt d0⟩
  handRound 1 (k0_off8 d0) (k0_off8_inb d0) ⟨k0_dev20 d0, k0_dev20_lt d0⟩
  handRound 0 (k0_off9 d0) (k0_off9_inb d0) ⟨k0_dev21 d0, k0_dev21_lt d0⟩
  outHalf 0
  outHalf 1

def sends (c : Dev nD) : sProp 𝕄 := bigSep Finset.univ fun r : Fin 3 => anyB c (sndM r)

/-- From a device's partial product, the rounds end with the finished sum in the result. -/
theorem wp_tail (c : Dev nD) (Q : PUnit → sProp 𝕄) :
    iprop(known V κ ∗ allr ∗ rowB c 0 1024 (V.A0 c) ∗ sends c ∗ recvsP c ∗ ow c (OR c 3)
        ∗ (bigSep Finset.univ fun r : Fin 3 => tx r c) ∗ (bigSep Finset.univ fun r : Fin 3 => th r c) ∗ anyB c oM
        ∗ ((anyB c aM ∗ ownB c oM (outV (fin V)) ∗ sends c ∗ recvs c ∗ ow c 0
            ∗ (bigSep Finset.univ fun r : Fin 3 => zx r c) ∗ (bigSep Finset.univ fun r : Fin 3 => zh r c)) -∗ Q ⟨⟩))
      ⊢ wpc c (tailP c) Q := by
  unfold tailP sends recvsP recvs
  simp only [bigSep_three]
  obtain ⟨h16, h17, h18, h19, h20, h21⟩ := devs_eq c
  iintro ⟨#Hkn, #Hall, Hrow, ⟨Hs0, Hs1, Hs2⟩, ⟨Hr0, Hr1, Hr2⟩, Ho, ⟨Hx0, Hx1, Hx2⟩, ⟨Hh0, Hh1, Hh2⟩, Hout, Hk⟩
  iapply (wpc_bind c _ _ _)
  iapply (wp_round V κ 0 c _ _ _ _ _ (off1_eq c) (off2_eq c) (dev_at _ h16) _)
  isplitr; · iexact Hkn
  isplitr; · iexact Hall
  isplitl [Hrow]; · iexact Hrow
  isplitl [Hs0]; · iexact Hs0
  isplitl [Hr0]; · iexact Hr0
  isplitl [Ho]; · iexact Ho
  isplitl [Hx0]; · iexact Hx0
  iintro ⟨Hrow, Ha0, Hs0, Hr0, Ho, Hz0⟩
  iapply (wpc_bind c _ _ _)
  iapply (wp_round V κ 1 c _ _ _ _ _ (off3_eq c) (off4_eq c) (dev_at _ h17) _)
  isplitr; · iexact Hkn
  isplitr; · iexact Hall
  isplitl [Hrow]; · iexact Hrow
  isplitl [Hs1]; · iexact Hs1
  isplitl [Hr1]; · iexact Hr1
  isplitl [Ho]; · iexact Ho
  isplitl [Hx1]; · iexact Hx1
  iintro ⟨Hrow, Ha1, Hs1, Hr1, Ho, Hz1⟩
  iapply (wpc_bind c _ _ _)
  iapply (wp_round V κ 2 c _ _ _ _ _ (off5_eq c) (off6_eq c) (dev_at _ h18) _)
  isplitr; · iexact Hkn
  isplitr; · iexact Hall
  isplitl [Hrow]; · iexact Hrow
  isplitl [Hs2]; · iexact Hs2
  isplitl [Hr2]; · iexact Hr2
  isplitl [Ho]; · iexact Ho
  isplitl [Hx2]; · iexact Hx2
  iintro ⟨Hrow, Ha2, Hs2, Hr2, Ho, Hz2⟩
  ihave Hrow' := (rowB_congr c (X := acc V 3 c) (Y := fin V) (lo := kb 2 c) (n := nr 2) (fun i hi => by unfold fin; rw [rows_owner c i hi])) $$ [Hrow]
  · iexact Hrow
  iapply (wpc_bind c _ _ _)
  iapply (wp_hand V κ 2 c _ _ _ (off7_eq c) (dev_at _ h19) _)
  isplitr; · iexact Hkn
  isplitr; · iexact Hall
  isplitl [Hrow']; · iexact Hrow'
  isplitl [Ha2]; · iexact Ha2
  isplitl [Ho]; · iexact Ho
  isplitl [Hh2]; · iexact Hh2
  iintro ⟨Hrow, Ho, Hy2⟩
  iapply (wpc_bind c _ _ _)
  iapply (wp_hand V κ 1 c _ _ _ (off8_eq c) (dev_at _ h20) _)
  isplitr; · iexact Hkn
  isplitr; · iexact Hall
  isplitl [Hrow]; · iexact Hrow
  isplitl [Ha1]; · iexact Ha1
  isplitl [Ho]; · iexact Ho
  isplitl [Hh1]; · iexact Hh1
  iintro ⟨Hrow, Ho, Hy1⟩
  iapply (wpc_bind c _ _ _)
  iapply (wp_hand V κ 0 c _ _ _ (off9_eq c) (dev_at _ h21) _)
  isplitr; · iexact Hkn
  isplitr; · iexact Hall
  isplitl [Hrow]; · iexact Hrow
  isplitl [Ha0]; · iexact Ha0
  isplitl [Ho]; · iexact Ho
  isplitl [Hh0]; · iexact Hh0
  iintro ⟨Hrow, Ho, Hy0⟩
  ihave Hrow' := (rowB_whole c (fin V)).1 $$ [Hrow]
  · iexact Hrow
  iapply (wp_out c (fin V) _)
  isplitl [Hrow']; · iexact Hrow'
  isplitl [Hout]; · iexact Hout
  iintro ⟨Ha, Hout⟩
  iapply Hk
  isplitl [Ha]; · iapply (ownB_any c aM (fin V)) $$ Ha
  isplitl [Hout]; · iexact Hout
  isplitl [Hs0 Hs1 Hs2]
  · isplitl [Hs0]; · iexact Hs0
    isplitl [Hs1]; · iexact Hs1
    iexact Hs2
  isplitl [Hr0 Hr1 Hr2]
  · isplitl [Hr0]; · iexact Hr0
    isplitl [Hr1]; · iexact Hr1
    iexact Hr2
  isplitl [Ho]; · iexact Ho
  isplitl [Hz0 Hz1 Hz2]
  · isplitl [Hz0]; · iexact Hz0
    isplitl [Hz1]; · iexact Hz1
    iexact Hz2
  isplitl [Hy0]; · iexact Hy0
  isplitl [Hy1]; · iexact Hy1
  iexact Hy2

end Cert.KernelIdeal.Attn
-- ==== Proof.PIdeal.Whole.lean ====
/-
The whole body at a device, from what the launch gives it to what it leaves.
-/
module

public import proofs.«01_k».proof.Proof.PIdeal.Tail

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

open Idealize.ShloMosaic.Transfers (Flight)
variable (V : Vals F) (κ : GSem nD τ sig → ℕ)

/-! ## A staging buffer as its two slots -/

/-- The two slots cover the staging buffer. -/
theorem slotRects_union : (slotRect 0).set ∪ (slotRect 1).set = Finset.univ := by
  ext i
  rw [Finset.mem_union, show (slotRect 0).set = (slotRect 0).toLoadRect.set from rfl, show (slotRect 1).set = (slotRect 1).toLoadRect.set from rfl,
    LoadRect.mem_set, LoadRect.mem_set]
  simp only [Finset.mem_univ, iff_true]
  have h0 : (i 0).val < 2 := (i 0).isLt
  have key : ∀ σ : Fin 2, (i 0).val = σ.val → ∀ a, ∃ j, j < (slotRect σ).toLoadRect.shape.size a ∧ (i a).val = (slotRect σ).toLoadRect.off a + (slotRect σ).toLoadRect.stride a * j := by
    intro σ hσ a
    match a with
    | 0 => exact ⟨0, Nat.one_pos, (by show (i 0).val = σ.val + 1 * 0; omega)⟩
    | 1 => exact ⟨(i 1).val, (i 1).isLt, (by show (i 1).val = 0 + 1 * (i 1).val; omega)⟩
    | 2 => exact ⟨(i 2).val, (i 2).isLt, (by show (i 2).val = 0 + 1 * (i 2).val; omega)⟩
    | 3 => exact ⟨(i 3).val, (i 3).isLt, (by show (i 3).val = 0 + 1 * (i 3).val; omega)⟩
  rcases (show (i 0).val = 0 ∨ (i 0).val = 1 by omega) with h | h
  · exact .inl (key 0 h)
  · exact .inr (key 1 h)
/-- The two slots do not overlap. -/
theorem slotRects_disjoint : Disjoint (slotRect 0).set (slotRect 1).set := by
  rw [Finset.disjoint_left]
  intro i h0 h1
  rw [show (slotRect 0).set = (slotRect 0).toLoadRect.set from rfl, LoadRect.mem_set] at h0
  rw [show (slotRect 1).set = (slotRect 1).toLoadRect.set from rfl, LoadRect.mem_set] at h1
  obtain ⟨j, hj, e⟩ := h0 0
  obtain ⟨k, hk, e'⟩ := h1 0
  have hj' : j < 1 := hj
  have e1 : (i 0).val = 0 + 1 * j := e
  have e2 : (i 0).val = 1 + 1 * k := e'
  omega

/-- Owning a two-slot buffer is owning its two slots. -/
theorem anyB_slots {e : EltTy} (B : Memref sig .tc .vmem S2x2x512x512 e) (hu : B.view.set = Finset.univ)
    (h0 : ∀ σ, (slotOf B σ).view.set = (slotRect σ).set.map B.view.emb) (c : Dev nD) :
    anyB (F := F) c B ⊣⊢ iprop(anyB c (slotOf B 0) ∗ anyB c (slotOf B 1)) := by
  have hU : B.view.set = (slotOf B 0).view.set ∪ (slotOf B 1).view.set := by
    rw [h0, h0, ← Finset.map_union, slotRects_union]; rfl
  have hD : Disjoint (slotOf B 0).view.set (slotOf B 1).view.set := by
    rw [h0, h0]; exact (Finset.disjoint_map B.view.emb).2 slotRects_disjoint
  unfold anyB
  rw [hU]
  constructor
  · iintro ⟨%f, H⟩
    ihave H' := (pointsTo_union (ℓ := B.view.loc (c : Thread nD τ)) (I := (slotOf B 0).view.set) (J := (slotOf B 1).view.set) (q := fullShare) (f := f) hD).1 $$ H
    icases H' with ⟨H0, H1⟩
    isplitl [H0]
    · iexists f; iexact H0
    · iexists f; iexact H1
  · iintro ⟨⟨%f, H0⟩, ⟨%g, H1⟩⟩
    iexists _
    iapply (pointsTo_join (ℓ := B.view.loc (c : Thread nD τ)) (I := (slotOf B 0).view.set) (J := (slotOf B 1).view.set) (q := fullShare) (f := f) (g := g) hD)
    isplitl [H0]; · iexact H0
    iexact H1
/-- The same, for the keys' staging buffer. -/
theorem ks_slots (c : Dev nD) : anyB (F := F) c ksM ⊣⊢ iprop(anyB c (slotOf ksM 0) ∗ anyB c (slotOf ksM 1)) :=
  anyB_slots ksM (View.set_whole _) (fun σ => (slot_set ksM σ).trans (View.set_slice _ _)) c
/-- The same, for the values'. -/
theorem vs_slots (c : Dev nD) : anyB (F := F) c vsM ⊣⊢ iprop(anyB c (slotOf vsM 0) ∗ anyB c (slotOf vsM 1)) :=
  anyB_slots vsM (View.set_whole _) (fun σ => (slot_set vsM σ).trans (View.set_slice _ _)) c
/-- The same, for the staging slots of the fetches. -/
theorem st_slots (c : Dev nD) : anyB (F := F) c stM ⊣⊢ iprop(anyB c (slotOf stM 0) ∗ anyB c (slotOf stM 1)) :=
  anyB_slots stM (View.set_whole _) (fun σ => (slot_set stM σ).trans (View.set_slice _ _)) c

/-! ## All of a device's channels, by kind -/

def Ch.sum : ((Fin 8 ⊕ Fin 8) ⊕ (Unit ⊕ Unit)) ⊕ ((Fin 3 ⊕ Fin 3) ⊕ (Fin 3 ⊕ Fin 3)) ≃ Ch where
  toFun x := match x with
    | .inl (.inl (.inl m)) => .ks m | .inl (.inl (.inr m)) => .vs m | .inl (.inr (.inl _)) => .kr | .inl (.inr (.inr _)) => .vr
    | .inr (.inl (.inl r)) => .rss r | .inr (.inl (.inr r)) => .rsr r | .inr (.inr (.inl r)) => .ags r | .inr (.inr (.inr r)) => .agr r
  invFun k := match k with
    | .ks m => .inl (.inl (.inl m)) | .vs m => .inl (.inl (.inr m)) | .kr => .inl (.inr (.inl ())) | .vr => .inl (.inr (.inr ()))
    | .rss r => .inr (.inl (.inl r)) | .rsr r => .inr (.inl (.inr r)) | .ags r => .inr (.inr (.inl r)) | .agr r => .inr (.inr (.inr r))
  left_inv x := by rcases x with ((_ | _) | (_ | _)) | ((_ | _) | (_ | _)) <;> rfl
  right_inv k := by cases k <;> rfl

/-- A product over the channels, kind by kind. -/
theorem bigSep_ch (Φ : Ch → sProp 𝕄) : bigSep Finset.univ Φ
    = iprop((((bigSep Finset.univ fun m => Φ (.ks m)) ∗ bigSep Finset.univ fun m => Φ (.vs m)) ∗ (Φ .kr ∗ Φ .vr))
      ∗ (((bigSep Finset.univ fun r => Φ (.rss r)) ∗ bigSep Finset.univ fun r => Φ (.rsr r))
        ∗ ((bigSep Finset.univ fun r => Φ (.ags r)) ∗ bigSep Finset.univ fun r => Φ (.agr r)))) := by
  rw [bigSep_univ_equiv Ch.sum, bigSep_univ_sum, bigSep_univ_sum, bigSep_univ_sum, bigSep_univ_sum, bigSep_univ_sum, bigSep_univ_sum, bigSep_univ_sum,
    show (Finset.univ : Finset Unit) = {()} from rfl, bigSep_singleton, bigSep_singleton]
  rfl

/-! ## What a device starts with and ends with -/

/-- The staged operands, the scratch buffers, the local semaphores. -/
def mem (c : Dev nD) (X : Vec F S1024x768 .bf16) (Wq : Vec F S768x512 .bf16) (Wo : Vec F S512x768 .bf16) : sProp 𝕄 :=
  iprop(ownB c xM X ∗ ownB c wqM Wq ∗ ownB c woM Wo)
def kv (c : Dev nD) (K W : Vec F S2x512x4096 .f32) : sProp 𝕄 := iprop(ownB c kM K ∗ ownB c vM W)
def scr (c : Dev nD) : sProp 𝕄 :=
  iprop((anyB c ksM ∗ anyB c vsM ∗ anyB c stM) ∗ (anyB c kbM ∗ anyB c vbM) ∗ (anyB c qM ∗ anyB c cM ∗ anyB c aM) ∗ sends c ∗ recvs c)
def lsems (c : Dev nD) : sProp 𝕄 := iprop(semVal ((c : Thread nD τ), .dma (locS 0)) 0 ∗ semVal ((c : Thread nD τ), .dma (locS 1)) 0)

/-- The rights device `c` exercises. -/
def toks (c : Dev nD) : sProp 𝕄 :=
  iprop((bigSep Finset.univ fun r : Fin 3 => iprop(may c (.rss r) ∗ may (pt r c) (.rsr r)))
    ∗ (bigSep Finset.univ fun r : Fin 3 => iprop(may c (.ags r) ∗ may (pt r c) (.agr r)))
    ∗ if c = 0 then bigSep (Finset.univ.erase 0) fun m : Dev nD => iprop(may 0 (.ks m) ∗ may 0 (.vs m) ∗ may m .kr ∗ may m .vr)
      else dutyTok ER (bar 0) 0 c)
/-- The credits device `c` waits for. -/
def creds (c : Dev nD) : sProp 𝕄 :=
  iprop((bigSep Finset.univ fun r : Fin 3 => cred (tallyAt (cell c (.rsr r)) () (amt (.rsr r))))
    ∗ (bigSep Finset.univ fun r : Fin 3 => cred (tallyAt (cell c (.agr r)) () (amt (.agr r))))
    ∗ if c = 0 then cred (tallyAt (bar 0) () 7)
      else iprop(cred (tallyAt (cell c .kr) () (amt .kr)) ∗ cred (tallyAt (cell c .vr) () (amt .vr))))
def start (c : Dev nD) : sProp 𝕄 :=
  iprop(known V κ ∗ rch c ∗ (bigSep Finset.univ fun k : Ch => at0 c k) ∗ atPos ER (bar c) 0 ∅ 0 ∗ reached ER (bar 0) 0 ∗ toks c ∗ creds c)

/-- The attention of a device and its projection, once its queries, keys and values are there. -/
theorem wp_attnProj (c : Dev nD) (q : Vec F S1024x512 .bf16) (k v : Vec F S2x512x512 .bf16) (w : Vec F S512x768 .bf16) (p : PP F PUnit) (Q : PUnit → sProp 𝕄) :
    iprop(ownB c qM q ∗ ownB c kbM k ∗ ownB c vbM v ∗ anyB c cM ∗ anyB c aM ∗ ownB c woM w
        ∗ ((anyB c qM ∗ anyB c kbM ∗ anyB c vbM ∗ anyB c cM ∗ ownB c woM w ∗ rowB c 0 1024 (proj w (ctx q k v))) -∗ wpc c p Q))
      ⊢ wpc c (do headsP heads; project; p) Q := by
  iintro ⟨Hq, Hkb, Hvb, Hc, Ha, Hw, Hk⟩
  iapply (wpc_bind c _ _ _)
  iapply (wp_attn c q k v _)
  isplitl [Hq]; · iexact Hq
  isplitl [Hkb]; · iexact Hkb
  isplitl [Hvb]; · iexact Hvb
  isplitl [Hc]; · iexact Hc
  iintro ⟨Hq, Hkb, Hvb, Hc⟩
  iapply (wpc_bind c _ _ _)
  iapply (wp_project c w (ctx q k v) _)
  isplitl [Hw]; · iexact Hw
  isplitl [Hc]; · iexact Hc
  isplitl [Ha]; · iexact Ha
  iintro ⟨Hw, Hc, Ha⟩
  iapply Hk
  isplitl [Hq]; · iapply (ownB_any c qM q) $$ Hq
  isplitl [Hkb]; · iapply (ownB_any c kbM k) $$ Hkb
  isplitl [Hvb]; · iapply (ownB_any c vbM v) $$ Hvb
  isplitl [Hc]; · iapply (ownB_any c cM (ctx q k v)) $$ Hc
  isplitl [Hw]; · iexact Hw
  iexact Ha

/-- Before the rounds. -/
def frontP (d0 : Dev nD) : PP F PUnit := do
  barrierP d0; scatterP d0; queries; awaitP d0; headsP heads; project; flushLast d0
/-- The body is the part before the rounds, then the rounds and the result. -/
theorem phases_eq (d0 : Dev nD) : phases (F := F) d0 = (do frontP d0; tailP d0) := by
  unfold phases frontP tailP
  simp only [Prog.bind_assoc]

/-- The front on a device other than the first. -/
theorem wp_front (c : Dev nD) (hc : c ≠ 0) (X : Vec F S1024x768 .bf16) (Wq : Vec F S768x512 .bf16) (Wo : Vec F S512x768 .bf16)
    (hA : V.A0 c = proj Wo (ctx (k0_pay19 X Wq) (V.kp c) (V.vp c))) (Q : PUnit → sProp 𝕄) :
    iprop(known V κ ∗ mem c X Wq Wo ∗ (anyB c qM ∗ anyB c cM ∗ anyB c aM) ∗ (anyB c kbM ∗ anyB c vbM) ∗ recvs c ∗ rch c
        ∗ ow c (OR c 3 + tallyAt (bar 0) () 1) ∗ dutyTok ER (bar 0) 0 c ∗ reached ER (bar 0) 0 ∗ ready c .kr ∗ ready c .vr
        ∗ ((mem c X Wq Wo ∗ (anyB c qM ∗ anyB c cM) ∗ (anyB c kbM ∗ anyB c vbM) ∗ rowB c 0 1024 (V.A0 c) ∗ partners c ∗ ow c (OR c 3)
            ∗ shut c .kr ∗ shut c .vr) -∗ Q ⟨⟩))
      ⊢ wpc c (frontP c) Q := by
  have e1 : scatterP (F := F) c = pure ⟨⟩ := by unfold scatterP; rw [dif_neg (fun h => hc ((cond2_eq c).1 h))]
  have e2 : flushLast (F := F) c = pure ⟨⟩ := by unfold flushLast; rw [dif_neg (fun h => hc ((isFirst_eq c).1 h))]
  unfold frontP mem
  rw [e1, e2]
  iintro ⟨#Hkn, ⟨Hx, Hwq, Hwo⟩, ⟨Hq, Hc, Ha⟩, ⟨Hkb, Hvb⟩, Hrc, #Hr, Ho, Ht, #Hrb, Hkr, Hvr, Hk⟩
  iapply (wpc_bind c _ _ _)
  iapply (wp_barrier V κ c hc _)
  isplitr; · iexact Hkn
  isplitl [Ho]; · iexact Ho
  isplitl [Ht]; · iexact Ht
  isplitl [Hkb Hvb Hrc]
  · unfold offer
    isplitl [Hkb]; · iexact Hkb
    isplitl [Hvb]; · iexact Hvb
    isplitl [Hrc]; · unfold recvs; iexact Hrc
    iexact Hr
  isplitr; · iexact Hrb
  iintro Ho
  iapply (wpc_bind c _ _ _)
  iapply (wpc_pure c _ _)
  iapply (wpc_bind c _ _ _)
  iapply (wp_queries c X Wq _)
  isplitl [Hx]; · iexact Hx
  isplitl [Hwq]; · iexact Hwq
  isplitl [Hq]; · iexact Hq
  iintro ⟨Hx, Hwq, Hq⟩
  iapply (wpc_bind c _ _ _)
  iapply (wp_await V κ c hc _)
  isplitr; · iexact Hkn
  isplitl [Hkr]; · iexact Hkr
  isplitl [Hvr]; · iexact Hvr
  isplitl [Ho]; · iexact Ho
  iintro ⟨Hkb, Hvb, Hp, Hz1, Hz2, Ho⟩
  iapply (wp_attnProj c _ _ _ Wo _ _)
  isplitl [Hq]; · iexact Hq
  isplitl [Hkb]; · iexact Hkb
  isplitl [Hvb]; · iexact Hvb
  isplitl [Hc]; · iexact Hc
  isplitl [Ha]; · iexact Ha
  isplitl [Hwo]; · iexact Hwo
  rw [← hA]
  iintro ⟨Hq, Hkb, Hvb, Hc, Hwo, Ha⟩
  iapply (wpc_pure c _ _)
  iapply Hk
  isplitl [Hx Hwq Hwo]
  · isplitl [Hx]; · iexact Hx
    isplitl [Hwq]; · iexact Hwq
    iexact Hwo
  isplitl [Hq Hc]
  · isplitl [Hq]; · iexact Hq
    iexact Hc
  isplitl [Hkb Hvb]
  · isplitl [Hkb]; · iexact Hkb
    iexact Hvb
  isplitl [Ha]; · iexact Ha
  isplitl [Hp]; · iexact Hp
  isplitl [Ho]; · iexact Ho
  isplitl [Hz1]; · iexact Hz1
  iexact Hz2

/-- The front on device 0. -/
theorem wp_front0 (X : Vec F S1024x768 .bf16) (Wq : Vec F S768x512 .bf16) (Wo : Vec F S512x768 .bf16)
    (hA : V.A0 0 = proj Wo (ctx (k0_pay19 X Wq) (V.kp 0) (V.vp 0)))
    (K W : Vec F S2x512x4096 .f32) (hk : ∀ m : Fin 8, V.kp m = blk K (512 * m.val) (colInb m))
    (hv : ∀ m : Fin 8, V.vp m = blk W (512 * m.val) (colInb m)) (Q : PUnit → sProp 𝕄) :
    iprop(known V κ ∗ mem 0 X Wq Wo ∗ (anyB 0 qM ∗ anyB 0 cM ∗ anyB 0 aM) ∗ (anyB 0 kbM ∗ anyB 0 vbM) ∗ recvs 0 ∗ rch 0
        ∗ ow 0 (OS order) ∗ atPos ER (bar 0) 0 ∅ 0 ∗ cred (tallyAt (bar 0) () 7) ∗ base K W ∗ slots 0 ∗ slots 1
        ∗ (bigSep (Finset.univ.erase 0) fun m : Dev nD => gv (F := F) m)
        ∗ ((mem 0 X Wq Wo ∗ (anyB 0 qM ∗ anyB 0 cM) ∗ (anyB 0 kbM ∗ anyB 0 vbM) ∗ rowB 0 0 1024 (V.A0 0) ∗ partners 0 ∗ ow 0 (OR 0 3)
            ∗ base K W ∗ slots 0 ∗ slots 1 ∗ (bigSep (Finset.univ.erase 0) fun m : Dev nD => closed (F := F) m) ∗ semVal (bar 0) 0) -∗ Q ⟨⟩))
      ⊢ wpc 0 (frontP 0) Q := by
  have e1 : barrierP (F := F) 0 = pure ⟨⟩ := by unfold barrierP; rw [dif_neg (fun h => (cond1_ne 0).1 h rfl)]
  have e2 : awaitP (F := F) 0 = pure ⟨⟩ := by unfold awaitP; rw [dif_neg (fun h => (isOther_ne 0).1 h rfl)]
  unfold frontP mem
  rw [e1, e2]
  iintro ⟨#Hkn, ⟨Hx, Hwq, Hwo⟩, ⟨Hq, Hc, Ha⟩, ⟨Hkb, Hvb⟩, Hrc, #Hr, Ho, Hat, Hcr, Hb, Hs0, Hs1, Hgv, Hk⟩
  iapply (wpc_bind 0 _ _ _)
  iapply (wpc_pure 0 _ _)
  iapply (wpc_bind 0 _ _ _)
  iapply (wp_scatter0 V κ K W hk hv _)
  isplitr; · iexact Hkn
  isplitl [Hat]; · iexact Hat
  isplitl [Hcr]; · iexact Hcr
  isplitl [Ho]; · iexact Ho
  isplitl [Hb]; · iexact Hb
  isplitl [Hs0]; · iexact Hs0
  isplitl [Hs1]; · iexact Hs1
  isplitl [Hgv]; · iexact Hgv
  isplitl [Hrc]; · iexact Hrc
  isplitr; · iexact Hr
  isplitl [Hkb]; · iexact Hkb
  isplitl [Hvb]; · iexact Hvb
  iintro ⟨Hb, Hh1, Hh0, HD, Ho, Hz, Hkb, Hvb, Hp⟩
  iapply (wpc_bind 0 _ _ _)
  iapply (wp_queries 0 X Wq _)
  isplitl [Hx]; · iexact Hx
  isplitl [Hwq]; · iexact Hwq
  isplitl [Hq]; · iexact Hq
  iintro ⟨Hx, Hwq, Hq⟩
  iapply (wpc_bind 0 _ _ _)
  iapply (wpc_pure 0 _ _)
  iapply (wp_attnProj 0 _ _ _ Wo _ _)
  isplitl [Hq]; · iexact Hq
  isplitl [Hkb]; · iexact Hkb
  isplitl [Hvb]; · iexact Hvb
  isplitl [Hc]; · iexact Hc
  isplitl [Ha]; · iexact Ha
  isplitl [Hwo]; · iexact Hwo
  rw [← hA]
  iintro ⟨Hq, Hkb, Hvb, Hc, Hwo, Ha⟩
  iapply (wp_flushLast0 V κ ((above_OR3 0).mono (by decide)) _)
  isplitr; · iexact Hkn
  isplitl [Hh1]; · iexact Hh1
  isplitl [Hh0]; · iexact Hh0
  isplitl [HD]; · iexact HD
  isplitl [Ho]; · iexact Ho
  iintro ⟨Hs0, Hs1, HD, Ho⟩
  iapply Hk
  isplitl [Hx Hwq Hwo]
  · isplitl [Hx]; · iexact Hx
    isplitl [Hwq]; · iexact Hwq
    iexact Hwo
  isplitl [Hq Hc]
  · isplitl [Hq]; · iexact Hq
    iexact Hc
  isplitl [Hkb Hvb]
  · isplitl [Hkb]; · iexact Hkb
    iexact Hvb
  isplitl [Ha]; · iexact Ha
  isplitl [Hp]; · iexact Hp
  isplitl [Ho]; · iexact Ho
  isplitl [Hb]; · iexact Hb
  isplitl [Hs0]; · iexact Hs0
  isplitl [Hs1]; · iexact Hs1
  isplitl [HD]; · iexact HD
  iexact Hz

end Cert.KernelIdeal.Attn
-- ==== Proof.PIdeal.Body.lean ====
/-
The whole body at every device, with all its channels closed at the end.
-/
module

public import proofs.«01_k».proof.Proof.PIdeal.Whole

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

open Idealize.ShloMosaic.Transfers (Flight)
variable (V : Vals F) (κ : GSem nD τ sig → ℕ)

/-- The rights, positions and credits of the exchange, kind by kind, make up those of each round. -/
theorem txs (c : Dev nD) : iprop((bigSep Finset.univ fun r : Fin 3 => iprop(may c (.rss r) ∗ may (pt r c) (.rsr r)))
      ∗ (bigSep Finset.univ fun r => at0 c (.rss r)) ∗ (bigSep Finset.univ fun r => at0 c (.rsr r))
      ∗ bigSep Finset.univ fun r : Fin 3 => cred (tallyAt (cell c (.rsr r)) () (amt (.rsr r))))
    ⊢ (bigSep Finset.univ fun r : Fin 3 => tx (F := F) r c) := by
  rw [← bigSep_sep', ← bigSep_sep', ← bigSep_sep']
  refine bigSep_mono fun r _ => ?_
  unfold tx
  show iprop(_) ⊢ (_ : sProp 𝕄)
  iintro ⟨⟨H1, H2⟩, H3, H4, H5⟩
  isplitl [H1]; · iexact H1
  isplitl [H2]; · iexact H2
  isplitl [H3]; · iexact H3
  isplitl [H4]; · iexact H4
  iexact H5
/-- The same for the hand-round. -/
theorem ths (c : Dev nD) : iprop((bigSep Finset.univ fun r : Fin 3 => iprop(may c (.ags r) ∗ may (pt r c) (.agr r)))
      ∗ (bigSep Finset.univ fun r => at0 c (.ags r)) ∗ (bigSep Finset.univ fun r => at0 c (.agr r))
      ∗ bigSep Finset.univ fun r : Fin 3 => cred (tallyAt (cell c (.agr r)) () (amt (.agr r))))
    ⊢ (bigSep Finset.univ fun r : Fin 3 => th (F := F) r c) := by
  rw [← bigSep_sep', ← bigSep_sep', ← bigSep_sep']
  refine bigSep_mono fun r _ => ?_
  unfold th
  show iprop(_) ⊢ (_ : sProp 𝕄)
  iintro ⟨⟨H1, H2⟩, H3, H4, H5⟩
  isplitl [H1]; · iexact H1
  isplitl [H2]; · iexact H2
  isplitl [H3]; · iexact H3
  isplitl [H4]; · iexact H4
  iexact H5
/-- Device 0's rights and positions for its sends, kind by kind, make up those for each receiver. -/
theorem gvs : iprop((bigSep (Finset.univ.erase 0) fun m : Dev nD => iprop(may 0 (.ks m) ∗ may 0 (.vs m) ∗ may m .kr ∗ may m .vr))
      ∗ (bigSep (Finset.univ.erase 0) fun m : Dev nD => at0 0 (.ks m)) ∗ bigSep (Finset.univ.erase 0) fun m : Dev nD => at0 0 (.vs m))
    ⊢ (bigSep (Finset.univ.erase 0) fun m : Dev nD => gv (F := F) m) := by
  rw [← bigSep_sep', ← bigSep_sep']
  refine bigSep_mono fun r _ => ?_
  unfold gv
  show iprop(_) ⊢ (_ : sProp 𝕄)
  iintro ⟨⟨H1, H2, H3, H4⟩, H5, H6⟩
  isplitl [H1]; · iexact H1
  isplitl [H2]; · iexact H2
  isplitl [H3]; · iexact H3
  isplitl [H4]; · iexact H4
  isplitl [H5]; · iexact H5
  iexact H6
/-- What the exchange rounds close, sorted by kind of channel. -/
theorem zxs (c : Dev nD) : (bigSep Finset.univ fun r : Fin 3 => zx (F := F) r c)
    ⊢ iprop((bigSep Finset.univ fun r => shut c (.rss r)) ∗ bigSep Finset.univ fun r => shut c (.rsr r)) := by
  rw [← bigSep_sep']; exact Entails.of_eq rfl
/-- The same for the hand-round. -/
theorem zhs (c : Dev nD) : (bigSep Finset.univ fun r : Fin 3 => zh (F := F) r c)
    ⊢ iprop((bigSep Finset.univ fun r => shut c (.ags r)) ∗ bigSep Finset.univ fun r => shut c (.agr r)) := by
  rw [← bigSep_sep']; exact Entails.of_eq rfl
/-- What the scatter closes, sorted into the keys' channels and the values'. -/
theorem closeds : (bigSep (Finset.univ.erase 0) fun m : Dev nD => closed (F := F) m)
    ⊢ iprop((bigSep (Finset.univ.erase 0) fun m : Dev nD => shut 0 (.ks m)) ∗ bigSep (Finset.univ.erase 0) fun m : Dev nD => shut 0 (.vs m)) := by
  rw [← bigSep_sep']; exact Entails.of_eq rfl

/-- A product over the devices is device 0's factor and the others'. -/
theorem split0 (Φ : Fin 8 → sProp 𝕄) : bigSep Finset.univ Φ = iprop(Φ 0 ∗ bigSep (Finset.univ.erase 0) Φ) := BI.bigSep_univ_split 0

/-- A family of channels nobody uses, closed at once. -/
theorem shut_all (c : Dev nD) (k : Fin 8 → Ch) (h : ∀ m, ¬used c (k m)) :
    iprop(known V κ ∗ bigSep Finset.univ fun m => at0 c (k m)) ⊢ (iprop(|={Set.univ}=> bigSep Finset.univ fun m => shut c (k m)) : sProp 𝕄) :=
  (bigSep_with_persistent fun m _ => shut_unused (α := Unit) V κ c (k m) (h m)).trans (bigSep_fupd _ _)

/-- The barrier cell of a device nobody signals, closed. -/
theorem shut_bar (c : Dev nD) (h : c ≠ 0) :
    iprop(known V κ ∗ atPos ER (bar c) 0 ∅ 0) ⊢ (iprop(|={Set.univ}=> semVal (bar c) 0) : sProp 𝕄) := by
  iintro ⟨#Hkn, Hat⟩
  iapply (Rounds.cell_close ER (Rd V) (Set.mem_univ (κ (bar c))) id (R := 0) (fun r _ => by
    rcases Nat.eq_zero_or_pos r with rfl | hr
    · exact duties_bar_ne V c h
    · exact duties_later V _ r hr))
  isplitr
  · iapply (known_bar V κ c) $$ Hkn
  iexact Hat

/-- What a device ends with. -/
def done (c : Dev nD) (X : Vec F S1024x768 .bf16) (Wq : Vec F S768x512 .bf16) (Wo : Vec F S512x768 .bf16) (K W : Vec F S2x512x4096 .f32) : sProp 𝕄 :=
  iprop(mem c X Wq Wo ∗ kv c K W ∗ scr c ∗ lsems c ∗ ownB c oM (outV (fin V)) ∗ ow c 0 ∗ (bigSep Finset.univ fun k : Ch => shut c k) ∗ semVal (bar c) 0)

/-- THE BODY on a device other than the first. -/
theorem wp_other (c : Dev nD) (hc : c ≠ 0) (X : Vec F S1024x768 .bf16) (Wq : Vec F S768x512 .bf16) (Wo : Vec F S512x768 .bf16)
    (K W : Vec F S2x512x4096 .f32) (hA : V.A0 c = proj Wo (ctx (k0_pay19 X Wq) (V.kp c) (V.vp c))) (Q : PUnit → sProp 𝕄) :
    iprop(start V κ c ∗ mem c X Wq Wo ∗ kv c K W ∗ scr c ∗ lsems c ∗ anyB c oM ∗ ow c (O₀ c) ∗ (done V c X Wq Wo K W -∗ Q ⟨⟩))
      ⊢ wpc c (phases c) Q := by
  rw [phases_eq]
  unfold start toks creds scr done scr
  rw [bigSep_ch (at0 c), bigSep_ch (shut c), if_neg hc, if_neg hc, show O₀ c = OR c 3 + tallyAt (bar 0) () 1 from if_neg hc]
  iintro ⟨⟨#Hkn, #Hr, ⟨⟨⟨Hks, Hvs⟩, Hkr, Hvr⟩, ⟨Hrss, Hrsr⟩, Hags, Hagr⟩, Hbar, #Hrb, ⟨Htx, Hth, Ht⟩, Hcx, Hch, Hck, Hcv⟩,
    Hm, Hkv, ⟨HA, ⟨Hkb, Hvb⟩, ⟨Hq, Hc, Ha⟩, Hsnd, Hrcv⟩, Hl, Hout, Ho, Hk⟩
  iapply (wpc_bind c _ _ _)
  iapply (wp_front V κ c hc X Wq Wo hA _)
  isplitr; · iexact Hkn
  isplitl [Hm]; · iexact Hm
  isplitl [Hq Hc Ha]
  · isplitl [Hq]; · iexact Hq
    isplitl [Hc]; · iexact Hc
    iexact Ha
  isplitl [Hkb Hvb]
  · isplitl [Hkb]; · iexact Hkb
    iexact Hvb
  isplitl [Hrcv]; · iexact Hrcv
  isplitr; · iexact Hr
  isplitl [Ho]; · iexact Ho
  isplitl [Ht]; · iexact Ht
  isplitr; · iexact Hrb
  isplitl [Hkr Hck]
  · unfold ready at0; isplitl [Hkr]; · iexact Hkr
    iexact Hck
  isplitl [Hvr Hcv]
  · unfold ready at0; isplitl [Hvr]; · iexact Hvr
    iexact Hcv
  iintro ⟨Hm, ⟨Hq, Hc⟩, HKV, Hrow, Hp, Ho, Hz1, Hz2⟩
  unfold partners
  icases Hp with ⟨Hp, #Hall⟩
  unfold wpc
  imod (shut_all V κ c Ch.ks (fun m h => hc h.1)) $$ [Hks] with Hks
  · isplitr; · iexact Hkn
    iexact Hks
  imod (shut_all V κ c Ch.vs (fun m h => hc h.1)) $$ [Hvs] with Hvs
  · isplitr; · iexact Hkn
    iexact Hvs
  imod (shut_bar V κ c hc) $$ [Hbar] with Hbar
  · isplitr; · iexact Hkn
    iexact Hbar
  iapply (wp_tail V κ c _)
  isplitr; · iexact Hkn
  isplitr; · unfold allr; iexact Hall
  isplitl [Hrow]; · iexact Hrow
  isplitl [Hsnd]; · iexact Hsnd
  isplitl [Hp]; · unfold recvsP; iexact Hp
  isplitl [Ho]; · iexact Ho
  isplitl [Htx Hrss Hrsr Hcx]
  · iapply (txs c)
    isplitl [Htx]; · iexact Htx
    isplitl [Hrss]; · iexact Hrss
    isplitl [Hrsr]; · iexact Hrsr
    iexact Hcx
  isplitl [Hth Hags Hagr Hch]
  · iapply (ths c)
    isplitl [Hth]; · iexact Hth
    isplitl [Hags]; · iexact Hags
    isplitl [Hagr]; · iexact Hagr
    iexact Hch
  isplitl [Hout]; · iexact Hout
  iintro ⟨Ha, Hout, Hsnd, Hrcv, Ho, Hzx, Hzh⟩
  ihave Hzx' := (zxs c) $$ Hzx
  ihave Hzh' := (zhs c) $$ Hzh
  iapply Hk
  isplitl [Hm]; · iexact Hm
  isplitl [Hkv]; · iexact Hkv
  isplitl [HA HKV Hq Hc Ha Hsnd Hrcv]
  · isplitl [HA]; · iexact HA
    isplitl [HKV]; · iexact HKV
    isplitl [Hq Hc Ha]
    · isplitl [Hq]; · iexact Hq
      isplitl [Hc]; · iexact Hc
      iexact Ha
    isplitl [Hsnd]; · iexact Hsnd
    iexact Hrcv
  isplitl [Hl]; · iexact Hl
  isplitl [Hout]; · iexact Hout
  isplitl [Ho]; · iexact Ho
  isplitr [Hbar]
  · isplitl [Hks Hvs Hz1 Hz2]
    · isplitl [Hks Hvs]
      · isplitl [Hks]; · iexact Hks
        iexact Hvs
      isplitl [Hz1]; · iexact Hz1
      iexact Hz2
    isplitl [Hzx']; · iexact Hzx'
    iexact Hzh'
  iexact Hbar

/-- THE BODY on device 0. -/
theorem wp_first (X : Vec F S1024x768 .bf16) (Wq : Vec F S768x512 .bf16) (Wo : Vec F S512x768 .bf16)
    (K W : Vec F S2x512x4096 .f32) (hA : V.A0 0 = proj Wo (ctx (k0_pay19 X Wq) (V.kp 0) (V.vp 0)))
    (hk : ∀ m : Fin 8, V.kp m = blk K (512 * m.val) (colInb m)) (hv : ∀ m : Fin 8, V.vp m = blk W (512 * m.val) (colInb m)) (Q : PUnit → sProp 𝕄) :
    iprop(start V κ 0 ∗ mem 0 X Wq Wo ∗ kv 0 K W ∗ scr 0 ∗ lsems 0 ∗ anyB 0 oM ∗ ow 0 (O₀ 0) ∗ (done V 0 X Wq Wo K W -∗ Q ⟨⟩))
      ⊢ wpc 0 (phases 0) Q := by
  rw [phases_eq]
  unfold start toks creds scr done scr kv lsems
  rw [bigSep_ch (at0 0), bigSep_ch (shut 0), if_pos rfl, if_pos rfl, show O₀ 0 = OS order from if_pos rfl,
    split0 (fun m => at0 (F := F) 0 (.ks m)), split0 (fun m => at0 (F := F) 0 (.vs m)),
    split0 (fun m => shut (F := F) 0 (.ks m)), split0 (fun m => shut (F := F) 0 (.vs m))]
  iintro ⟨⟨#Hkn, #Hr, ⟨⟨⟨Hks, Hvs⟩, Hkr, Hvr⟩, ⟨Hrss, Hrsr⟩, Hags, Hagr⟩, Hbar, #Hrb, ⟨Htx, Hth, Ht⟩, Hcx, Hch, Hcb⟩,
    Hm, ⟨HK, HW⟩, ⟨⟨HAk, HAv, HAs⟩, ⟨Hkb, Hvb⟩, ⟨Hq, Hc, Ha⟩, Hsnd, Hrcv⟩, ⟨Hl0, Hl1⟩, Hout, Ho, Hk⟩
  icases Hks with ⟨Hks0, Hks⟩
  icases Hvs with ⟨Hvs0, Hvs⟩
  ihave HAk' := (ks_slots 0).1 $$ HAk
  ihave HAv' := (vs_slots 0).1 $$ HAv
  ihave HAs' := (st_slots 0).1 $$ HAs
  icases HAk' with ⟨Hk0, Hk1⟩
  icases HAv' with ⟨Hv0, Hv1⟩
  iapply (wpc_bind 0 _ _ _)
  iapply (wp_front0 V κ X Wq Wo hA K W hk hv _)
  isplitr; · iexact Hkn
  isplitl [Hm]; · iexact Hm
  isplitl [Hq Hc Ha]
  · isplitl [Hq]; · iexact Hq
    isplitl [Hc]; · iexact Hc
    iexact Ha
  isplitl [Hkb Hvb]
  · isplitl [Hkb]; · iexact Hkb
    iexact Hvb
  isplitl [Hrcv]; · iexact Hrcv
  isplitr; · iexact Hr
  isplitl [Ho]; · iexact Ho
  isplitl [Hbar]; · iexact Hbar
  isplitl [Hcb]; · iexact Hcb
  isplitl [HK HW HAs' Hl0 Hl1]
  · unfold base lsem
    isplitl [HK]; · iexact HK
    isplitl [HW]; · iexact HW
    isplitl [HAs']; · iexact HAs'
    isplitl [Hl0]; · iexact Hl0
    iexact Hl1
  isplitl [Hk0 Hv0]
  · unfold slots; isplitl [Hk0]; · iexact Hk0
    iexact Hv0
  isplitl [Hk1 Hv1]
  · unfold slots; isplitl [Hk1]; · iexact Hk1
    iexact Hv1
  isplitl [Ht Hks Hvs]
  · iapply gvs
    isplitl [Ht]; · iexact Ht
    isplitl [Hks]; · iexact Hks
    iexact Hvs
  iintro ⟨Hm, ⟨Hq, Hc⟩, HKV, Hrow, Hp, Ho, Hb, Hs0, Hs1, HD, Hbar⟩
  unfold partners base slots lsem
  icases Hp with ⟨Hp, #Hall⟩
  icases Hb with ⟨HK, HW, HAs', Hl0, Hl1⟩
  icases Hs0 with ⟨Hk0, Hv0⟩
  icases Hs1 with ⟨Hk1, Hv1⟩
  ihave HD' := (closeds (F := F)) $$ HD
  icases HD' with ⟨Hks, Hvs⟩
  unfold wpc
  imod (shut_unused (α := Unit) V κ 0 (.ks 0) (fun h => h.2 rfl)) $$ [Hks0] with Hks0
  · isplitr; · iexact Hkn
    iexact Hks0
  imod (shut_unused (α := Unit) V κ 0 (.vs 0) (fun h => h.2 rfl)) $$ [Hvs0] with Hvs0
  · isplitr; · iexact Hkn
    iexact Hvs0
  imod (shut_unused (α := Unit) V κ 0 .kr (fun h => h rfl)) $$ [Hkr] with Hkr
  · isplitr; · iexact Hkn
    iexact Hkr
  imod (shut_unused (α := Unit) V κ 0 .vr (fun h => h rfl)) $$ [Hvr] with Hvr
  · isplitr; · iexact Hkn
    iexact Hvr
  iapply (wp_tail V κ 0 _)
  isplitr; · iexact Hkn
  isplitr; · unfold allr; iexact Hall
  isplitl [Hrow]; · iexact Hrow
  isplitl [Hsnd]; · iexact Hsnd
  isplitl [Hp]; · unfold recvsP; iexact Hp
  isplitl [Ho]; · iexact Ho
  isplitl [Htx Hrss Hrsr Hcx]
  · iapply (txs 0)
    isplitl [Htx]; · iexact Htx
    isplitl [Hrss]; · iexact Hrss
    isplitl [Hrsr]; · iexact Hrsr
    iexact Hcx
  isplitl [Hth Hags Hagr Hch]
  · iapply (ths 0)
    isplitl [Hth]; · iexact Hth
    isplitl [Hags]; · iexact Hags
    isplitl [Hagr]; · iexact Hagr
    iexact Hch
  isplitl [Hout]; · iexact Hout
  iintro ⟨Ha, Hout, Hsnd, Hrcv, Ho, Hzx, Hzh⟩
  ihave Hzx' := (zxs 0) $$ Hzx
  ihave Hzh' := (zhs 0) $$ Hzh
  iapply Hk
  isplitl [Hm]; · iexact Hm
  isplitl [HK HW]
  · isplitl [HK]; · iexact HK
    iexact HW
  isplitl [Hk0 Hk1 Hv0 Hv1 HAs' HKV Hq Hc Ha Hsnd Hrcv]
  · isplitl [Hk0 Hk1 Hv0 Hv1 HAs']
    · isplitl [Hk0 Hk1]
      · iapply (ks_slots 0).2
        isplitl [Hk0]; · iexact Hk0
        iexact Hk1
      isplitl [Hv0 Hv1]
      · iapply (vs_slots 0).2
        isplitl [Hv0]; · iexact Hv0
        iexact Hv1
      iapply (st_slots 0).2 $$ HAs'
    isplitl [HKV]; · iexact HKV
    isplitl [Hq Hc Ha]
    · isplitl [Hq]; · iexact Hq
      isplitl [Hc]; · iexact Hc
      iexact Ha
    isplitl [Hsnd]; · iexact Hsnd
    iexact Hrcv
  isplitl [Hl0 Hl1]
  · isplitl [Hl0]; · iexact Hl0
    iexact Hl1
  isplitl [Hout]; · iexact Hout
  isplitl [Ho]; · iexact Ho
  isplitr [Hbar]
  · isplitl [Hks0 Hvs0 Hks Hvs Hkr Hvr]
    · isplitl [Hks0 Hvs0 Hks Hvs]
      · isplitl [Hks0 Hks]
        · isplitl [Hks0]; · iexact Hks0
          iexact Hks
        isplitl [Hvs0]; · iexact Hvs0
        iexact Hvs
      isplitl [Hkr]; · iexact Hkr
      iexact Hvr
    isplitl [Hzx']; · iexact Hzx'
    iexact Hzh'
  iexact Hbar

/-- THE BODY at every device. -/
theorem wp_body (c : Dev nD) (X : Vec F S1024x768 .bf16) (Wq : Vec F S768x512 .bf16) (Wo : Vec F S512x768 .bf16)
    (K W : Vec F S2x512x4096 .f32) (hA : V.A0 c = proj Wo (ctx (k0_pay19 X Wq) (V.kp c) (V.vp c)))
    (hk : c = 0 → ∀ m : Fin 8, V.kp m = blk K (512 * m.val) (colInb m)) (hv : c = 0 → ∀ m : Fin 8, V.vp m = blk W (512 * m.val) (colInb m)) (Q : PUnit → sProp 𝕄) :
    iprop(start V κ c ∗ mem c X Wq Wo ∗ kv c K W ∗ scr c ∗ lsems c ∗ anyB c oM ∗ ow c (O₀ c) ∗ (done V c X Wq Wo K W -∗ Q ⟨⟩))
      ⊢ wpc c (phases c) Q := by
  by_cases hc : c = 0
  · subst hc; exact wp_first V κ X Wq Wo K W hA (hk rfl) (hv rfl) Q
  · exact wp_other V κ c hc X Wq Wo K W hA Q

end Cert.KernelIdeal.Attn
-- ==== Proof.PIdeal.Region.lean ====
/-
The region as the launch enters and leaves it: the contents before and after, the body at its one point.
-/
module

public import proofs.«01_k».proof.Proof.PIdeal.Body
public import Idealize.ShloMosaic.Lib.Rounds.Family
public import Idealize.ShloMosaic.Lib.Pipeline.ValueKit

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

open Idealize.ShloMosaic.Transfers (Flight)
variable (V : Vals F) (κ : GSem nD τ sig → ℕ)

variable (m : (ℓ : Loc nD τ sig) → Buf (Elt F) ℓ)

/-! ## Contents before the host lines, after them, after the region -/

def V₀ (c : Dev nD) : Valuation τ sig (Elt F) := fun b => m ((c : Dev nD), b)
def V₁ (c : Dev nD) : Valuation τ sig (Elt F) := StableHlo.after hostOps0 (V₀ m c)

/-- A device's operands as the region meets them. -/
def xOf (c : Dev nD) : Vec F S1024x768 .bf16 := V₁ m c (Proc.devRef .tc main_v1)
def wqOf (c : Dev nD) : Vec F S768x512 .bf16 := V₁ m c (Proc.devRef .tc main_arg1)
def woOf (c : Dev nD) : Vec F S512x768 .bf16 := V₁ m c (Proc.devRef .tc main_arg4)
def kOf (c : Dev nD) : Vec F S2x512x4096 .f32 := V₁ m c (Proc.devRef .tc main_v2)
def vOf (c : Dev nD) : Vec F S2x512x4096 .f32 := V₁ m c (Proc.devRef .tc main_v3)

/-- The values of the schedule: keys and values are cut from device 0's, each device's partial product is its own heads'. -/
def Vm : Vals F where
  kp d := blk (kOf m 0) (512 * d.val) (colInb d)
  vp d := blk (vOf m 0) (512 * d.val) (colInb d)
  A0 c := proj (woOf m c) (ctx (k0_pay19 (xOf m c) (wqOf m c)) (blk (kOf m 0) (512 * c.val) (colInb c)) (blk (vOf m 0) (512 * c.val) (colInb c)))

/-- What the result ends at. -/
def outOf : Vec F S2x512x768 .f32 := outV (fin (Vm m))
def V₂ (c : Dev nD) : Valuation τ sig (Elt F) := Function.update (V₁ m c) (Proc.devRef .tc main_v4) (outOf m)

/-! ## Buffer sets -/

def bufs : Finset (DevRef τ sig) := (StableHlo.tcRefs τ sig).filter fun b => ¬ b.isScoped
/-- The two operands the body addresses itself; with the arguments no window stages. -/
def Hs : Finset (DevRef τ sig) := {Proc.devRef .tc main_v2, Proc.devRef .tc main_v3}
def Sr : Finset (DevRef τ sig) := {Proc.devRef .tc main_arg0, Proc.devRef .tc main_arg2, Proc.devRef .tc main_arg3, Proc.devRef .tc main_v2, Proc.devRef .tc main_v3}
/-- The buffers the body addresses itself are among those no window stages. -/
theorem Hs_sub : Hs ⊆ Sr := by decide

/-- The buffers outside the scopes, as one set of held buffers. -/
theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

/-- Owning a whole buffer at contents `X`, spelled out. -/
theorem ownB_whole (c : Dev nD) (b : Ref sig .tc) (X : b.ty.Contents (Elt F)) :
    ownB (F := F) c (Memref.whole b) X = iprop(∃ f, ⌜f = X⌝ ∗ (((c : Thread nD τ).loc b) ↦{fullShare} f)) := by
  unfold ownB
  simp only [Memref.view_whole, View.read_whole, View.set_whole]
/-- Owning a whole buffer at contents `X` is the points-to of `X`. -/
theorem ownB_of (c : Dev nD) (b : Ref sig .tc) (X : b.ty.Contents (Elt F)) :
    ownB (F := F) c (Memref.whole b) X = ((((c : Thread nD τ).loc b) ↦{fullShare} X) : sProp 𝕄) := by
  rw [ownB_whole]
  refine BI.equiv_iff.mp ⟨?_, ?_⟩
  · show iprop(_) ⊢ (_ : sProp 𝕄)
    iintro ⟨%f, %h, H⟩; subst h; iexact H
  · show _ ⊢ (iprop(_) : sProp 𝕄)
    iintro H; iexists X; isplitr; · ipureintro; rfl
    iexact H
/-- Owning a whole buffer at some contents is its points-to at some contents. -/
theorem anyB_of (c : Dev nD) (b : Ref sig .tc) :
    anyB (F := F) c (Memref.whole b) = (iprop(∃ f : Buf (Elt F) ((c : Thread nD τ).loc b), ((c : Thread nD τ).loc b) ↦{fullShare} f) : sProp 𝕄) := by
  unfold anyB
  simp only [Memref.view_whole, View.set_whole]

/-- The held operands of the body are the keys and the values. -/
theorem held_Hs (c : Dev nD) (W : Valuation τ sig (Elt F)) : (StableHlo.held (c.tc : Thread nD τ) Hs W : sProp 𝕄)
    = kv c (W (Proc.devRef .tc main_v2)) (W (Proc.devRef .tc main_v3)) := by
  unfold StableHlo.held Hs kv
  rw [bigSep_eq_bigSepL_of_eq [Proc.devRef .tc main_v2, Proc.devRef .tc main_v3] (by decide) (by decide), ownB_of c main_v2, ownB_of c main_v3]
  rfl

/-- The region's scoped memory is the scratch the proof speaks of. -/
theorem scoped_scr (c : Dev nD) : (Pipeline.scopedRest (Ix := Unit) (Name := ℕ) (U := UU) (Lvl := ℕ) (Val := Elt F) spec0 c : sProp 𝕄) ⊣⊢ scr c := by
  rw [scopedRest0_eq]
  unfold scr sends recvs
  rw [bigSep_three, bigSep_three]
  unfold ksM vsM stM kbM vbM qM cM aM sndM rcvM
  simp only [anyB_of]
  constructor
  · iintro ⟨H0, H1, H2, H3, H4, H5, H6, H7, H8, H9, H10, H11, H12, H13⟩
    isplitl [H0 H1 H2]; · isplitl [H0]; · iexact H0
                          isplitl [H1]; · iexact H1
                          iexact H2
    isplitl [H3 H4]; · isplitl [H3]; · iexact H3
                       iexact H4
    isplitl [H5 H6 H7]; · isplitl [H5]; · iexact H5
                          isplitl [H6]; · iexact H6
                          iexact H7
    isplitl [H8 H9 H10]; · isplitl [H8]; · iexact H8
                           isplitl [H9]; · iexact H9
                           iexact H10
    isplitl [H11]; · iexact H11
    isplitl [H12]; · iexact H12
    iexact H13
  · iintro ⟨⟨H0, H1, H2⟩, ⟨H3, H4⟩, ⟨H5, H6, H7⟩, ⟨H8, H9, H10⟩, H11, H12, H13⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-! ## The kernel's own semaphores -/

def osem : Ch ⊕ Fin 2 → SemLoc sig | .inl k => .dma k.sem | .inr σ => .dma (locS σ)
/-- The kernel's own semaphores are as the region needs them. -/
theorem osemFacts : Pipeline.OwnSemFacts spec0 osem := by decide
/-- The kernel's own semaphores are the channels' and the local ones, at zero. -/
theorem ownSems_eq (c : Dev nD) : (Pipeline.ownSems0 osem c : sProp 𝕄) = iprop((bigSep Finset.univ fun k : Ch => semVal (cell c k) 0) ∗ lsems c) := by
  unfold Pipeline.ownSems0 lsems
  rw [bigSep_univ_sum, BI.bigSep_fin_two]
  rfl

/-! ## Proof data -/

/-- What the launch leaves a device for the region: everything but the semaphores, the cells not yet open. -/
def Tk (c : Dev nD) : sProp 𝕄 :=
  iprop((∃ κ : GSem nD τ sig → ℕ, (bigSep Finset.univ fun d : Dev nD => bigSep Finset.univ fun k : Ch => cellInv ER (Rd (Vm m)) (κ (cell d k)) (cell d k))
      ∗ bigSep Finset.univ fun d : Dev nD => cellInv ER (Rd (Vm m)) (κ (bar d)) (bar d))
    ∗ (bigSep Finset.univ fun k : Ch => openTok ER (cell c k)) ∗ atPos ER (bar c) 0 ∅ 0 ∗ reached ER (bar 0) 0 ∗ toks c ∗ creds c)
def Xk (c : Dev nD) : sProp 𝕄 := iprop(∃ κ : GSem nD τ sig → ℕ, start (Vm m) κ c ∗ lsems c)
def Yk (c : Dev nD) : sProp 𝕄 := semVal (bar c) 0

def dat0 (c : Dev nD) : Pipeline.Dat τ (Elt F) Unit ℕ UU ℕ cfg0 c where
  A w := match w with
    | ⟨0, _⟩ => xOf m c
    | ⟨1, _⟩ => wqOf m c
    | ⟨2, _⟩ => woOf m c
    | ⟨3, _⟩ => V₁ m c (Proc.devRef .tc main_v4)
  after w _ := match w with
    | ⟨0, _⟩ => xOf m c
    | ⟨1, _⟩ => wqOf m c
    | ⟨2, _⟩ => woOf m c
    | ⟨3, _⟩ => outOf m
  Φ t := if t.val = 0 then iprop(Xk m c ∗ kv c (kOf m c) (vOf m c) ∗ scr c ∗ ∃ r, prngReg c r)
    else iprop(((bigSep Finset.univ fun k : Ch => shut c k) ∗ lsems c) ∗ Yk c ∗ kv c (kOf m c) (vOf m c) ∗ scr c ∗ ∃ r, prngReg c r)
  q _ := fullShare
  owed t := if t.val = 0 then O₀ c else 0

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c
  | 0 => dat0 m

/-- At the region's start a device owes what it owes at launch. -/
theorem owed_first (c : Dev nD) : (dat0 (F := F) m c).owed (t0_0 : Fin cfg0.N).castSucc = O₀ c := by
  show (if ((t0_0 : Fin cfg0.N).castSucc : Fin (cfg0.N + 1)).val = 0 then O₀ c else 0) = O₀ c; exact if_pos rfl
/-- At the region's end a device owes nothing. -/
theorem owed_last (c : Dev nD) : (dat0 (F := F) m c).owed (Fin.last _) = 0 := by
  show (if (Fin.last cfg0.N).val = 0 then O₀ c else 0) = 0
  rw [Fin.val_last, if_neg (by rw [show cfg0.N = 1 from N_0]; decide)]
/-- Every staged operand is held in full. -/
theorem share_full (c : Dev nD) (w : Fin cfg0.W) : (dat0 (F := F) m c).share w = fullShare := by unfold Dat.share; split <;> rfl

/-- A device that owes `O` owes what the region's data say. -/
theorem owesAt_intro {cfg : Pipeline.Cfg sig Λ₀} {c : Dev nD} (dat : Dat τ (Elt F) Unit ℕ UU ℕ cfg c) (t : Fin (cfg.N + 1))
    (O : CellTallies nD τ sig Unit) (h0 : dat.owed t = O) (hr : dat.recorded t = Set.univ := by first | rfl | skip) :
    (ow c O : sProp 𝕄) ⊢ (dat.owesAt () t : sProp 𝕄) := by
  unfold ow Dat.owesAt Pipeline.owesWithin Dat.bound; rw [h0, hr]
  iintro ⟨%W, HO⟩; iexists W; isplitr; · ipureintro; exact fun _ _ => Or.inl trivial
  iexact HO
/-- A device that owes what the region's data say owes `O`. -/
theorem owesAt_elim {cfg : Pipeline.Cfg sig Λ₀} {c : Dev nD} (dat : Dat τ (Elt F) Unit ℕ UU ℕ cfg c) (t : Fin (cfg.N + 1))
    (O : CellTallies nD τ sig Unit) (h0 : dat.owed t = O) :
    (dat.owesAt () t : sProp 𝕄) ⊢ ow c O := by
  unfold ow Dat.owesAt Pipeline.owesWithin; rw [h0]
  iintro ⟨%W, -, HO⟩; iexists W; iexact HO

/-- Holding a memref in full is owning it at those contents. -/
theorem owns_eq (c : Dev nD) {sp : Space} {s : Shape} {e : EltTy} (M : Memref sig .tc sp s e) (X : s.Idx → Elt F e) :
    (owns (Ix := Unit) (Name := ℕ) (U := UU) (Lvl := ℕ) (c : Thread nD τ) M fullShare X : sProp 𝕄) = ownB c M X := rfl

/-- Before the body the tokens' window holds the device's tokens. -/
theorem before_x (c : Dev nD) (d) : (dat0 m c).before (0 : Fin 4) (t0_0 : Fin cfg0.N) d = xOf m c := by
  unfold Dat.before; rw [if_pos (fetch0_0 t0_0)]
  exact Memref.read_access_unit_zero (Elt F) main_v1 (off := fun a => (win0_0.index (t0_0 : Fin grid0.N)) a * main_v1.ty.shape.size a)
    (funext fun a => by fin_cases a <;> decide) (fun a => by fin_cases a <;> decide) (xOf m c)
/-- Before the body the query weights' window holds the device's query weights. -/
theorem before_q (c : Dev nD) (d) : (dat0 m c).before (1 : Fin 4) (t0_0 : Fin cfg0.N) d = wqOf m c := by
  unfold Dat.before; rw [if_pos (fetch0_1 t0_0)]
  exact Memref.read_access_unit_zero (Elt F) main_arg1 (off := fun a => (win0_1.index (t0_0 : Fin grid0.N)) a * main_arg1.ty.shape.size a)
    (funext fun a => by fin_cases a <;> decide) (fun a => by fin_cases a <;> decide) (wqOf m c)
/-- Before the body the output weights' window holds the device's output weights. -/
theorem before_o (c : Dev nD) (d) : (dat0 m c).before (2 : Fin 4) (t0_0 : Fin cfg0.N) d = woOf m c := by
  unfold Dat.before; rw [if_pos (fetch0_2 t0_0)]
  exact Memref.read_access_unit_zero (Elt F) main_arg4 (off := fun a => (win0_2.index (t0_0 : Fin grid0.N)) a * main_arg4.ty.shape.size a)
    (funext fun a => by fin_cases a <;> decide) (fun a => by fin_cases a <;> decide) (woOf m c)

/-- THE BODY at the one point: it starts from `Xk`, ends with the channels shut and the result's block finished. -/
theorem body_obligation (c : Dev nD) : BodyObligation (dat0 (F := F) m c) (defs₀ (F := F)) 𝒱₀ () Set.univ := fun t => by
  obtain rfl := fin_N0 t
  rw [bigSep_W0, bigSep_W0]
  rw [show (dat0 (F := F) m c).Φ (t0_0 : Fin cfg0.N).castSucc = iprop(Xk m c ∗ kv c (kOf m c) (vOf m c) ∗ scr c ∗ ∃ r, prngReg c r) from rfl,
    show (dat0 (F := F) m c).Φ (t0_0 : Fin cfg0.N).succ = iprop(((bigSep Finset.univ fun k : Ch => shut c k) ∗ lsems c) ∗ Yk c ∗ kv c (kOf m c) (vOf m c) ∗ scr c ∗ ∃ r, prngReg c r) from rfl]
  simp only [before_x, before_q, before_o]
  show iprop((Xk m c ∗ kv c (kOf m c) (vOf m c) ∗ scr c ∗ ∃ r, prngReg c r) ∗ (dat0 m c).owesAt () (t0_0 : Fin cfg0.N).castSucc
      ∗ (∃ d, ownB c xM (xOf m c)) ∗ (∃ d, ownB c wqM (wqOf m c)) ∗ (∃ d, ownB c woM (woOf m c)) ∗ (∃ d, ownB c oM ((dat0 m c).before (3 : Fin 4) (t0_0 : Fin cfg0.N) d)))
    ⊢ wpc c (onBufs (cc0_body (F := F))) (fun _ => iprop((((bigSep Finset.univ fun k : Ch => shut c k) ∗ lsems c) ∗ Yk c ∗ kv c (kOf m c) (vOf m c) ∗ scr c ∗ ∃ r, prngReg c r)
      ∗ (dat0 m c).owesAt () (t0_0 : Fin cfg0.N).succ ∗ ownB c xM (xOf m c) ∗ ownB c wqM (wqOf m c) ∗ ownB c woM (woOf m c) ∗ ownB c oM (outOf m)))
  rw [body_eq]
  unfold wpc
  rw [wp_deviceId]
  unfold Xk
  iintro ⟨⟨⟨%κ, Hst, Hl⟩, Hkv, Hs, Hp⟩, Ho, ⟨%d0, Hx⟩, ⟨%d1, Hq⟩, ⟨%d2, Hwo⟩, ⟨%d3, Hout⟩⟩
  iapply (wp_body (Vm m) κ c (xOf m c) (wqOf m c) (woOf m c) (kOf m c) (vOf m c) rfl (fun h _ => by subst h; rfl) (fun h _ => by subst h; rfl) _)
  isplitl [Hst]; · iexact Hst
  isplitl [Hx Hq Hwo]
  · unfold mem
    isplitl [Hx]; · iexact Hx
    isplitl [Hq]; · iexact Hq
    iexact Hwo
  isplitl [Hkv]; · iexact Hkv
  isplitl [Hs]; · iexact Hs
  isplitl [Hl]; · iexact Hl
  isplitl [Hout]; · iapply (ownB_any c oM _) $$ Hout
  isplitl [Ho]; · iapply (owesAt_elim (dat0 m c) _ (O₀ c) (owed_first m c)) $$ Ho
  unfold done mem Yk
  iintro ⟨⟨Hx, Hq, Hwo⟩, Hkv, Hs, Hl, Hout, Ho, Hsh, Hb⟩
  isplitl [Hsh Hl Hb Hkv Hs Hp]
  · isplitl [Hsh Hl]
    · isplitl [Hsh]; · iexact Hsh
      iexact Hl
    isplitl [Hb]; · iexact Hb
    isplitl [Hkv]; · iexact Hkv
    isplitl [Hs]; · iexact Hs
    iexact Hp
  isplitl [Ho]; · iapply (owesAt_intro (dat0 m c) _ 0 (owed_last m c)) $$ Ho
  isplitl [Hx]; · iexact Hx
  isplitl [Hq]; · iexact Hq
  isplitl [Hwo]; · iexact Hwo
  iexact Hout

end Cert.KernelIdeal.Attn
-- ==== Proof.PIdeal.Segs.lean ====
/-
The region and the host lines before it as the two segments of the program.
-/
module

public import proofs.«01_k».proof.Proof.PIdeal.Region
public import Idealize.ShloMosaic.Lib.Rounds.Family
public import Idealize.ShloMosaic.Lib.Pipeline.ValueKit

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

open Idealize.ShloMosaic.Transfers (Flight)

variable (m : (ℓ : Loc nD τ sig) → Buf (Elt F) ℓ)

/-- The region's entry: the device's channels are opened on their own counters. -/
theorem hopen (c : Dev nD) : iprop(Tk m c ∗ Pipeline.ownSems0 osem c ∗ levAts L lv) ⊢ (|={Set.univ}=> Xk m c : sProp 𝕄) := by
  rw [ownSems_eq]
  unfold Tk Xk
  iintro ⟨⟨⟨%κ, #HA, #HB⟩, Hop, Hbar, #Hrb, Ht, Hc⟩, ⟨Hsem, Hl⟩, #Hlev⟩
  imod (Rounds.cells_open ER (Rd (Vm m)) Finset.univ (fun k : Ch => cell c k) (fun k : Ch => κ (cell c k)) (fun _ _ => Set.mem_univ _)) $$ [Hop Hsem] with H
  · isplitl [Hop]
    · iapply (bigSep_with_persistent (S := Finset.univ) (R := iprop(bigSep Finset.univ fun d : Dev nD => bigSep Finset.univ fun k : Ch => cellInv ER (Rd (Vm m)) (κ (cell d k)) (cell d k)))
        (Φ := fun k : Ch => openTok ER (cell c k)) fun k _ => sep_mono_left ((bigSep_elim (Finset.mem_univ c)).trans (bigSep_elim (Finset.mem_univ k))))
      isplitr; · iexact HA
      iexact Hop
    · iexact Hsem
  ihave H' := (Entails.of_eq (bigSep_sep' Finset.univ (fun k : Ch => (atPos ER (cell c k) 0 ∅ 0 : sProp 𝕄)) (fun k : Ch => reached ER (cell c k) 0))) $$ H
  icases H' with ⟨Hat, Hr⟩
  imodintro
  iexists κ
  isplitr [Hl]
  · unfold start known
    isplitr
    · isplitr; · iexact HA
      isplitr; · iexact HB
      iexact Hlev
    isplitl [Hr]; · unfold rch; iexact Hr
    isplitl [Hat]; · unfold at0; iexact Hat
    isplitl [Hbar]; · iexact Hbar
    isplitr; · iexact Hrb
    isplitl [Ht]; · iexact Ht
    iexact Hc
  · iexact Hl

/-- What the region receives is what its body starts from. -/
theorem hin (c : Dev nD) : iprop(Pipeline.scopedRest (Pipeline.pin (pcfgs (F := F)) adm 0).spec c ∗ (∃ r, prngReg c r) ∗ StableHlo.held (c.tc : Thread nD τ) Hs (V₁ m c) ∗ Xk m c)
    ⊢ (pdats m 0 c).Φ 0 := by
  rw [show (pdats m 0 c).Φ 0 = iprop(Xk m c ∗ kv c (kOf m c) (vOf m c) ∗ scr c ∗ ∃ r, prngReg c r) from rfl, held_Hs]
  iintro ⟨Hs, Hp, Hkv, HX⟩
  isplitl [HX]; · iexact HX
  isplitl [Hkv]; · iexact Hkv
  isplitl [Hs]; · iapply (scoped_scr c).1 $$ Hs
  iexact Hp

/-- The region changes no buffer but the result. -/
theorem V₂_of_ne (c : Dev nD) (b : Ref sig .tc) (h : b ≠ main_v4) : V₂ m c (Proc.devRef .tc b) = V₁ m c (Proc.devRef .tc b) := by
  unfold V₂; exact Function.update_of_ne (fun e => h (Proc.devRef_injective _ e)) _ _
/-- After the region the result buffer holds the computed result. -/
theorem V₂_out (c : Dev nD) : V₂ m c (Proc.devRef .tc main_v4) = outOf m := by unfold V₂; exact Function.update_self _ _ _

/-- What the body ends with is what the region gives back. -/
theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) Hs (V₂ m c) ∗ Pipeline.ownSems0 osem c ∗ Yk c) := by
  rw [show (pdats m 0 c).Φ (Fin.last _) = iprop(((bigSep Finset.univ fun k : Ch => shut c k) ∗ lsems c) ∗ Yk c ∗ kv c (kOf m c) (vOf m c) ∗ scr c ∗ ∃ r, prngReg c r) from rfl,
    ownSems_eq, held_Hs, V₂_of_ne m c main_v2 (by decide), V₂_of_ne m c main_v3 (by decide)]
  unfold shut
  iintro ⟨Hsm, HY, Hkv, Hs, Hp⟩
  isplitl [Hs]; · iapply (scoped_scr c).2 $$ Hs
  isplitl [Hp]; · iexact Hp
  isplitl [Hkv]; · iexact Hkv
  isplitl [Hsm]; · iexact Hsm
  iexact HY

/-- Everything owed inside the region has a level above 0. -/
theorem cut (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · obtain ⟨h1, h2⟩ := above_O₀ c g i h
    refine ⟨?_, h2⟩
    unfold L; rw [if_pos h1]; exact Finset.mem_singleton_self _
  · exact absurd h (Nat.lt_irrefl 0)

/-- At its start the region owes what a device owes at launch. -/
theorem owed_zero (c : Dev nD) : (pdats (F := F) m 0 c).owed 0 = O₀ c := by
  show (if ((0 : Fin (cfg0.N + 1)).val = 0) then O₀ c else 0) = O₀ c; exact if_pos rfl

/-- The staging copies have level 0. -/
theorem stage_level (c : Dev nD) (w : Fin 4) : ∀ s : Fin (win0 w).nbuf, lv ((c : Thread nD τ), .dma ((win0 w).sem s)) () ≤ 0 := by
  intro s
  refine le_of_eq (lv_loc c _ ?_ ())
  revert s; revert w; decide

/-- An array's contents after the region. -/
theorem arr_end (c : Dev nD) (w : Fin 4) : (dat0 m c).arrAt w cfg0.N = V₂ m c (Proc.devRef .tc (Pipeline.arrRef spec0 w)) := by
  match w with
  | 0 => exact ((dat0 m c).arrAt_in (0 : Fin 4) rfl _).trans (V₂_of_ne m c main_v1 (by decide)).symm
  | 1 => exact ((dat0 m c).arrAt_in (1 : Fin 4) rfl _).trans (V₂_of_ne m c main_arg1 (by decide)).symm
  | 2 => exact ((dat0 m c).arrAt_in (2 : Fin 4) rfl _).trans (V₂_of_ne m c main_arg4 (by decide)).symm
  | 3 =>
    refine ((dat0 m c).arrAt_eq_of_after_last (3 : Fin 4) (t0_0 : Fin cfg0.N) (by decide +kernel) (outOf m) fun j => ?_).trans (V₂_out m c).symm
    rfl

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem osemFacts
    Hs Sr Hs_sub (launch0.toP) rfl (fun c => (body_obligation m c).loose)
    (fun _ => 0) O₀ (fun c => (owed_zero m c).trans (zero_add _).symm) (owed_last m) (fun _ => rfl) (share_full m)
    (V₁ m) (V₂ m) (fun c b hb => by
      unfold V₂
      refine Function.update_of_ne (fun e => ?_) _ _
      subst e; exact absurd hb (by decide))
    (Tk m) Yk (Xk m) Yk (hopen m) (hin m) (hout m)
    (fun c => by iintro H; imodintro; iexact H)
    (fun _ => 0)
    ⟨fun c w s => by rw [L_tc]; exact Finset.mem_singleton_self _, fun c w s => stage_level c w s, fun c t g i h => cut m c t g i h⟩
    (fun _ => iprop(emp))
    (fun c w => by match w with | 0 => rfl | 1 => rfl | 2 => rfl | 3 => rfl) (arr_end m)

/-! ## The host lines -/

/-- The operations before the region use known buffers only. -/
theorem ops_sub : ∀ op ∈ (hostOps0 : List (HloOp τ sig (Elt F))), op.bufs ⊆ bufs := fun op h => by
  simp only [hostOps0, List.mem_cons, List.not_mem_nil, or_false] at h
  rcases h with rfl | rfl | rfl
  · show ({Proc.devRef .tc main_arg0, Proc.devRef .tc main_v1} : Finset (DevRef τ sig)) ⊆ bufs; decide
  · show ({Proc.devRef .tc main_arg2, Proc.devRef .tc main_v2} : Finset (DevRef τ sig)) ⊆ bufs; decide
  · show ({Proc.devRef .tc main_arg3, Proc.devRef .tc main_v3} : Finset (DevRef τ sig)) ⊆ bufs; decide
/-- They allocate none. -/
theorem ops_fresh : ∀ op ∈ (hostOps0 : List (HloOp τ sig (Elt F))), op.fresh = ∅ := fun op h => by
  simp only [hostOps0, List.mem_cons, List.not_mem_nil, or_false] at h
  rcases h with rfl | rfl | rfl <;> rfl

/-- What rides beside the buffers: the launch's deal, the register, what the device owes. -/
def R (c : Dev nD) : sProp 𝕄 := iprop(Tk m c ∗ (∃ r, prngReg c r) ∗ ow c (O₀ c))
def seg0 : Pipeline.HostSeg (Name := ℕ) (U := UU) (pcfgs (F := F)) defs₀ 𝒱₀ L lv :=
  Pipeline.HostSeg.ofOps _ _ _ _ _ bufs hostOps0 ops_sub ops_fresh (V₀ m) (R m)

def arrs : Finset (DevRef τ sig) := Pipeline.arrRefs (τ := τ) spec0
/-- The staged arrays are among the known buffers. -/
theorem arrs_sub : arrs ⊆ bufs := by decide
/-- The known buffers that are not staged. -/
theorem bufs_sdiff : bufs \ arrs = Sr := by decide
/-- The held buffers split into the staged ones and the rest. -/
theorem held_bufs (c : Dev nD) (W : Valuation τ sig (Elt F)) : (StableHlo.held (c : Thread nD τ) bufs W : sProp 𝕄)
    = iprop(StableHlo.held (c : Thread nD τ) arrs W ∗ StableHlo.held (c : Thread nD τ) Sr W) := by
  rw [StableHlo.held_sub_split (c : Thread nD τ) arrs_sub W, bufs_sdiff]

/-- What holds after the operations before the region is what the region asks for. -/
theorem reg0_pre (c : Dev nD) : iprop(StableHlo.held (c : Thread nD τ) bufs (V₁ m c) ∗ R m c) ⊢ (reg0 m).pre c := by
  show _ ⊢ iprop(StableHlo.held (c.tc : Thread nD τ) arrs (V₁ m c) ∗ (∃ r, prngReg c r)
    ∗ (StableHlo.held (c.tc : Thread nD τ) Sr (V₁ m c) ∗ emp) ∗ Tk m c ∗ ∃ Wd, owes (c : Thread nD τ) (0 + O₀ c) Wd)
  rw [zero_add, held_bufs]
  unfold R ow
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

/-- What the region leaves is the result's buffers, the barrier at zero, and nothing owed. -/
theorem reg0_post (c : Dev nD) : (reg0 m).post c
    ⊢ iprop((StableHlo.held (c : Thread nD τ) bufs (V₂ m c) ∗ semVal (bar c) 0) ∗ ∃ W, owes (c : Thread nD τ) (0 : CellTallies nD τ sig Unit) W) := by
  show iprop(StableHlo.held (c.tc : Thread nD τ) arrs (V₂ m c) ∗ (∃ r, prngReg c r)
    ∗ (StableHlo.held (c.tc : Thread nD τ) Sr (V₂ m c) ∗ emp) ∗ Yk c ∗ ∃ Wd, owes (c : Thread nD τ) (0 : CellTallies nD τ sig Unit) Wd) ⊢ _
  rw [held_bufs]
  unfold Yk
  iintro ⟨Ha, -, ⟨Hr, -⟩, Hb, HO⟩
  isplitr [HO]
  · isplitl [Ha Hr]
    · isplitl [Ha]; · iexact Ha
      iexact Hr
    iexact Hb
  iexact HO

def segs : List (Pipeline.Seg (pcfgs (F := F)) adm (pdats m) () defs₀ 𝒱₀ L lv) := [.host (seg0 m), .region (reg0 m)]
/-- The device's program is its segments run in order. -/
theorem main_eq (c : Dev nD) : main (F := F) c = Pipeline.Seg.run (segs m) := main_segs adm (pdats m) () 𝒱₀ L lv (seg0 m) (reg0 m) rfl c

end Cert.KernelIdeal.Attn
-- ==== Proof.PIdeal.Deal.lean ====
/-
What the launch hands each device: the rights to signal, the credits to wait for, the cells.
-/
module

public import proofs.«01_k».proof.Proof.PIdeal.Segs
public import Idealize.ShloMosaic.Lib.Rounds.Family
public import Idealize.ShloMosaic.Lib.Pipeline.ValueKit

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## The launch's cells and rights -/

/-- Channel cells are equal only for the same device and channel. -/
theorem cell_inj {c d : Dev nD} {k l : Ch} (h : cell c k = cell d l) : c = d ∧ k = l :=
  ⟨congrArg (fun g : GSem nD τ sig => g.1.1) h, sem_inj (SemLoc.dma.inj (congrArg Prod.snd h))⟩
/-- A barrier cell is never a channel's cell. -/
theorem bar_ne_cell (c d : Dev nD) (k : Ch) : bar c ≠ cell d k := fun h => by cases congrArg Prod.snd h
/-- Different devices have different barrier cells. -/
theorem bar_inj {c d : Dev nD} (h : bar c = bar d) : c = d := congrArg (fun g : GSem nD τ sig => g.1.1) h

def barEmb : Dev nD ↪ GSem nD τ sig := ⟨bar, fun _ _ => bar_inj⟩
def chEmb : Dev nD × Ch ↪ GSem nD τ sig := ⟨fun x => cell x.1 x.2, fun _ _ h => Prod.ext (cell_inj h).1 (cell_inj h).2⟩
abbrev barCells : Finset (GSem nD τ sig) := Finset.univ.map barEmb
abbrev chCells : Finset (GSem nD τ sig) := Finset.univ.map chEmb
/-- One right on every channel, one per device on device 0's barrier. -/
def tokEmb : (Dev nD × Ch) ⊕ Fin 8 ↪ GSem nD τ sig × ℕ × Fin 8 :=
  ⟨fun | .inl x => (cell x.1 x.2, 0, 0) | .inr d => (bar 0, 0, d), fun a b h => by
    rcases a with a | a <;> rcases b with b | b
    · have := cell_inj (congrArg Prod.fst h); exact congrArg Sum.inl (Prod.ext this.1 this.2)
    · exact absurd (congrArg Prod.fst h).symm (bar_ne_cell _ _ _)
    · exact absurd (congrArg Prod.fst h) (bar_ne_cell _ _ _)
    · exact congrArg Sum.inr (congrArg (fun t : GSem nD τ sig × ℕ × Fin 8 => t.2.2) h)⟩
def allToks : Finset (GSem nD τ sig × ℕ × Fin 8) := Finset.univ.map tokEmb
/-- Barrier cells and channel cells are disjoint. -/
theorem disjoint_cells : Disjoint (barCells : Finset (GSem nD τ sig)) chCells := by
  rw [Finset.disjoint_left]
  rintro g h₁ h₂
  obtain ⟨c, -, rfl⟩ := Finset.mem_map.mp h₁
  obtain ⟨x, -, h⟩ := Finset.mem_map.mp h₂
  exact bar_ne_cell c x.1 x.2 h.symm

/-- The exchange of partners in round `r`. -/
def ptE (r : Fin 3) : Dev nD ≃ Dev nD := ⟨pt r, pt r, pt_pt r, pt_pt r⟩

/-- Rights of the partner's channels, taken together over all devices, are everyone's own. -/
theorem around (f : Fin 3 → Ch) : (bigSep Finset.univ fun c : Dev nD => bigSep Finset.univ fun r : Fin 3 => (may c (f r) : sProp 𝕄))
    = bigSep Finset.univ fun c : Dev nD => bigSep Finset.univ fun r : Fin 3 => may (pt r c) (f r) := by
  rw [Pipeline.bigSep_univ_comm, Pipeline.bigSep_univ_comm (fun (c : Dev nD) (r : Fin 3) => (may (pt r c) (f r) : sProp 𝕄))]
  exact bigSep_congr fun r _ => bigSep_univ_equiv (ptE r) (fun c : Dev nD => (may c (f r) : sProp 𝕄))

/-- Of resources held for all pairs, keep device 0's for the other devices. -/
theorem at_first (Φ : Dev nD → Fin 8 → sProp 𝕄) : (bigSep Finset.univ fun c : Dev nD => bigSep Finset.univ fun m => Φ c m)
    ⊢ bigSep (Finset.univ.erase 0) fun m => Φ 0 m :=
  BIBase.Entails.trans (bigSep_elim (Finset.mem_univ (0 : Dev nD))) (bigSep_subset (Finset.subset_univ _))
/-- Of resources held for all devices, keep those of the devices other than 0. -/
theorem all_but_first (Φ : Dev nD → sProp 𝕄) : (bigSep Finset.univ fun c : Dev nD => Φ c) ⊢ bigSep (Finset.univ.erase 0) Φ :=
  bigSep_subset (Finset.subset_univ _)

/-- Every right dealt to the device that exercises it. -/
theorem deal_toks : bigSep allToks (fun x => (dutyTok ER x.1 x.2.1 x.2.2 : sProp 𝕄)) ⊢ bigSep Finset.univ fun c : Dev nD => toks c := by
  have e : bigSep allToks (fun x => (dutyTok ER x.1 x.2.1 x.2.2 : sProp 𝕄))
      = iprop((bigSep Finset.univ fun c : Dev nD => bigSep Finset.univ fun k : Ch => may c k) ∗ bigSep Finset.univ fun d : Fin 8 => dutyTok ER (bar 0) 0 d) := by
    unfold allToks
    rw [bigSep_map, bigSep_univ_sum, bigSep_univ_prod]
    rfl
  have e1 : (bigSep Finset.univ fun c : Dev nD => bigSep Finset.univ fun k : Ch => (may c k : sProp 𝕄))
      = bigSep Finset.univ fun c : Dev nD => iprop((((bigSep Finset.univ fun m => may c (.ks m)) ∗ bigSep Finset.univ fun m => may c (.vs m)) ∗ (may c .kr ∗ may c .vr))
      ∗ (((bigSep Finset.univ fun r => may c (.rss r)) ∗ bigSep Finset.univ fun r => may c (.rsr r))
        ∗ ((bigSep Finset.univ fun r => may c (.ags r)) ∗ bigSep Finset.univ fun r => may c (.agr r)))) :=
    bigSep_congr fun c _ => bigSep_ch (may c)
  have e2 : (bigSep Finset.univ fun c : Dev nD => (toks c : sProp 𝕄))
      = iprop(((bigSep Finset.univ fun c : Dev nD => bigSep Finset.univ fun r : Fin 3 => may c (.rss r)) ∗ bigSep Finset.univ fun c : Dev nD => bigSep Finset.univ fun r : Fin 3 => may c (.rsr r))
        ∗ ((bigSep Finset.univ fun c : Dev nD => bigSep Finset.univ fun r : Fin 3 => may c (.ags r)) ∗ bigSep Finset.univ fun c : Dev nD => bigSep Finset.univ fun r : Fin 3 => may c (.agr r))
        ∗ (bigSep (Finset.univ.erase 0) fun m : Dev nD => iprop(may 0 (.ks m) ∗ may 0 (.vs m) ∗ may m .kr ∗ may m .vr))
        ∗ bigSep (Finset.univ.erase 0) fun c : Dev nD => dutyTok ER (bar 0) 0 c) := by
    unfold toks
    rw [bigSep_sep', bigSep_sep', split0 (fun c : Dev nD => if c = 0 then _ else _), if_pos rfl,
      bigSep_congr (s := Finset.univ.erase 0) (fun (c : Dev nD) hc => if_neg (Finset.ne_of_mem_erase hc))]
    simp only [bigSep_sep']
    rw [← around Ch.rsr, ← around Ch.agr]
  rw [e, e1, e2]
  simp only [bigSep_sep']
  iintro ⟨⟨⟨⟨Hks, Hvs⟩, Hkr, Hvr⟩, ⟨H1, H2⟩, H3, H4⟩, Hb⟩
  isplitl [H1 H2]
  · isplitl [H1]; · iexact H1
    iexact H2
  isplitl [H3 H4]
  · isplitl [H3]; · iexact H3
    iexact H4
  isplitr [Hb]
  · isplitl [Hks]; · iapply (at_first fun (c : Dev nD) (m : Fin 8) => (may c (.ks m) : sProp 𝕄)) $$ Hks
    isplitl [Hvs]; · iapply (at_first fun (c : Dev nD) (m : Fin 8) => (may c (.vs m) : sProp 𝕄)) $$ Hvs
    isplitl [Hkr]; · iapply (all_but_first fun c : Dev nD => (may c .kr : sProp 𝕄)) $$ Hkr
    iapply (all_but_first fun c : Dev nD => (may c .vr : sProp 𝕄)) $$ Hvr
  · iapply (all_but_first fun c : Dev nD => (dutyTok ER (bar 0) 0 c : sProp 𝕄)) $$ Hb

/-! ## The credits -/

/-- What is tallied on a channel's cell counts there and on no other channel's cell. -/
theorem tally_cell (c d : Dev nD) (k l : Ch) (N : ℕ) : tallyAt (cell c k) () N (cell d l) () = if c = d ∧ k = l then N else 0 := by
  rw [tallyAt_apply]
  by_cases h : c = d ∧ k = l
  · rw [if_pos h, h.1, h.2, if_pos ⟨rfl, rfl⟩]
  · rw [if_neg h, if_neg fun hh => h ⟨(cell_inj hh.1).1.symm, (cell_inj hh.1).2.symm⟩]
/-- What is tallied on a channel's cell does not count on a barrier. -/
theorem tally_cell_bar (c d : Dev nD) (k : Ch) (N : ℕ) : tallyAt (cell c k) () N (bar d) () = 0 := by
  rw [tallyAt_apply, if_neg fun hh => bar_ne_cell _ _ _ hh.1]
/-- What is tallied on a barrier does not count on a channel's cell. -/
theorem tally_bar_cell (c d : Dev nD) (k : Ch) (N : ℕ) : tallyAt (bar c) () N (cell d k) () = 0 := by
  rw [tallyAt_apply, if_neg fun hh => bar_ne_cell _ _ _ hh.1.symm]

/-- What the rounds owe a channel. -/
theorem OR_cell (d c : Dev nD) (k : Ch) : OR d 3 (cell c k) () = match k with
    | .rsr r => if pt r d = c then NR r else 0
    | .agr r => if pt r d = c then NA r else 0
    | _ => 0 := by
  have hz : ∀ g : GSem nD τ sig, (0 : CellTallies nD τ sig Unit) g () = 0 := fun _ => rfl
  simp only [OR, OA, rsO, agO, Pi.add_apply, Finsupp.add_apply, tally_cell, hz, Fin.ofNat]
  cases k with
  | rsr r => fin_cases r <;> simp
  | agr r => fin_cases r <;> simp
  | _ => simp
/-- The rounds owe nothing to any barrier. -/
theorem OR_bar (d c : Dev nD) : OR d 3 (bar c) () = 0 := by
  have hz : ∀ g : GSem nD τ sig, (0 : CellTallies nD τ sig Unit) g () = 0 := fun _ => rfl
  simp only [OR, OA, rsO, agO, Pi.add_apply, Finsupp.add_apply, tally_cell_bar, hz]
/-- What device 0 owes a channel: its own rounds', and a block of keys and of values per device still on the list. -/
theorem OS_cell (l : List (Fin 8)) (c : Dev nD) (k : Ch) : OS l (cell c k) () = OR 0 3 (cell c k) () + (match k with
    | .kr => l.count c * NK
    | .vr => l.count c * NK
    | _ => 0) := by
  induction l with
  | nil => cases k <;> simp [OS]
  | cons m l ih =>
    simp only [OS, vO, kO, Pi.add_apply, Finsupp.add_apply, tally_cell, ih]
    cases k <;> simp [List.count_cons] <;> split_ifs <;> ring
/-- The scatter owes nothing to any barrier. -/
theorem OS_bar (l : List (Fin 8)) (c : Dev nD) : OS l (bar c) () = 0 := by
  induction l with
  | nil => exact OR_bar 0 c
  | cons m l ih => simp only [OS, vO, kO, Pi.add_apply, Finsupp.add_apply, tally_cell_bar, ih]

/-- What a device owes a channel at its start: its rounds', and for device 0 the blocks it will send. -/
theorem O₀_cell (d c : Dev nD) (k : Ch) : O₀ d (cell c k) () = OR d 3 (cell c k) () + (match k with
    | .kr => if d = 0 then order.count c * NK else 0
    | .vr => if d = 0 then order.count c * NK else 0
    | _ => 0) := by
  unfold O₀
  by_cases h : d = 0
  · subst h; rw [if_pos rfl, OS_cell]; cases k <;> simp
  · rw [if_neg h, Pi.add_apply, Finsupp.add_apply, tally_bar_cell]; cases k <;> simp [h]
/-- At its start each device but 0 owes device 0's barrier one signal. -/
theorem O₀_bar (d : Dev nD) : O₀ d (bar 0) () = if d = 0 then 0 else 1 := by
  unfold O₀
  by_cases h : d = 0
  · rw [if_pos h, if_pos h, OS_bar]
  · rw [if_neg h, if_neg h, Pi.add_apply, Finsupp.add_apply, OR_bar, tallyAt_apply, if_pos ⟨rfl, rfl⟩]

/-- Summed over the devices, only the partner contributes. -/
theorem sum_pt (r : Fin 3) (c : Dev nD) (N : ℕ) : (∑ d : Dev nD, if pt r d = c then N else 0) = N := by
  rw [Finset.sum_congr rfl fun d _ => if_congr (show pt r d = c ↔ d = pt r c from ⟨fun h => by rw [← h, pt_pt], fun h => by rw [h, pt_pt]⟩) rfl rfl,
    Finset.sum_ite_eq' Finset.univ (pt r c) fun _ => N, if_pos (Finset.mem_univ _)]

/-- Every device but 0 is served once in the scatter. -/
theorem count_order : ∀ c : Fin 8, c ≠ 0 → order.count c = 1 := by decide

/-- When the devices together owe a cell `N` units, the launch credits it with `N`. -/
theorem credit_of (g : GSem nD τ sig) (N : ℕ) (h : ∑ d : Dev nD, O₀ d g () = N) :
    tallyOn g (launchCredit (Pipeline.owing O₀) 0 g) = (tallyAt g () N : CellTallies nD τ sig Unit) := by
  unfold tallyAt; refine congrArg _ (Finsupp.ext fun u => ?_); cases u
  rw [Pipeline.launchCredit_owing, Finsupp.single_eq_same, h]
/-- The devices together owe each exchange channel one block. -/
theorem credit_rsr (c : Dev nD) (r : Fin 3) : ∑ d : Dev nD, O₀ d (cell c (.rsr r)) () = amt (.rsr r) := by
  simp only [O₀_cell, OR_cell, Nat.add_zero]; exact sum_pt r c _
/-- The devices together owe each hand-round channel one block. -/
theorem credit_agr (c : Dev nD) (r : Fin 3) : ∑ d : Dev nD, O₀ d (cell c (.agr r)) () = amt (.agr r) := by
  simp only [O₀_cell, OR_cell, Nat.add_zero]; exact sum_pt r c _
/-- The devices together owe each device but 0 one block of keys. -/
theorem credit_kr (c : Dev nD) (hc : c ≠ 0) : ∑ d : Dev nD, O₀ d (cell c .kr) () = amt .kr := by
  simp only [O₀_cell, OR_cell, Nat.zero_add, count_order c hc, Nat.one_mul]
  rw [Finset.sum_ite_eq' Finset.univ (0 : Dev nD) fun _ => NK, if_pos (Finset.mem_univ _)]; rfl
/-- The devices together owe each device but 0 one block of values. -/
theorem credit_vr (c : Dev nD) (hc : c ≠ 0) : ∑ d : Dev nD, O₀ d (cell c .vr) () = amt .vr := by
  simp only [O₀_cell, OR_cell, Nat.zero_add, count_order c hc, Nat.one_mul]
  rw [Finset.sum_ite_eq' Finset.univ (0 : Dev nD) fun _ => NK, if_pos (Finset.mem_univ _)]; rfl
/-- The devices together owe device 0's barrier seven signals. -/
theorem credit_bar : ∑ d : Dev nD, O₀ d (bar 0) () = 7 := by simp only [O₀_bar]; decide

def semEmb : Ch ⊕ Unit ↪ SemLoc sig :=
  ⟨fun | .inl k => .dma k.sem | .inr _ => barS, fun a b h => by
    rcases a with a | a <;> rcases b with b | b
    · exact congrArg Sum.inl (sem_inj (SemLoc.dma.inj h))
    · cases h
    · cases h
    · rfl⟩

/-- The credits a device waits for, out of the launch's. -/
theorem deal_creds (c : Dev nD) : (Pipeline.launchCred O₀ c : sProp 𝕄) ⊢ creds c := by
  unfold Pipeline.launchCred
  refine BIBase.Entails.trans (bigSep_subset (Finset.subset_univ (Finset.univ.map semEmb))) ?_
  rw [bigSep_map, bigSep_univ_sum]
  show iprop((bigSep Finset.univ fun k : Ch => cred (tallyOn (cell c k) (launchCredit (Pipeline.owing O₀) 0 (cell c k))))
    ∗ bigSep Finset.univ fun _ : Unit => cred (tallyOn (bar c) (launchCredit (Pipeline.owing O₀) 0 (bar c)))) ⊢ _
  rw [bigSep_ch, show (Finset.univ : Finset Unit) = {()} from rfl, bigSep_singleton]
  unfold creds
  simp only [fun r => credit_of _ _ (credit_rsr c r), fun r => credit_of _ _ (credit_agr c r)]
  by_cases hc : c = 0
  · subst hc
    rw [if_pos rfl, credit_of _ _ credit_bar]
    iintro ⟨⟨-, ⟨-, H1⟩, -, H2⟩, H3⟩
    isplitl [H1]; · iexact H1
    isplitl [H2]; · iexact H2
    iexact H3
  · rw [if_neg hc, credit_of _ _ (credit_kr c hc), credit_of _ _ (credit_vr c hc)]
    iintro ⟨⟨⟨-, H3, H4⟩, ⟨-, H1⟩, -, H2⟩, -⟩
    isplitl [H1]; · iexact H1
    isplitl [H2]; · iexact H2
    isplitl [H3]; · iexact H3
    iexact H4

end Cert.KernelIdeal.Attn
-- ==== Proof.PIdeal.Launch.lean ====
/-
The launch and the run of the program: it ends, with the result the schedule says, the arguments and the semaphores as they were.
-/
module

public import proofs.«01_k».proof.Proof.PIdeal.Deal
public import Idealize.ShloMosaic.Lib.Rounds.Family
public import Idealize.ShloMosaic.Lib.Quiescent
public import Idealize.ShloMosaic.Lib.Pipeline.ValueKit

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- The launch's ghost state: the staging cells', the kernel's own. -/
def u₀ : UU :=
  (initOf (Pipeline.cells (Pipeline.pin (pcfgs (F := F)) adm) cellOf_inj) (Pipeline.launchToks (Pipeline.pin (pcfgs (F := F)) adm) cellOf_inj),
    (launchOf barCells chCells allToks, 1))

/-- The launch's ghost state splits into the staging cells' part and the kernel's own. -/
theorem ownU_split (a : UP) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- A resource given to one device until the launch deals it. -/
def onDev (c₀ : Dev nD) (X : sProp 𝕄) (c : Dev nD) : sProp 𝕄 := if c = c₀ then X else iprop(emp)
/-- A resource given to one device, taken over all devices, is the resource once. -/
theorem bigSep_onDev (X : sProp 𝕄) : bigSep Finset.univ (onDev (F := F) 0 X) = X := by
  rw [split0, bigSep_congr (s := Finset.univ.erase 0) (Ψ := fun _ => (BI.emp : sProp 𝕄))
      fun c hc => by unfold onDev; rw [if_neg (Finset.ne_of_mem_erase hc)]; rfl, BI.bigSep_emp_const]
  unfold onDev; rw [if_pos rfl]
  exact BI.equiv_iff.mp sep_emp
def G : Dev nD → sProp 𝕄 := onDev 0 (BI.own (ER (launchOf barCells chCells allToks)))

/-- The only semaphore outside the scopes is the barrier's, at zero. -/
theorem unscopedSems_eq (c : Dev nD) : (unscopedSems0 c : sProp 𝕄) = semVal (bar c) 0 := by
  unfold unscopedSems0
  rw [show (Finset.univ.filter fun sm : SemLoc sig => ¬ sm.isScoped .tc) = {barS} from by decide, BI.bigSep_singleton]

/-- What every device may consult. -/
def records (κ : GSem nD τ sig → ℕ) : sProp 𝕄 :=
  iprop(((bigSep Finset.univ fun d : Dev nD => bigSep Finset.univ fun k : Ch => cellInv ER (Rd (Vm m)) (κ (cell d k)) (cell d k))
      ∗ bigSep Finset.univ fun d : Dev nD => cellInv ER (Rd (Vm m)) (κ (bar d)) (bar d)) ∗ reached ER (bar 0) 0)
instance records_persistent (κ : GSem nD τ sig → ℕ) : BI.Persistent (records m κ) := by unfold records; infer_instance

def bundle (c : Dev nD) : sProp 𝕄 :=
  iprop(StableHlo.held (c : Thread nD τ) bufs (V₀ m c) ∗ creds c ∗ ow c (O₀ c) ∗ ∃ r, prngReg c r)
def linear (c : Dev nD) : sProp 𝕄 :=
  iprop(atPos ER (bar c) 0 ∅ 0 ∗ (bigSep Finset.univ fun k : Ch => openTok ER (cell c k)) ∗ toks c)

abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (V₂ m c) ∗ semVal (bar c) 0)

/-- A device's start is made of the records and its own share. -/
theorem T₀_intro (κ : GSem nD τ sig → ℕ) (c : Dev nD) : iprop(records m κ ∗ (linear c ∗ bundle m c)) ⊢ T₀ m c := by
  unfold records bundle linear T₀ R Tk
  iintro ⟨⟨⟨#HA, #HB⟩, #Hr⟩, ⟨Hat, Hop, Ht⟩, Hh, Hc, HO, Hp⟩
  isplitl [Hh]; · iexact Hh
  isplitr [HO Hp]
  · isplitr
    · iexists κ
      isplitr; · iexact HA
      iexact HB
    isplitl [Hop]; · iexact Hop
    isplitl [Hat]; · iexact Hat
    isplitr; · iexact Hr
    isplitl [Ht]; · iexact Ht
    iexact Hc
  isplitl [Hp]; · iexact Hp
  iexact HO

/-- The cells of the launch, by device. -/
theorem bigSep_barCells (Φ : GSem nD τ sig → sProp 𝕄) : bigSep barCells Φ = bigSep Finset.univ fun c : Dev nD => Φ (bar c) :=
  bigSep_map barEmb
/-- A product over the channel cells is one over devices and channels. -/
theorem bigSep_chCells (Φ : GSem nD τ sig → sProp 𝕄) : bigSep chCells Φ = bigSep Finset.univ fun c : Dev nD => bigSep Finset.univ fun k : Ch => Φ (cell c k) := by
  rw [bigSep_map chEmb, bigSep_univ_prod]; rfl

/-- Of a product over a set, keep a subset's factors. -/
theorem keepSub {S T : Finset (GSem nD τ sig)} (h : T ⊆ S) (Φ : GSem nD τ sig → sProp 𝕄) : bigSep S Φ ⊢ bigSep T Φ := bigSep_subset h
/-- Of a product over a set, keep one factor. -/
theorem keepOne {S : Finset (GSem nD τ sig)} {g : GSem nD τ sig} (h : g ∈ S) (Φ : GSem nD τ sig → sProp 𝕄) : bigSep S Φ ⊢ Φ g := bigSep_elim h
/-- Two products over the devices are one product of pairs. -/
theorem pairUp {Φ Ψ : Dev nD → sProp 𝕄} : iprop(bigSep Finset.univ Φ ∗ bigSep Finset.univ Ψ) ⊢ bigSep Finset.univ fun c => iprop(Φ c ∗ Ψ c) :=
  Entails.of_eq (bigSep_sep' _ _ _).symm

/-- The launch: the cells are funded, the rights and credits dealt. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (bar c) 0 ∗ G c)) : sProp 𝕄) := by
    rw [show unscopedBufs c (fun b => m ((c : Thread nD τ).loc b)) = StableHlo.held (c : Thread nD τ) bufs (V₀ m c) from unscopedBufs_held c (V₀ m c),
      unscopedSems_eq]
    unfold bundle ow
    iintro ⟨Hh, Hus, HO, Hcr, Hp, HG⟩
    isplitl [Hh Hcr HO Hp]
    · isplitl [Hh]; · iexact Hh
      isplitl [Hcr]; · iapply (deal_creds (F := F) c) $$ Hcr
      isplitl [HO]; · iexists ∅; iexact HO
      iexists (ρ c); iexact Hp
    isplitl [Hus] <;> iassumption
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (iprop((bigSep Finset.univ (bundle m)) ∗ (bigSep Finset.univ fun c : Dev nD => semVal (bar c) 0) ∗ bigSep Finset.univ (G (F := F))) : sProp 𝕄) from
    BIBase.Entails.trans (bigSep_mono fun c _ => hcore c) (Entails.of_eq (by rw [bigSep_sep', bigSep_sep']))) $$ H
  icases H' with ⟨HB, Hv, HG⟩
  ihave Hu := (show bigSep Finset.univ (G (F := F)) ⊢ BI.own (ER (launchOf barCells chCells allToks)) from
    Entails.of_eq (bigSep_onDev (F := F) (BI.own (ER (launchOf barCells chCells allToks))))) $$ HG
  imod (Rounds.fund_launch ER (Rd (Vm m)) disjoint_cells (fun g _ h => h) allToks) $$ [Hv Hu] with ⟨%κ, -, #Hinv, #Hr, Hat, Hopen, Htok⟩
  · isplitl [Hv]
    · iapply (Entails.of_eq (bigSep_barCells fun g => (semVal g 0 : sProp 𝕄)).symm) $$ Hv
    · iexact Hu
  imodintro
  iapply (bigSep_with_persistent (R := records m κ) (Φ := fun c => iprop(linear c ∗ bundle m c)) fun c _ => T₀_intro m κ c)
  isplitr
  · unfold records
    isplitr
    · isplitr
      · iapply (Entails.of_eq (bigSep_chCells fun g => (cellInv ER (Rd (Vm m)) (κ g) g : sProp 𝕄)))
        iapply (keepSub (Finset.subset_union_right (s₁ := barCells) (s₂ := chCells)) ( fun g => (cellInv ER (Rd (Vm m)) (κ g) g : sProp 𝕄)))
        iexact Hinv
      · iapply (Entails.of_eq (bigSep_barCells fun g => (cellInv ER (Rd (Vm m)) (κ g) g : sProp 𝕄)))
        iapply (keepSub (Finset.subset_union_left (s₁ := barCells) (s₂ := chCells)) ( fun g => (cellInv ER (Rd (Vm m)) (κ g) g : sProp 𝕄)))
        iexact Hinv
    · iapply (keepOne (Finset.mem_map_of_mem barEmb (Finset.mem_univ (0 : Dev nD))) (fun g => (reached ER g 0 : sProp 𝕄)))
      iexact Hr
  iapply pairUp
  isplitr [HB]
  · unfold linear
    iapply pairUp; isplitl [Hat]; · iapply (Entails.of_eq (bigSep_barCells fun g => (atPos ER g 0 ∅ 0 : sProp 𝕄))) $$ Hat
    iapply pairUp; isplitl [Hopen]; · iapply (Entails.of_eq (bigSep_chCells fun g => (openTok ER g : sProp 𝕄))) $$ Hopen
    iapply (deal_toks (F := F)) $$ Htok
  · iexact HB

/-- The only semaphore outside the scopes is the barrier's. -/
theorem unscoped_bar : ∀ sm : SemLoc sig, sm.isScoped .tc = false → sm = barS := by decide

/-- The host lines write three buffers of their own. -/
theorem V₁_of_ne (c : Dev nD) (b : Ref sig .tc) (h : b ∉ [main_v1, main_v2, main_v3]) : V₁ m c (Proc.devRef .tc b) = m ((c : Thread nD τ).loc b) :=
  StableHlo.after_of_writes_sub hostOps0 (V₀ m c) (W := [main_v1, main_v2, main_v3])
    (by refine ⟨?_, ?_, ?_⟩ <;> (change HloOp.writes _ ⊆ _; rw [StableHlo.reshape_writes]; decide)) h

/-- The unscoped buffers, one by one. -/
theorem bufs_eq (c : Dev nD) (W : Valuation τ sig (Elt F)) : (StableHlo.held (c : Thread nD τ) bufs W : sProp 𝕄)
    = iprop((((c : Thread nD τ).loc main_arg0) ↦{fullShare} W (Proc.devRef .tc main_arg0)) ∗ (((c : Thread nD τ).loc main_arg1) ↦{fullShare} W (Proc.devRef .tc main_arg1))
      ∗ (((c : Thread nD τ).loc main_arg2) ↦{fullShare} W (Proc.devRef .tc main_arg2)) ∗ (((c : Thread nD τ).loc main_arg3) ↦{fullShare} W (Proc.devRef .tc main_arg3))
      ∗ (((c : Thread nD τ).loc main_arg4) ↦{fullShare} W (Proc.devRef .tc main_arg4)) ∗ (((c : Thread nD τ).loc main_v1) ↦{fullShare} W (Proc.devRef .tc main_v1))
      ∗ (((c : Thread nD τ).loc main_v2) ↦{fullShare} W (Proc.devRef .tc main_v2)) ∗ (((c : Thread nD τ).loc main_v3) ↦{fullShare} W (Proc.devRef .tc main_v3))
      ∗ (((c : Thread nD τ).loc main_v4) ↦{fullShare} W (Proc.devRef .tc main_v4))) := by
  unfold StableHlo.held
  rw [bigSep_eq_bigSepL_of_eq [Proc.devRef .tc main_arg0, Proc.devRef .tc main_arg1, Proc.devRef .tc main_arg2, Proc.devRef .tc main_arg3, Proc.devRef .tc main_arg4,
    Proc.devRef .tc main_v1, Proc.devRef .tc main_v2, Proc.devRef .tc main_v3, Proc.devRef .tc main_v4] (by decide) (by decide)]
  rfl

set_option backward.isDefEq.respectTransparency.types false in
/-- THE RUN: every fair execution on the eight devices ends, every device's result is the schedule's, the arguments are
    what they were and every semaphore is at zero. -/
theorem run : θ_run defs (onTc (τ := τ) (main (F := F))) ⟨m, fun _ => 0, ρ⟩
    (fun r => (∀ c : Dev nD, r.2.mem ((c : Thread nD τ).loc main_v4) = outOf m
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (ownU_split _ _) $$ Hu
      icases H with ⟨HP, HX⟩
      imodintro
      isplitl [HP]; · iexact HP
      rw [bigSep_onDev]; iexact HX)
    (T₀ := T₀ m) (Tₙ := Tₙ m)
    (hch := ⟨fun c => .rfl, fun c => reg0_pre m c, fun c => reg0_post m c⟩)
    (hinit := init m ρ)
    (QY := fun c s => (∀ b : Ref sig .tc, b ∈ [main_arg0, main_arg1, main_arg2, main_arg3, main_arg4, main_v4] →
        s.mem ((c : Thread nD τ).loc b) = V₂ m c (Proc.devRef .tc b)) ∧ s.sem (bar c) = 0)
    (hfin := fun c s' => by
      dsimp only [Tₙ]; rw [bufs_eq]
      iintro ⟨⟨⟨H0, H1, H2, H3, H4, -, -, -, H5⟩, Hb0⟩, HSI⟩
      icombine HSI H0 gives %h0
      icombine HSI H1 gives %h1
      icombine HSI H2 gives %h2
      icombine HSI H3 gives %h3
      icombine HSI H4 gives %h4
      icombine HSI H5 gives %h5
      icombine HSI Hb0 gives %hb
      imodintro
      isplitr
      · ipureintro
        refine ⟨fun b hb => ?_, by simpa using hb⟩
        simp only [List.mem_cons, List.not_mem_nil, or_false] at hb
        rcases hb with rfl | rfl | rfl | rfl | rfl | rfl
        · exact Buf.eq_of_forall_mem_univ h0
        · exact Buf.eq_of_forall_mem_univ h1
        · exact Buf.eq_of_forall_mem_univ h2
        · exact Buf.eq_of_forall_mem_univ h3
        · exact Buf.eq_of_forall_mem_univ h4
        · exact Buf.eq_of_forall_mem_univ h5
      iexact HSI)
    (hQ := fun s h hs => ⟨fun c => by
        have h' := (h c).1
        have ha : ∀ b : Ref sig .tc, b ∈ [main_arg0, main_arg1, main_arg2, main_arg3, main_arg4] →
            s.mem ((c : Thread nD τ).loc b) = m ((c : Thread nD τ).loc b) := fun b hb => by
          rw [h' b (by revert b; decide), V₂_of_ne m c b (by revert b; decide), V₁_of_ne m c b (by revert b; decide)]
        exact ⟨(h' main_v4 (by decide)).trans (V₂_out m c), ha _ (by decide), ha _ (by decide), ha _ (by decide), ha _ (by decide), ha _ (by decide)⟩,
      sem_eq_zero hs fun c sm hsm => by
        obtain rfl := unscoped_bar sm hsm
        exact (h c).2⟩)

end Cert.KernelIdeal.Attn
-- ==== Proof.Value.Core.lean ====
/-
Softmax over a row of scores, over the extended reals: dividing the weighted sum by the sum of the weights, or each weight by it.
Keys whose score is −∞ drop out.
-/
module

public import Idealize.ShloMosaic.PureOps.Ideal
public import Idealize.ShloMosaic.PureOps.Ideal.Laws
public import Mathlib.Data.EReal.Inv

@[expose] public section

noncomputable section

namespace Cert.Value

open Idealize.ShloMosaic

/-- The greatest score. -/
def top {n : ℕ} (t : Fin n → EReal) : EReal := (Finset.univ : Finset (Fin n)).fold max ⊥ t
/-- The sum of the weights. -/
def mass {n : ℕ} (t : Fin n → EReal) : EReal := ∑ j, Ideal.exp (t j - top t)
/-- The kernel's row: the weighted sum, then the division. -/
def late {n : ℕ} (t v : Fin n → EReal) : EReal := Ideal.div (∑ j, Ideal.exp (t j - top t) * v j) (mass t)
/-- The reference's row: each weight is divided. -/
def early {n : ℕ} (t v : Fin n → EReal) : EReal := ∑ j, v j * Ideal.div (Ideal.exp (t j - top t)) (mass t)

/-- An exponential is not negative. -/
theorem exp_nonneg (x : EReal) : 0 ≤ Ideal.exp x := by
  induction x with
  | bot => exact le_refl _
  | top => exact le_top
  | coe r => show (0 : EReal) ≤ ((Real.exp r : ℝ) : EReal); exact_mod_cast (Real.exp_pos r).le

/-- The exponential of −∞ less anything is 0. -/
theorem exp_bot_sub (M : EReal) : Ideal.exp (⊥ - M) = 0 := by
  rw [EReal.bot_sub]; rfl

/-- The exponential of anything but −∞ is positive. -/
theorem exp_real_pos {x : EReal} (h : x ≠ ⊥) : 0 < Ideal.exp x := by
  induction x with
  | bot => exact absurd rfl h
  | top => exact EReal.zero_lt_top
  | coe r => show (0 : EReal) < ((Real.exp r : ℝ) : EReal); exact_mod_cast Real.exp_pos r

/-- A factor that is a real number, not negative, moves out of a sum. -/
theorem sum_mul_real {ι : Type*} (s : Finset ι) (a : ι → EReal) (c : ℝ) (hc : 0 ≤ c) :
    ∑ j ∈ s, a j * (c : EReal) = (∑ j ∈ s, a j) * (c : EReal) := by
  classical
  induction s using Finset.induction_on with
  | empty => simp
  | insert x s hx ih => rw [Finset.sum_insert hx, Finset.sum_insert hx, ih, EReal.right_distrib_of_nonneg_of_ne_top (by exact_mod_cast hc) (EReal.coe_ne_top c)]

/-- The inverse of an extended real that is not negative is a real number that is not negative. -/
theorem inv_real {s : EReal} (h : 0 ≤ s) : ∃ c : ℝ, 0 ≤ c ∧ s⁻¹ = (c : EReal) := by
  induction s with
  | bot => exact absurd h (by simp)
  | top => exact ⟨0, le_refl _, by simp⟩
  | coe r => exact ⟨r⁻¹, inv_nonneg.mpr (by exact_mod_cast h), by rw [EReal.coe_inv]⟩

/-- Dividing by what is not 0 is multiplying by its inverse. -/
theorem div_of_ne {x y : EReal} (h : y ≠ 0) : Ideal.div x y = x * y⁻¹ := by rw [Ideal.div, if_neg h]

variable {n : ℕ} {t : Fin n → EReal}

/-- Every score is at most the greatest. -/
theorem le_top_of (j : Fin n) : t j ≤ top t := Finset.le_fold_max (t j) |>.mpr (Or.inr ⟨j, Finset.mem_univ _, le_refl _⟩)

/-- When no score is +∞, neither is the greatest. -/
theorem top_lt (h : ∀ j, t j ≠ ⊤) : top t ≠ ⊤ :=
  ne_of_lt ((Finset.fold_max_lt _).mpr ⟨bot_lt_top, fun j _ => lt_of_le_of_ne le_top (h j)⟩)

/-- When some score is not −∞, the sum of the weights is positive. -/
theorem mass_pos (h : ∀ j, t j ≠ ⊤) (j : Fin n) (hj : t j ≠ ⊥) : 0 < mass t := by
  refine lt_of_lt_of_le (exp_real_pos (x := t j - top t) ?_) (Finset.single_le_sum (f := fun j => Ideal.exp (t j - top t)) (fun i _ => exp_nonneg _) (Finset.mem_univ j))
  have h1 := top_lt h
  have h2 : top t ≠ ⊥ := fun e => hj (le_bot_iff.mp (e ▸ le_top_of j))
  lift t j to ℝ using ⟨h j, hj⟩ with r
  lift top t to ℝ using ⟨h1, h2⟩ with M
  exact (EReal.coe_sub r M ▸ EReal.coe_ne_bot _)

/-- The two rows are one. -/
theorem early_eq_late (v : Fin n → EReal) (h : ∀ j, t j ≠ ⊤) (j : Fin n) (hj : t j ≠ ⊥) : early t v = late t v := by
  have hm := mass_pos h j hj
  obtain ⟨c, hc, e⟩ := inv_real hm.le
  unfold early late
  rw [div_of_ne hm.ne', e, ← sum_mul_real _ _ c hc]
  refine Finset.sum_congr rfl fun i _ => ?_
  rw [div_of_ne hm.ne', e, ← mul_assoc, mul_comm (v i)]

/-- A row of `n` scores continued by −∞. -/
theorem early_extend {N : ℕ} (hn : n ≤ N) (T : Fin N → EReal) (V : Fin N → EReal) (v : Fin n → EReal)
    (hT : ∀ j : Fin n, T (Fin.castLE hn j) = t j) (hb : ∀ j : Fin N, n ≤ j.val → T j = ⊥) (hV : ∀ j : Fin n, V (Fin.castLE hn j) = v j)
    (h : ∀ j, t j ≠ ⊤) (j : Fin n) (hj : t j ≠ ⊥) : early T V = late t v := by
  have htop : top T = top t := by
    refine le_antisymm ((Finset.fold_max_le _).mpr ⟨bot_le, fun i _ => ?_⟩) ((Finset.fold_max_le _).mpr ⟨bot_le, fun i _ => ?_⟩)
    · by_cases hi : i.val < n
      · exact (hT ⟨i.val, hi⟩).le.trans (le_top_of _)
      · exact (hb i (Nat.le_of_not_lt hi)).le.trans bot_le
    · exact (hT i).ge.trans (le_top_of _)
  have cut : ∀ f : Fin N → EReal, (∀ i : Fin N, n ≤ i.val → f i = 0) → ∑ i, f i = ∑ i : Fin n, f (Fin.castLE hn i) := by
    intro f hf
    refine (Finset.sum_subset (Finset.subset_univ (Finset.univ.map (Fin.castLEEmb hn))) fun i _ hi => hf i ?_).symm.trans (Finset.sum_map _ _ _)
    by_contra hlt
    exact hi (Finset.mem_map.mpr ⟨⟨i.val, Nat.lt_of_not_le hlt⟩, Finset.mem_univ _, rfl⟩)
  have hmass : mass T = mass t := by
    unfold mass
    rw [cut _ fun i hi => by rw [hb i hi, exp_bot_sub]]
    exact Finset.sum_congr rfl fun i _ => by rw [hT, htop]
  rw [← early_eq_late v h j hj]
  have hm := mass_pos h j hj
  unfold early
  rw [cut _ fun i hi => by rw [hb i hi, exp_bot_sub, hmass, div_of_ne hm.ne', zero_mul, mul_zero]]
  exact Finset.sum_congr rfl fun i _ => by rw [hT, hV, htop, hmass]

end Cert.Value

end
-- ==== Proof.Value.Words.lean ====
/-
The mask's words: which block of 64 positions a position lies in, and which blocks a position sees.
-/
module

public import Idealize.ShloMosaic.PureOps.Ideal
public import Idealize.ShloMosaic.PureOps.Ideal.Laws
public import Idealize.ShloMosaic.Lib.Pointwise

@[expose] public section

set_option maxRecDepth 16384

namespace Cert.Value

open Idealize.ShloMosaic

/-- Position `r` sees position `c`: its block is not earlier. -/
def sees (r c : ℕ) : BitVec 1 := if c / 64 ≤ r / 64 then 1#1 else 0#1

/-- The kernel's word for the block of a position. -/
def kWord (n : ℕ) : BitVec 32 :=
  Scalar.select
    (IntOp.andi
      (IntOp.cmpi CmpIPredicate.ne
        (IntOp.subi (BitVec.setWidth 32 (IntOp.cmpi CmpIPredicate.sgt (BitVec.ofNat 32 n) 0#32))
          (BitVec.setWidth 32 (IntOp.cmpi CmpIPredicate.slt (BitVec.ofNat 32 n) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 n) 64#32) 0#32))
    (IntOp.subi (IntOp.divsi ArithUnit.vector (BitVec.ofNat 32 n) 64#32) 1#32)
    (IntOp.divsi ArithUnit.vector (BitVec.ofNat 32 n) 64#32)

/-- The reference's. -/
def rWord (n : ℕ) : BitVec 32 :=
  Scalar.select
    (IntOp.andi
      (IntOp.cmpi (w := 32) CmpIPredicate.ne
        (if BitVec.ofNat 32 n = 0 then 0 else if (BitVec.ofNat 32 n).msb = true then -1 else 1)
        (if 64#32 = 0 then 0 else if (64#32).msb = true then -1 else 1))
      (IntOp.cmpi CmpIPredicate.ne (IntOp.remsi ArithUnit.host (BitVec.ofNat 32 n) 64#32) 0#32))
    (IntOp.subi (IntOp.divsi ArithUnit.host (BitVec.ofNat 32 n) 64#32) 1#32)
    (IntOp.divsi ArithUnit.host (BitVec.ofNat 32 n) 64#32)

/-- The kernel's word for every position, checked block by block. -/
theorem kWord_tab : ∀ a : Fin 8, ∀ b : Fin 64, kWord (64 * a.val + b.val) = BitVec.ofNat 32 a.val := by decide +kernel
/-- The reference's word for every position, checked block by block. -/
theorem rWord_tab : ∀ a : Fin 64, ∀ b : Fin 64, rWord (64 * a.val + b.val) = BitVec.ofNat 32 a.val := by decide +kernel
/-- Comparing two block words is comparing the blocks. -/
theorem sle_tab : ∀ a : Fin 64, ∀ b : Fin 64, IntOp.cmpi CmpIPredicate.sle (BitVec.ofNat 32 a.val) (BitVec.ofNat 32 b.val) = if a.val ≤ b.val then 1#1 else 0#1 := by decide +kernel

/-- The kernel's word is the position's block. -/
theorem kWord_eq (n : ℕ) (h : n < 512) : kWord n = BitVec.ofNat 32 (n / 64) := by
  have e := kWord_tab ⟨n / 64, by omega⟩ ⟨n % 64, by omega⟩
  rwa [show 64 * (n / 64) + n % 64 = n by omega] at e
/-- The reference's word is the position's block. -/
theorem rWord_eq (n : ℕ) (h : n < 4096) : rWord n = BitVec.ofNat 32 (n / 64) := by
  have e := rWord_tab ⟨n / 64, by omega⟩ ⟨n % 64, by omega⟩
  rwa [show 64 * (n / 64) + n % 64 = n by omega] at e
/-- The comparison of two blocks' words. -/
theorem sle_eq (r c : ℕ) (hr : r < 4096) (hc : c < 4096) :
    IntOp.cmpi CmpIPredicate.sle (BitVec.ofNat 32 (c / 64)) (BitVec.ofNat 32 (r / 64)) = sees r c :=
  sle_tab ⟨c / 64, by omega⟩ ⟨r / 64, by omega⟩

/-- Every position sees position 0. -/
theorem sees_zero (r : ℕ) : sees r 0 = 1#1 := if_pos (Nat.zero_le _)
/-- The first 512 positions see none from 512 on. -/
theorem sees_far (r c : ℕ) (hr : r < 512) (hc : 512 ≤ c) : sees r c = 0#1 := if_neg (by omega)

/-- A selection on 1 takes the first. -/
theorem select_on {α : Type} (a b : α) : Scalar.select 1#1 a b = a := rfl
/-- A selection on 0 takes the second. -/
theorem select_off {α : Type} (a b : α) : Scalar.select 0#1 a b = b := rfl

/-- −∞'s pattern. -/
theorem ofBits_negInf : Ideal.ofBits .f32 0xFF800000#32 = ⊥ := by rw [Ideal.ofBits]; decide
/-- +∞'s pattern. -/
theorem ofBits_posInf : Ideal.ofBits .f32 0x7F800000#32 = ⊤ := by rw [Ideal.ofBits]; decide
/-- The scale 1/8. -/
noncomputable def scale : EReal := Ideal.ofBits .f32 0x3E000000#32
/-- The scale is a real number. -/
theorem scale_real : ∃ r : ℝ, scale = (r : EReal) := by
  unfold scale Ideal.ofBits Ideal.ieee
  dsimp only
  rw [if_neg (by decide), if_neg (by decide)]
  exact ⟨_, rfl⟩

end Cert.Value
-- ==== Proof.Value.Spec.lean ====
/-
What both programs compute, at an element: block-causal attention over the first 512 keys, every head, projected out.
-/
module

public import proofs.«01_k».proof.Proof.Value.Core
public import proofs.«01_k».proof.Proof.Value.Words

@[expose] public section

noncomputable section

namespace Cert.Value

open Idealize.ShloMosaic

/-- A real number, not an infinity. -/
def Real' (x : EReal) : Prop := ∃ r : ℝ, x = (r : EReal)

/-- A product of reals is real. -/
theorem Real'.mul {x y : EReal} : Real' x → Real' y → Real' (x * y) := by
  rintro ⟨a, rfl⟩ ⟨b, rfl⟩; exact ⟨a * b, (EReal.coe_mul a b).symm⟩
/-- A sum of reals is real. -/
theorem Real'.sum {ι : Type*} {s : Finset ι} {f : ι → EReal} (h : ∀ i, Real' (f i)) : Real' (∑ i ∈ s, f i) := by
  classical
  induction s using Finset.induction_on with
  | empty => exact ⟨0, by simp⟩
  | insert x s hx ih =>
    obtain ⟨a, ea⟩ := ih
    obtain ⟨b, eb⟩ := h x
    exact ⟨b + a, by rw [Finset.sum_insert hx, ea, eb, EReal.coe_add]⟩
/-- A real is not +∞. -/
theorem Real'.ne_top {x : EReal} : Real' x → x ≠ ⊤ := by rintro ⟨a, rfl⟩; exact EReal.coe_ne_top a
/-- A real is not −∞. -/
theorem Real'.ne_bot {x : EReal} : Real' x → x ≠ ⊥ := by rintro ⟨a, rfl⟩; exact EReal.coe_ne_bot a

/-- The score of key `j` for the query at position `s`. -/
def cell {n : ℕ} (s : ℕ) (q : Fin 64 → EReal) (k : Fin n → Fin 64 → EReal) (j : Fin n) : EReal :=
  Scalar.select (sees s j.val) ((∑ d, q d * k j d) * scale) ⊥

/-- With real queries and keys, no score is +∞. -/
theorem cell_ne_top {n : ℕ} {s : ℕ} {q : Fin 64 → EReal} {k : Fin n → Fin 64 → EReal} (hq : ∀ d, Real' (q d)) (hk : ∀ j d, Real' (k j d)) (j : Fin n) :
    cell s q k j ≠ ⊤ := by
  unfold cell sees
  split
  · rw [select_on]; exact ((Real'.sum fun d => (hq d).mul (hk j d)).mul scale_real).ne_top
  · rw [select_off]; exact bot_ne_top

/-- The reference's row over 4096 keys is the kernel's over the first 512: the other keys lie in later blocks than the query. -/
theorem early_cell (s : Fin 512) (q : Fin 64 → EReal) (k : Fin 4096 → Fin 64 → EReal) (v : Fin 4096 → EReal)
    (hq : ∀ d, Real' (q d)) (hk : ∀ (j : Fin 512) d, Real' (k (Fin.castLE (by decide) j) d)) :
    early (cell s.val q k) v = late (cell s.val q fun j : Fin 512 => k (Fin.castLE (by decide) j)) (fun j : Fin 512 => v (Fin.castLE (by decide) j)) := by
  refine early_extend (by decide) _ _ _ (fun j => rfl) (fun j hj => ?_) (fun j => rfl) (cell_ne_top hq hk) 0 ?_
  · unfold cell; rw [sees_far _ _ s.isLt hj, select_off]
  · unfold cell; rw [Fin.val_zero, sees_zero, select_on]; exact ((Real'.sum fun d => (hq d).mul (hk 0 d)).mul scale_real).ne_bot

variable (x : Fin 2 → Fin 512 → Fin 768 → EReal) (wq : Fin 768 → Fin 4096 → EReal) (k v : Fin 2 → Fin 4096 → Fin 64 → Fin 64 → EReal) (wo : Fin 4096 → Fin 768 → EReal)

/-- The projected queries. -/
def qS (b : Fin 2) (s : Fin 512) (c : Fin 4096) : EReal := ∑ i : Fin 768, x b s i * wq i c
def headS (c : Fin 4096) : Fin 64 := ⟨c.val / 64, by omega⟩
def laneS (c : Fin 4096) : Fin 64 := ⟨c.val % 64, by omega⟩
/-- The query of `c`'s head. -/
def qhS (b : Fin 2) (s : Fin 512) (c : Fin 4096) (d : Fin 64) : EReal := qS x wq b s ⟨(headS c).val * 64 + d.val, by have := (headS c).isLt; omega⟩
/-- The heads' results, side by side. -/
def ctxS (b : Fin 2) (s : Fin 512) (c : Fin 4096) : EReal :=
  late (cell s.val (qhS x wq b s c) fun j : Fin 512 => k b (Fin.castLE (by decide) j) (headS c)) (fun j : Fin 512 => v b (Fin.castLE (by decide) j) (headS c) (laneS c))
/-- The result. -/
def outS (b : Fin 2) (s : Fin 512) (o : Fin 768) : EReal := ∑ c : Fin 4096, ctxS x wq k v b s c * wo c o

end Cert.Value

end
-- ==== Proof.Value.Finite.lean ====
/-
The precondition, read: the inputs, the query weights and the keys hold real numbers.
-/
module

public import proofs.«01_k».proof.Defs
public import proofs.«01_k».proof.Proof.Gen.Pre_finite_KernelIdeal
public import proofs.«01_k».proof.Proof.Value.Spec
public import Idealize.ShloMosaic.Lib.Pointwise

@[expose] public section

set_option maxRecDepth 16384

noncomputable section

namespace Cert.Pre_finite_KernelIdeal.Attn

open Cert.Pre_finite_KernelIdeal Cert.Pre_finite_KernelIdeal.Gen Idealize.ShloMosaic

/-- What lies under +∞ in absolute value is a real number. -/
theorem real_of_lt (a : EReal) (h : Ideal.cmp .olt (max a (-a)) ⊤ = 1#1) : Cert.Value.Real' a := by
  induction a with
  | bot => simp [Ideal.cmp] at h
  | top => simp [Ideal.cmp] at h
  | coe r => exact ⟨r, rfl⟩

variable (x : FVec Ideal S2x512x768 .bf16) (wq : FVec Ideal S768x512 .bf16) (k v : FVec Ideal S2x512x64x64 .f32) (wo : FVec Ideal S512x768 .bf16)

/-- The inputs. -/
theorem x_real (h : (fn (F := Ideal) x wq k v wo).1 = fun _ => 1#1) (i : S2x512x768.Idx) : Cert.Value.Real' (x i) := by
  have e := congrFun h i
  refine real_of_lt _ (Eq.trans ?_ e)
  rw [← Cert.Value.ofBits_posInf]
  rfl
/-- The query weights. -/
theorem wq_real (h : (fn (F := Ideal) x wq k v wo).2.1 = fun _ => 1#1) (i : S768x512.Idx) : Cert.Value.Real' (wq i) := by
  have e := congrFun h i
  refine real_of_lt _ (Eq.trans ?_ e)
  rw [← Cert.Value.ofBits_posInf]
  rfl
/-- The keys. -/
theorem k_real (h : (fn (F := Ideal) x wq k v wo).2.2 = fun _ => 1#1) (i : S2x512x64x64.Idx) : Cert.Value.Real' (k i) := by
  have e := congrFun h i
  refine real_of_lt _ (Eq.trans ?_ e)
  rw [← Cert.Value.ofBits_posInf]
  rfl

end Cert.Pre_finite_KernelIdeal.Attn

end
-- ==== Proof.Value.Kern.lean ====
/-
The kernel's values over the extended reals, at an element: the queries, a head's rows, a device's product, the sum over the devices.
-/
module

public import proofs.«01_k».proof.Proof.PIdeal.Launch
public import proofs.«01_k».proof.Proof.Value.Spec
public import Idealize.ShloMosaic.Lib.Pointwise

@[expose] public section

set_option maxRecDepth 16384

noncomputable section

namespace Cert.KernelIdeal.Attn

open Cert.KernelIdeal Cert.KernelIdeal.Gen
open Idealize.ShloMosaic Idealize.ShloMosaic.TcCoe Idealize.SL.Sem

/-! ## The payloads -/

/-- The queries' product. -/
theorem pay19_apply (x : FVec Ideal S1024x768 .bf16) (w : FVec Ideal S768x512 .bf16) (r : Fin 1024) (c : Fin 512) :
    k0_pay19 (F := Ideal) x w (ix2 r c) = ∑ k : Fin 768, x (ix2 r k) * w (ix2 k c) := by
  pointwise [k0_pay19]

/-- The output product. -/
theorem pay57_apply (x : FVec Ideal S512x512 .bf16) (w : FVec Ideal S512x768 .bf16) (r : Fin 512) (c : Fin 768) :
    k0_pay57 (F := Ideal) w x (ix2 r c) = ∑ k : Fin 512, x (ix2 r k) * w (ix2 k c) := by
  pointwise [k0_pay57, k0_pay56]

/-- The mask. -/
theorem mask_apply (r c : Fin 512) : maskV (ix2 r c) = Cert.Value.sees r.val c.val := by
  refine Eq.trans ?_ (Cert.Value.sle_eq r.val c.val (by omega) (by omega))
  rw [← Cert.Value.kWord_eq r.val r.isLt, ← Cert.Value.kWord_eq c.val c.isLt]
  pointwise [maskV, k0_pay20, k0_pay21, k0_pay22, Cert.Value.kWord]

/-- The named constant is −∞. -/
theorem named_bot : (Named.named κ "mask" (0xCE6E6B28#32 : BitVec (FTy.bits .f32)) : Ideal .f32) = (⊥ : EReal) :=
  IdealRules.named_const.ideal_named_scalar κ "mask" _ ⊥ rfl

/-- A head's row. -/
theorem pay30_apply (q : FVec Ideal S512x64 .bf16) (k v : FVec Ideal S1x512x64 .bf16) (r : Fin 512) (d : Fin 64) :
    k0_pay30 (F := Ideal) maskV q k v (ix2 r d)
      = Cert.Value.late (Cert.Value.cell r.val (fun d => q (ix2 r d)) fun (j : Fin 512) d => k (ix3 0 j d)) (fun j : Fin 512 => v (ix3 0 j d)) := by
  unfold Cert.Value.late Cert.Value.mass Cert.Value.top Cert.Value.cell
  simp only [← mask_apply]
  pointwise [k0_pay30, Cert.Value.scale]
  rw [named_bot, Cert.Value.ofBits_negInf]

/-! ## A device's product -/

/-- A head's context. -/
theorem ctx_apply (q : Vec Ideal S1024x512 .bf16) (k v : Vec Ideal S2x512x512 .bf16) (r : Fin 1024) (c : Fin 512) :
    ctx (F := Ideal) q k v (ix2 r c)
      = Cert.Value.late (Cert.Value.cell (r.val % 512) (fun d : Fin 64 => q (ix2 r ⟨c.val / 64 * 64 + d.val, by omega⟩))
          fun (j : Fin 512) (d : Fin 64) => k (ix3 ⟨r.val / 512, by omega⟩ j ⟨c.val / 64 * 64 + d.val, by omega⟩)) (fun j : Fin 512 => v (ix3 ⟨r.val / 512, by omega⟩ j c)) := by
  have hq : ∀ d : Fin 64, (headRect ⟨r.val / 512, by omega⟩ ⟨c.val / 64, by omega⟩).emb (ix2 ⟨r.val % 512, by omega⟩ d) = ix2 r ⟨c.val / 64 * 64 + d.val, by omega⟩ := fun d => by
    funext a; refine Fin.ext ?_
    match a with
    | 0 => show 512 * (r.val / 512) + 1 * (r.val % 512) = r.val; omega
    | 1 => show 64 * (c.val / 64) + 1 * d.val = c.val / 64 * 64 + d.val; omega
  have hk : ∀ (j : Fin 512) (d : Fin 64), (kvRect ⟨r.val / 512, by omega⟩ ⟨c.val / 64, by omega⟩).emb (ix3 0 j d) = ix3 ⟨r.val / 512, by omega⟩ j ⟨c.val / 64 * 64 + d.val, by omega⟩ := fun j d => by
    funext a; refine Fin.ext ?_
    match a with
    | 0 => show r.val / 512 + 1 * 0 = r.val / 512; omega
    | 1 => show 0 + 1 * j.val = j.val; omega
    | 2 => show 64 * (c.val / 64) + 1 * d.val = c.val / 64 * 64 + d.val; omega
  have hv : ∀ j : Fin 512, (kvRect ⟨r.val / 512, by omega⟩ ⟨c.val / 64, by omega⟩).emb (ix3 0 j ⟨c.val % 64, by omega⟩) = ix3 ⟨r.val / 512, by omega⟩ j c := fun j => by
    rw [hk]; funext a; refine Fin.ext ?_
    match a with
    | 0 => rfl
    | 1 => rfl
    | 2 => show c.val / 64 * 64 + c.val % 64 = c.val; omega
  refine (pay30_apply _ _ _ ⟨r.val % 512, by omega⟩ ⟨c.val % 64, by omega⟩).trans ?_
  exact congrArg₂ Cert.Value.late (congrArg₂ (Cert.Value.cell _) (funext fun d => congrArg q (hq d)) (funext fun j => funext fun d => congrArg k (hk j d)))
    (funext fun j => congrArg v (hv j))

/-- The product with the output weights. -/
theorem proj_apply (w : Vec Ideal S512x768 .bf16) (x : Vec Ideal S1024x512 .bf16) (r : Fin 1024) (o : Fin 768) :
    proj (F := Ideal) w x (ix2 r o) = ∑ k : Fin 512, (show EReal from x (ix2 r k)) * (show EReal from w (ix2 k o)) := by
  have hx : ∀ k : Fin 512, (halfRect ⟨r.val / 512, by omega⟩).emb (ix2 ⟨r.val % 512, by omega⟩ k) = ix2 r k := fun k => by
    funext a; refine Fin.ext ?_
    match a with
    | 0 => show 512 * (r.val / 512) + 1 * (r.val % 512) = r.val; omega
    | 1 => show 0 + 1 * k.val = k.val; omega
  refine (pay57_apply _ _ ⟨r.val % 512, by omega⟩ o).trans ?_
  exact Finset.sum_congr rfl fun k _ => congrArg (· * (show EReal from w (ix2 k o))) (congrArg x (hx k))

/-! ## The sum over the devices -/

/-- The devices in the order in which device `d` meets them. -/
def met (d e : Fin 8) : Fin 8 := ⟨d.val ^^^ e.val, by revert d e; decide⟩
/-- Each device meets every device once. -/
theorem met_bij (d : Fin 8) : Function.Bijective (met d) := by revert d; decide
/-- The order of meeting, by partners. -/
theorem met_pt : ∀ d : Fin 8, met d 0 = d ∧ met d 1 = pt 0 d ∧ met d 2 = pt 1 d ∧ met d 3 = pt 0 (pt 1 d) ∧ met d 4 = pt 2 d ∧ met d 5 = pt 0 (pt 2 d)
    ∧ met d 6 = pt 1 (pt 2 d) ∧ met d 7 = pt 0 (pt 1 (pt 2 d)) := by decide

/-- Three exchanges add up all eight devices' products. -/
theorem fin_sum (V : Vals Ideal) (i : S1024x768.Idx) : (show EReal from fin (F := Ideal) V i) = ∑ c : Fin 8, (show EReal from V.A0 c i) := by
  have h : ∀ d : Fin 8, (show EReal from acc (F := Ideal) V 3 d i) = ∑ c : Fin 8, (show EReal from V.A0 c i) := fun d => by
    rw [← (met_bij d).sum_comp (fun c : Fin 8 => (show EReal from V.A0 c i)), Fin.sum_univ_eight]
    obtain ⟨h0, h1, h2, h3, h4, h5, h6, h7⟩ := met_pt d
    rw [h0, h1, h2, h3, h4, h5, h6, h7]
    simp only [add_assoc]
    show (((show EReal from V.A0 d i) + V.A0 (pt 0 d) i) + (V.A0 (pt 1 d) i + V.A0 (pt 0 (pt 1 d)) i) : EReal)
          + ((V.A0 (pt 2 d) i + V.A0 (pt 0 (pt 2 d)) i) + (V.A0 (pt 1 (pt 2 d)) i + V.A0 (pt 0 (pt 1 (pt 2 d))) i)) = _
    simp only [add_assoc]
  exact h (owner i)

/-! ## The operands -/

variable (m : (ℓ : Loc nD τ sig) → Buf (Elt Ideal) ℓ)

/-- The input's rows, the two sequences one after the other. -/
theorem xOf_apply (c : Dev nD) (r : Fin 1024) (k : Fin 768) :
    xOf m c (ix2 r k) = (show FVec Ideal S2x512x768 .bf16 from m ((c.tc : Thread nD τ).loc main_arg0)) (ix3 ⟨r.val / 512, by omega⟩ ⟨r.val % 512, by omega⟩ k) := by
  have e : xOf m c = shapeCast S1024x768 (show FVec Ideal S2x512x768 .bf16 from m ((c.tc : Thread nD τ).loc main_arg0)) shapeCasts_S2x512x768_S1024x768 := by
    unfold xOf V₁
    simp only [hostOps0, StableHlo.after_cons, StableHlo.after_nil]
    rw [StableHlo.reshape_result_ne' _ _ _ _ _ (by decide), StableHlo.reshape_result_ne' _ _ _ _ _ (by decide), StableHlo.reshape_result']
    rfl
  rw [e]
  pointwise [id_eq]

/-- Keys, the heads side by side. -/
theorem kOf_apply (c : Dev nD) (b : Fin 2) (j : Fin 512) (k : Fin 4096) :
    kOf m c (ix3 b j k) = (show FVec Ideal S2x512x64x64 .f32 from m ((c.tc : Thread nD τ).loc main_arg2)) (ix4 b j ⟨k.val / 64, by omega⟩ ⟨k.val % 64, by omega⟩) := by
  have e : kOf m c = shapeCast S2x512x4096 (show FVec Ideal S2x512x64x64 .f32 from m ((c.tc : Thread nD τ).loc main_arg2)) shapeCasts_S2x512x64x64_S2x512x4096 := by
    unfold kOf V₁
    simp only [hostOps0, StableHlo.after_cons, StableHlo.after_nil]
    rw [StableHlo.reshape_result_ne' _ _ _ _ _ (by decide), StableHlo.reshape_result', StableHlo.reshape_result_ne' _ _ _ _ _ (by decide)]
    rfl
  rw [e]
  pointwise [id_eq]

/-- Values, the heads side by side. -/
theorem vOf_apply (c : Dev nD) (b : Fin 2) (j : Fin 512) (k : Fin 4096) :
    vOf m c (ix3 b j k) = (show FVec Ideal S2x512x64x64 .f32 from m ((c.tc : Thread nD τ).loc main_arg3)) (ix4 b j ⟨k.val / 64, by omega⟩ ⟨k.val % 64, by omega⟩) := by
  have e : vOf m c = shapeCast S2x512x4096 (show FVec Ideal S2x512x64x64 .f32 from m ((c.tc : Thread nD τ).loc main_arg3)) shapeCasts_S2x512x64x64_S2x512x4096 := by
    unfold vOf V₁
    simp only [hostOps0, StableHlo.after_cons, StableHlo.after_nil]
    rw [StableHlo.reshape_result', StableHlo.reshape_result_ne' _ _ _ _ _ (by decide), StableHlo.reshape_result_ne' _ _ _ _ _ (by decide)]
    rfl
  rw [e]
  pointwise [id_eq]

/-- A device's columns of the keys or values. -/
theorem blk_apply (X : Vec Ideal S2x512x4096 .f32) (d : Fin 8) (h : Inb (512 * d.val)) (b : Fin 2) (j k : Fin 512) :
    blk X (512 * d.val) h (ix3 b j k) = X (ix3 b j ⟨512 * d.val + k.val, by omega⟩) := by
  refine (show blk X (512 * d.val) h (ix3 b j k) = X ((Rect.unit (s := S2x512x4096) ![0, 0, 512 * d.val] S2x512x512.size h).emb (ix3 b j k)) from rfl).trans (congrArg X ?_)
  funext a; refine Fin.ext ?_
  match a with
  | 0 => show 0 + 1 * b.val = b.val; omega
  | 1 => show 0 + 1 * j.val = j.val; omega
  | 2 => show 512 * d.val + 1 * k.val = 512 * d.val + k.val; omega

end Cert.KernelIdeal.Attn

end
-- ==== Proof.Value.Whole.lean ====
/-
The kernel's result, at an element, from the whole arrays the devices' arguments are parts of.
-/
module

public import proofs.«01_k».proof.Proof.Value.Kern

@[expose] public section

set_option maxRecDepth 16384

noncomputable section

namespace Cert.KernelIdeal.Attn

open Cert.KernelIdeal Cert.KernelIdeal.Gen
open Idealize.ShloMosaic Idealize.ShloMosaic.TcCoe Idealize.SL.Sem

variable (m : (ℓ : Loc nD τ sig) → Buf (Elt Ideal) ℓ)
variable (x : Fin 2 → Fin 512 → Fin 768 → EReal) (wq : Fin 768 → Fin 4096 → EReal) (k v : Fin 2 → Fin 4096 → Fin 64 → Fin 64 → EReal) (wo : Fin 4096 → Fin 768 → EReal)

/-- The devices' arguments are parts of the whole arrays. -/
structure Parts : Prop where
  x : ∀ (c : Dev nD) (b : Fin 2) (s : Fin 512) (i : Fin 768), (show FVec Ideal S2x512x768 .bf16 from m ((c.tc : Thread nD τ).loc main_arg0)) (ix3 b s i) = x b s i
  wq : ∀ (c : Fin 8) (i : Fin 768) (j : Fin 512), (show FVec Ideal S768x512 .bf16 from m (((show Dev nD from c).tc : Thread nD τ).loc main_arg1)) (ix2 i j) = wq i ⟨c.val * 512 + j.val, by omega⟩
  k : ∀ (b : Fin 2) (j : Fin 512) (h d : Fin 64), (show FVec Ideal S2x512x64x64 .f32 from m (((0 : Dev nD).tc : Thread nD τ).loc main_arg2)) (ix4 b j h d) = k b (Fin.castLE (by decide) j) h d
  v : ∀ (b : Fin 2) (j : Fin 512) (h d : Fin 64), (show FVec Ideal S2x512x64x64 .f32 from m (((0 : Dev nD).tc : Thread nD τ).loc main_arg3)) (ix4 b j h d) = v b (Fin.castLE (by decide) j) h d
  wo : ∀ (c : Fin 8) (j : Fin 512) (o : Fin 768), (show FVec Ideal S512x768 .bf16 from m (((show Dev nD from c).tc : Thread nD τ).loc main_arg4)) (ix2 j o) = wo ⟨c.val * 512 + j.val, by omega⟩ o

variable {m x wq k v wo} (P : Parts m x wq k v wo)

include P

/-- A device's queries are its columns of all the queries. -/
theorem q_whole (c : Fin 8) (b : Fin 2) (s j : Fin 512) :
    k0_pay19 (F := Ideal) (xOf m c) (wqOf m c) (ix2 ⟨512 * b.val + s.val, by omega⟩ j) = Cert.Value.qS x wq b s ⟨c.val * 512 + j.val, by omega⟩ := by
  rw [pay19_apply]
  refine Finset.sum_congr rfl fun i _ => ?_
  have hx : xOf m c (ix2 ⟨512 * b.val + s.val, by omega⟩ i) = x b s i := by
    rw [xOf_apply, ← P.x c b s i]
    refine congrArg _ ?_
    idx_ext <;> omega
  have hw : wqOf m c (ix2 i j) = wq i ⟨c.val * 512 + j.val, by omega⟩ := by
    rw [← P.wq c i j]; exact congrFun (V₁_of_ne m c main_arg1 (by decide)) _
  exact congrArg₂ (fun a b : EReal => a * b) hx hw

/-- A device's keys. -/
theorem k_whole (c : Fin 8) (b : Fin 2) (j l : Fin 512) (h : Inb (512 * c.val)) :
    blk (kOf m 0) (512 * c.val) h (ix3 b j l) = k b (Fin.castLE (by decide) j) ⟨(c.val * 512 + l.val) / 64, by omega⟩ ⟨(c.val * 512 + l.val) % 64, by omega⟩ := by
  rw [blk_apply, kOf_apply, ← P.k]
  refine congrArg _ ?_
  idx_ext <;> omega

/-- A device's values. -/
theorem v_whole (c : Fin 8) (b : Fin 2) (j l : Fin 512) (h : Inb (512 * c.val)) :
    blk (vOf m 0) (512 * c.val) h (ix3 b j l) = v b (Fin.castLE (by decide) j) ⟨(c.val * 512 + l.val) / 64, by omega⟩ ⟨(c.val * 512 + l.val) % 64, by omega⟩ := by
  rw [blk_apply, vOf_apply, ← P.v]
  refine congrArg _ ?_
  idx_ext <;> omega

/-- A device's context is its columns of the whole context. -/
theorem ctx_whole (c : Fin 8) (b : Fin 2) (s l : Fin 512) (h h' : Inb (512 * c.val)) :
    ctx (F := Ideal) (k0_pay19 (xOf m c) (wqOf m c)) (blk (kOf m 0) (512 * c.val) h) (blk (vOf m 0) (512 * c.val) h') (ix2 ⟨512 * b.val + s.val, by omega⟩ l)
      = Cert.Value.ctxS x wq k v b s ⟨c.val * 512 + l.val, by omega⟩ := by
  rw [ctx_apply]
  have e1 : (512 * b.val + s.val) % 512 = s.val := by omega
  have e2 : ∀ p : (512 * b.val + s.val) / 512 < 2, (⟨(512 * b.val + s.val) / 512, p⟩ : Fin 2) = b := fun p => Fin.ext (show (512 * b.val + s.val) / 512 = b.val by omega)
  unfold Cert.Value.ctxS
  simp only [e1, e2]
  refine congrArg₂ Cert.Value.late (congrArg₂ (Cert.Value.cell s.val) (funext fun d => ?_) (funext fun j => funext fun d => ?_)) (funext fun j => ?_)
  · rw [q_whole P]
    exact congrArg (Cert.Value.qS x wq b s) (Fin.ext (show c.val * 512 + (l.val / 64 * 64 + d.val) = (c.val * 512 + l.val) / 64 * 64 + d.val by omega))
  · rw [k_whole P]
    exact congrArg₂ (k b _) (Fin.ext (show (c.val * 512 + (l.val / 64 * 64 + d.val)) / 64 = (c.val * 512 + l.val) / 64 by omega))
      (Fin.ext (show (c.val * 512 + (l.val / 64 * 64 + d.val)) % 64 = d.val by omega))
  · rw [v_whole P]; rfl

/-- The kernel's result, at an element. -/
theorem out_whole (b : Fin 2) (s : Fin 512) (o : Fin 768) : outOf m (ix3 b s o) = Cert.Value.outS x wq k v wo b s o := by
  refine (show outOf m (ix3 b s o) = fin (F := Ideal) (Vm m) (ix2 ⟨512 * b.val + s.val, by omega⟩ o) from rfl).trans ?_
  refine (fin_sum (Vm m) _).trans ?_
  unfold Cert.Value.outS
  rw [Fin.sum_univ_tiles 8 512 rfl]
  refine Finset.sum_congr rfl fun c _ => ?_
  refine (proj_apply _ _ ⟨512 * b.val + s.val, by omega⟩ o).trans (Finset.sum_congr rfl fun l _ => ?_)
  refine congrArg₂ (fun a b : EReal => a * b) (ctx_whole P c b s l _ _) ?_
  refine Eq.trans ?_ (P.wo c l o)
  exact congrFun (V₁_of_ne m c main_arg4 (by decide)) _

end Cert.KernelIdeal.Attn

end
-- ==== Proof.Value.Ref.lean ====
/-
The reference's result, in stages: projected queries, block ids and the mask, the scores, the weights, the heads' results and the output projection.
Each stage is read at an index over the extended reals.
-/
module

public import proofs.«01_k».proof.Proof.Gen.ReferenceIdeal.Run
public import proofs.«01_k».proof.Proof.Value.Spec
public import Idealize.ShloMosaic.Lib.Pointwise

@[expose] public section

set_option maxRecDepth 16384

noncomputable section

namespace Cert.ReferenceIdeal.Attn

open Cert.ReferenceIdeal Cert.ReferenceIdeal.Gen Idealize.ShloMosaic Idealize.ShloMosaic.TcCoe Idealize.SL.Sem

section Stages
variable {F : FTy → Type} [FloatOps F]

/-- The projected queries, one row per position. -/
def rQ (x : FVec F S2x512x768 .bf16) (w : FVec F S768x4096 .bf16) : FVec F S2x512x4096 .bf16 :=
  truncf .bf16 (Host.dotGeneral dot_S2x512x768_S768x4096_S2x512x4096_2_0_01_1_n_n none (extf .f32 x bitsLt_bf16_f32) (extf .f32 w bitsLt_bf16_f32)) bitsLt_bf16_f32
/-- The block of each query position. -/
def rRow : IVec S512 32 :=
  select (andi (cmpi .ne (signi (iotaInDim S512 32 0)) (broadcastInDim S512 ![] bcast_S_S512 (signi (id (constantI S_ 32 64#32))))) (cmpi .ne (Host.remsi (iotaInDim S512 32 0) (broadcastInDim S512 ![] bcast_S_S512 (id (constantI S_ 32 64#32)))) (broadcastInDim S512 ![] bcast_S_S512 (constantI S_ 32 0#32)))) (subi (Host.divsi (iotaInDim S512 32 0) (broadcastInDim S512 ![] bcast_S_S512 (id (constantI S_ 32 64#32)))) (broadcastInDim S512 ![] bcast_S_S512 (constantI S_ 32 1#32))) (Host.divsi (iotaInDim S512 32 0) (broadcastInDim S512 ![] bcast_S_S512 (id (constantI S_ 32 64#32))))
/-- The block of each key position. -/
def rCol : IVec S4096 32 :=
  select (andi (cmpi .ne (signi (iotaInDim S4096 32 0)) (broadcastInDim S4096 ![] bcast_S_S4096 (signi (id (constantI S_ 32 64#32))))) (cmpi .ne (Host.remsi (iotaInDim S4096 32 0) (broadcastInDim S4096 ![] bcast_S_S4096 (id (constantI S_ 32 64#32)))) (broadcastInDim S4096 ![] bcast_S_S4096 (constantI S_ 32 0#32)))) (subi (Host.divsi (iotaInDim S4096 32 0) (broadcastInDim S4096 ![] bcast_S_S4096 (id (constantI S_ 32 64#32)))) (broadcastInDim S4096 ![] bcast_S_S4096 (constantI S_ 32 1#32))) (Host.divsi (iotaInDim S4096 32 0) (broadcastInDim S4096 ![] bcast_S_S4096 (id (constantI S_ 32 64#32))))
/-- Which key blocks a query sees. -/
def rMask : IVec S512x4096 1 :=
  cmpi .sle (broadcastInDim S512x4096 ![0, 1] bcast_S1x4096_S512x4096_0_1 (broadcastInDim S1x4096 ![1] bcast_S4096_S1x4096_1 rCol)) (broadcastInDim S512x4096 ![0, 1] bcast_S512x1_S512x4096_0_1 (broadcastInDim S512x1 ![0] bcast_S512_S512x1_0 rRow))
/-- Whether a query sees any key. -/
def rAny : IVec S512 1 := Host.reduce IntOp.ori rMask (constantI S_ 1 0#1) reducesTo_S512x4096_S512_d1 h_S_
/-- The scores, −∞ where the mask is off. -/
def rScore (q : FVec F S2x512x4096 .bf16) (k : FVec F S2x4096x64x64 .f32) : FVec F S2x64x512x4096 .f32 :=
  select (broadcastInDim S2x64x512x4096 ![0, 1, 2, 3] bcast_S1x1x512x4096_S2x64x512x4096_0_1_2_3 (broadcastInDim S1x1x512x4096 ![2, 3] bcast_S512x4096_S1x1x512x4096_2_3 rMask)) (mulf (Host.dotGeneral dot_S2x512x64x64_S2x4096x64x64_S2x64x512x4096_3_3_1_1_02_02 none (extf .f32 (shapeCast _ q shapeCasts_S2x512x4096_S2x512x64x64) bitsLt_bf16_f32) k) (broadcastInDim S2x64x512x4096 ![] bcast_S_S2x64x512x4096 (constant S_ .f32 0x3E000000#32))) (broadcastInDim S2x64x512x4096 ![] bcast_S_S2x64x512x4096 (id (constant S_ .f32 0xFF800000#32)))
/-- The exponentials of the scores less their greatest. -/
def rExp (s : FVec F S2x64x512x4096 .f32) : FVec F S2x64x512x4096 .f32 :=
  Host.exp (subf s (broadcastInDim S2x64x512x4096 ![0, 1, 2, 3] bcast_S2x64x512x1_S2x64x512x4096_0_1_2_3 (broadcastInDim S2x64x512x1 ![0, 1, 2] bcast_S2x64x512_S2x64x512x1_0_1_2 (Host.reduce FloatOps.maximumf s (constant S_ .f32 0xFF800000#32) reducesTo_S2x64x512x4096_S2x64x512_d3 h_S_))))
/-- The weights: each exponential over their sum. -/
def rWeight (e : FVec F S2x64x512x4096 .f32) : FVec F S2x64x512x4096 .f32 :=
  select (broadcastInDim S2x64x512x4096 ![0, 1, 2, 3] bcast_S1x1x512x1_S2x64x512x4096_0_1_2_3 (broadcastInDim S1x1x512x1 ![2] bcast_S512_S1x1x512x1_2 rAny)) (Host.divf e (broadcastInDim S2x64x512x4096 ![0, 1, 2, 3] bcast_S2x64x512x1_S2x64x512x4096_0_1_2_3 (select (broadcastInDim S2x64x512x1 ![0, 1, 2, 3] bcast_S1x1x512x1_S2x64x512x1_0_1_2_3 (broadcastInDim S1x1x512x1 ![2] bcast_S512_S1x1x512x1_2 rAny)) (broadcastInDim S2x64x512x1 ![0, 1, 2] bcast_S2x64x512_S2x64x512x1_0_1_2 (Host.reduceAdd e (constant S_ .f32 0x00000000#32) reducesTo_S2x64x512x4096_S2x64x512_d3 h_S_)) (broadcastInDim S2x64x512x1 ![] bcast_S_S2x64x512x1 (id (constant S_ .f32 0x3F800000#32)))))) (broadcastInDim S2x64x512x4096 ![] bcast_S_S2x64x512x4096 (id (constant S_ .f32 0x00000000#32)))
/-- Every head's result, one row per position. -/
def rCtx (w : FVec F S2x64x512x4096 .f32) (v : FVec F S2x4096x64x64 .f32) : FVec F S2x512x4096 .f32 :=
  shapeCast _ (transpose S2x512x64x64 [0, 3, 1, 2] (Host.dotGeneral dot_S2x4096x64x64_S2x64x512x4096_S2x64x64x512_1_3_3_2_02_01 none v w) transposes_S2x64x64x512_S2x512x64x64_0_3_1_2) shapeCasts_S2x512x64x64_S2x512x4096
/-- The output projection. -/
def rOut (c : FVec F S2x512x4096 .f32) (w : FVec F S4096x768 .bf16) : FVec F S2x512x768 .f32 :=
  Host.dotGeneral dot_S2x512x4096_S4096x768_S2x512x768_2_0_01_1_n_n none c (extf .f32 w bitsLt_bf16_f32)

/-- The whole reference. -/
def rAll (x : FVec F S2x512x768 .bf16) (wq : FVec F S768x4096 .bf16) (k v : FVec F S2x4096x64x64 .f32) (wo : FVec F S4096x768 .bf16) : FVec F S2x512x768 .f32 :=
  rOut (rCtx (rWeight (rExp (rScore (rQ x wq) k))) v) wo

set_option maxRecDepth 65536 in
/-- The stages make the reference's result. -/
theorem res_eq (m : (ℓ : Loc nD τ sig) → Buf (Elt F) ℓ) (c : Dev nD) :
    Cert.ReferenceIdeal.Value.res_main_v38 m c = rAll (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl
end Stages

/-- An entry of the projected queries is a sum over 768 products. -/
theorem rQ_apply (x : FVec Ideal S2x512x768 .bf16) (w : FVec Ideal S768x4096 .bf16) (b : Fin 2) (s : Fin 512) (c : Fin 4096) :
    rQ x w (ix3 b s c) = ∑ k : Fin 768, x (ix3 b s k) * w (ix2 k c) := by
  pointwise [rQ]

/-- The mask at a query and a key says whether the one sees the other. -/
theorem mask_apply (s : Fin 512) (j : Fin 4096) : rMask (ix2 s j) = Value.sees s.val j.val := by
  refine Eq.trans ?_ (Value.sle_eq s.val j.val (by omega) j.isLt)
  rw [← Value.rWord_eq s.val (by omega), ← Value.rWord_eq j.val j.isLt]
  pointwise [rMask, rRow, rCol, id_eq, Value.rWord]

/-- Every query sees some key. -/
theorem any_apply (s : Fin 512) : rAny (ix1 s) = 1#1 := by
  pointwise [rAny]
  rw [← Finset.insert_erase (Finset.mem_univ (0 : Fin 4096)), Finset.fold_insert (Finset.notMem_erase _ _), mask_apply, Fin.val_zero, Value.sees_zero]
  exact (by decide : ∀ y : BitVec 1, IntOp.ori 1#1 y = 1#1) _

/-- A score. -/
theorem rScore_apply (q : FVec Ideal S2x512x4096 .bf16) (k : FVec Ideal S2x4096x64x64 .f32) (b : Fin 2) (h : Fin 64) (s : Fin 512) (j : Fin 4096) :
    rScore q k (ix4 b h s j) = Value.cell s.val (fun d => q (ix3 b s ⟨h.val * 64 + d.val, by omega⟩)) (fun j d => k (ix4 b j h d)) j := by
  unfold Value.cell
  rw [← mask_apply, ← Value.ofBits_negInf]
  pointwise [rScore, id_eq, Value.scale]

/-- An exponential. -/
theorem rExp_apply (s : FVec Ideal S2x64x512x4096 .f32) (b : Fin 2) (h : Fin 64) (r : Fin 512) (j : Fin 4096) :
    rExp s (ix4 b h r j) = Ideal.exp (s (ix4 b h r j) - Value.top fun j => s (ix4 b h r j)) := by
  unfold Value.top
  rw [← Value.ofBits_negInf]
  pointwise [rExp]

/-- A weight. -/
theorem rWeight_apply (s : FVec Ideal S2x64x512x4096 .f32) (b : Fin 2) (h : Fin 64) (r : Fin 512) (j : Fin 4096) :
    rWeight s (ix4 b h r j) = Ideal.div (s (ix4 b h r j)) (∑ j, s (ix4 b h r j)) := by
  pointwise [rWeight, id_eq]
  rw [any_apply, Value.select_on, Value.select_on]

/-- A head's result, at lane `d`. -/
theorem rCtx_apply' (w : FVec Ideal S2x64x512x4096 .f32) (v : FVec Ideal S2x4096x64x64 .f32) (b : Fin 2) (s : Fin 512) (c : Fin 4096) :
    rCtx w v (ix3 b s c) = ∑ j : Fin 4096, v (ix4 b j (Value.headS c) (Value.laneS c)) * w (ix4 b (Value.headS c) s j) := by
  pointwise [rCtx, Value.headS, Value.laneS]

/-- An entry of the output is a sum over 4096 products. -/
theorem rOut_apply (c : FVec Ideal S2x512x4096 .f32) (w : FVec Ideal S4096x768 .bf16) (b : Fin 2) (s : Fin 512) (o : Fin 768) :
    rOut c w (ix3 b s o) = ∑ k : Fin 4096, c (ix3 b s k) * w (ix2 k o) := by
  pointwise [rOut]

variable (x : FVec Ideal S2x512x768 .bf16) (wq : FVec Ideal S768x4096 .bf16) (k v : FVec Ideal S2x4096x64x64 .f32) (wo : FVec Ideal S4096x768 .bf16)

/-- A head's result is its row. -/
theorem ctx_early (b : Fin 2) (s : Fin 512) (c : Fin 4096) :
    rCtx (rWeight (rExp (rScore (rQ x wq) k))) v (ix3 b s c)
      = Value.early (Value.cell s.val (Value.qhS (fun b s i => x (ix3 b s i)) (fun i c => wq (ix2 i c)) b s c) fun j d => k (ix4 b j (Value.headS c) d)) (fun j => v (ix4 b j (Value.headS c) (Value.laneS c))) := by
  rw [rCtx_apply']
  unfold Value.early Value.mass
  have hs : ∀ j, rScore (rQ x wq) k (ix4 b (Value.headS c) s j)
      = Value.cell s.val (Value.qhS (fun b s i => x (ix3 b s i)) (fun i c => wq (ix2 i c)) b s c) (fun j d => k (ix4 b j (Value.headS c) d)) j := fun j => by
    rw [rScore_apply]
    simp only [rQ_apply]
    rfl
  refine Finset.sum_congr rfl fun j _ => congrArg _ ?_
  rw [rWeight_apply]
  simp only [rExp_apply, hs]

end Cert.ReferenceIdeal.Attn

end
-- ==== Proof.Value.RefAll.lean ====
/-
The reference's result, at an element.
-/
module

public import proofs.«01_k».proof.Proof.Value.Ref

@[expose] public section

set_option maxRecDepth 16384

noncomputable section

namespace Cert.ReferenceIdeal.Attn

open Cert.ReferenceIdeal Cert.ReferenceIdeal.Gen Idealize.ShloMosaic Idealize.ShloMosaic.TcCoe Idealize.SL.Sem

variable (x : FVec Ideal S2x512x768 .bf16) (wq : FVec Ideal S768x4096 .bf16) (k v : FVec Ideal S2x4096x64x64 .f32) (wo : FVec Ideal S4096x768 .bf16)

/-- The reference's result, at an element, where the operands of the scores are real numbers. -/
theorem rAll_apply (hx : ∀ b s i, Value.Real' (x (ix3 b s i))) (hw : ∀ i c, Value.Real' (wq (ix2 i c)))
    (hk : ∀ b (j : Fin 512) h d, Value.Real' (k (ix4 b (Fin.castLE (by decide) j) h d))) (b : Fin 2) (s : Fin 512) (o : Fin 768) :
    rAll x wq k v wo (ix3 b s o) = Value.outS (fun b s i => x (ix3 b s i)) (fun i c => wq (ix2 i c)) (fun b j h d => k (ix4 b j h d)) (fun b j h d => v (ix4 b j h d)) (fun c o => wo (ix2 c o)) b s o := by
  unfold rAll Value.outS
  rw [rOut_apply]
  refine Finset.sum_congr rfl fun c _ => ?_
  exact congrArg (· * wo (ix2 c o)) ((ctx_early x wq k v b s c).trans
    (Value.early_cell s _ _ _ (fun d => by unfold Value.qhS Value.qS; exact Value.Real'.sum fun i => (hx b s i).mul (hw i _)) (fun j d => hk b j _ d)))

end Cert.ReferenceIdeal.Attn

end
-- ==== Proof.Value.Algebra.lean ====
/-
The value claim: on arguments that are parts of the reference's, where the precondition holds, the kernel ends with the reference's result on every device.
-/
module

public import proofs.«01_k».proof.Defs
public import proofs.«01_k».proof.Proof.Value.Finite
public import proofs.«01_k».proof.Proof.Value.Whole
public import proofs.«01_k».proof.Proof.Value.RefAll

@[expose] public section

set_option maxRecDepth 16384

noncomputable section

namespace Cert.Proof

open Idealize.ShloMosaic Idealize.SL.Sem

variable (m : (ℓ : Loc Cert.KernelIdeal.nD Cert.KernelIdeal.τ Cert.KernelIdeal.sig) → Buf (Elt Ideal) ℓ)
variable (X : FVec Ideal Cert.ReferenceIdeal.S2x512x768 .bf16) (WQ : FVec Ideal Cert.ReferenceIdeal.S768x4096 .bf16)
  (K V : FVec Ideal Cert.ReferenceIdeal.S2x4096x64x64 .f32) (WO : FVec Ideal Cert.ReferenceIdeal.S4096x768 .bf16)

/-- Each device's arguments as the claim relates them to the whole arrays. -/
def Related : Prop := ∀ c : Dev Cert.KernelIdeal.nD,
  m ((c.tc : Thread Cert.KernelIdeal.nD Cert.KernelIdeal.τ).loc Cert.KernelIdeal.main_arg0) = X
  ∧ m ((c.tc : Thread Cert.KernelIdeal.nD Cert.KernelIdeal.τ).loc Cert.KernelIdeal.main_arg1) = Layout.block ⟨2, ![768, 512]⟩ ⟨2, ![768, 4096]⟩ 1 8 c WQ
  ∧ m ((c.tc : Thread Cert.KernelIdeal.nD Cert.KernelIdeal.τ).loc Cert.KernelIdeal.main_arg2) = Layout.block ⟨4, ![2, 512, 64, 64]⟩ ⟨4, ![2, 4096, 64, 64]⟩ 1 8 c K
  ∧ m ((c.tc : Thread Cert.KernelIdeal.nD Cert.KernelIdeal.τ).loc Cert.KernelIdeal.main_arg3) = Layout.block ⟨4, ![2, 512, 64, 64]⟩ ⟨4, ![2, 4096, 64, 64]⟩ 1 8 c V
  ∧ m ((c.tc : Thread Cert.KernelIdeal.nD Cert.KernelIdeal.τ).loc Cert.KernelIdeal.main_arg4) = Layout.block ⟨2, ![512, 768]⟩ ⟨2, ![4096, 768]⟩ 0 8 c WO

variable {m X WQ K V WO}

/-- Related arguments are parts of the whole arrays, element by element. -/
theorem parts (h : Related m X WQ K V WO) : Cert.KernelIdeal.Attn.Parts m (fun b s i => X (ix3 b s i)) (fun i c => WQ (ix2 i c))
    (fun b j h d => K (ix4 b j h d)) (fun b j h d => V (ix4 b j h d)) (fun c o => WO (ix2 c o)) where
  x c b s i := congrFun (h c).1 (ix3 b s i)
  wq c i j := (congrFun (h c).2.1 (ix2 i j)).trans (congrArg WQ (by
    funext a; refine Fin.ext ?_
    match a with
    | 0 => rfl
    | 1 => rfl))
  k b j hd d := (congrFun (h 0).2.2.1 (ix4 b j hd d)).trans (congrArg K (by
    funext a; refine Fin.ext ?_
    match a with
    | 0 => rfl
    | 1 => show 0 * 512 + j.val = j.val; omega
    | 2 => rfl
    | 3 => rfl))
  v b j hd d := (congrFun (h 0).2.2.2.1 (ix4 b j hd d)).trans (congrArg V (by
    funext a; refine Fin.ext ?_
    match a with
    | 0 => rfl
    | 1 => show 0 * 512 + j.val = j.val; omega
    | 2 => rfl
    | 3 => rfl))
  wo c j o := (congrFun (h c).2.2.2.2 (ix2 j o)).trans (congrArg WO (by
    funext a; refine Fin.ext ?_
    match a with
    | 0 => rfl
    | 1 => rfl))

/-- The kernel's result is the reference's. -/
theorem out_eq (h : Related m X WQ K V WO) (hp : Cert.Pre_KernelIdeal_finite_KernelIdeal m) :
    Cert.KernelIdeal.Attn.outOf m = Cert.ReferenceIdeal.Attn.rAll X WQ K V WO := by
  have P := parts h
  have hx : ∀ b s i, Cert.Value.Real' (X (ix3 b s i)) := fun b s i => by
    rw [← P.x 0 b s i]; exact Cert.Pre_finite_KernelIdeal.Attn.x_real _ _ _ _ _ (hp 0).1 _
  have hw : ∀ i c, Cert.Value.Real' (WQ (ix2 i c)) := fun i c => by
    have e := P.wq ⟨c.val / 512, by omega⟩ i ⟨c.val % 512, by omega⟩
    rw [show (⟨c.val / 512 * 512 + c.val % 512, by omega⟩ : Fin 4096) = c from Fin.ext (by show c.val / 512 * 512 + c.val % 512 = c.val; omega)] at e
    rw [← e]; exact Cert.Pre_finite_KernelIdeal.Attn.wq_real _ _ _ _ _ (hp ⟨c.val / 512, by show _ < 8; omega⟩).2.1 _
  have hk : ∀ b (j : Fin 512) hd d, Cert.Value.Real' (K (ix4 b (Fin.castLE (by decide) j) hd d)) := fun b j hd d => by
    rw [← P.k b j hd d]; exact Cert.Pre_finite_KernelIdeal.Attn.k_real _ _ _ _ _ (hp 0).2.2 _
  funext i
  rw [eq_ix3 i]
  exact (Cert.KernelIdeal.Attn.out_whole P (i 0) (i 1) (i 2)).trans (Cert.ReferenceIdeal.Attn.rAll_apply X WQ K V WO hx hw hk (i 0) (i 1) (i 2)).symm

/-- Both programs run, and end with one result. -/
theorem algebraic : Cert.algebraic_KernelIdeal_ReferenceIdeal_pre_finite_KernelIdeal := by
  intro m g m' g' hp h
  refine ⟨Cert.ReferenceIdeal.Value.res_main_v38 m' 0, ?_, ?_⟩
  · have e : Cert.KernelIdeal.Attn.outOf m = Cert.ReferenceIdeal.Value.res_main_v38 m' 0 :=
      (out_eq h hp).trans (Cert.ReferenceIdeal.Attn.res_eq m' 0).symm
    exact (θ_run Cert.KernelIdeal.defs _ _).mono (fun _ hr c => ⟨(hr.1 c).1.trans e, (hr.1 c).2⟩) (Cert.KernelIdeal.Attn.run (F := Ideal) m g)
  · exact (θ_run Cert.ReferenceIdeal.defs _ _).mono (fun _ hr => hr 0) (Cert.ReferenceIdeal.Value.run (F := Ideal) m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.PIdeal.Launch
public import proofs.«01_k».proof.Proof.PBits.Launch
public import proofs.«01_k».proof.Proof.Value.Algebra
public import Idealize.ShloMosaic.Adequacy
public import Idealize.ShloMosaic.Init

@[expose] public section

noncomputable section

namespace Cert.Proof

open Idealize.ShloMosaic Idealize.SL.Sem

/-- The kernel as printed runs, keeps its arguments, and leaves every counter at zero: its run with the result's value dropped. -/
theorem frame_kernel : Cert.quiescent_Kernel := fun m ρ _ =>
  (θ_run Cert.Kernel.defs _ _).mono (fun _ h => ⟨fun c => (h.1 c).2, h.2⟩) (Cert.Kernel.Attn.run (F := Bits) m ρ)

/-- The same of the kernel over the extended reals. -/
theorem frame_ideal : Cert.quiescent_KernelIdeal := fun m ρ _ =>
  (θ_run Cert.KernelIdeal.defs _ _).mono (fun _ h => ⟨fun c => (h.1 c).2, h.2⟩) (Cert.KernelIdeal.Attn.run (F := Ideal) m ρ)

/-- The reference has no semaphores; its run keeps its arguments. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The mask's constant is the named one at every site. -/
theorem named : Cert.preserves_Kernel_KernelIdeal := IdealRules.named_const.statement _ _ _ _ _ rfl

/-- The frame where the precondition holds is the frame. -/
theorem frame_ideal_pre : Cert.quiescent_KernelIdeal_pre_finite_KernelIdeal := fun m ρ _ => frame_ideal m ρ trivial
/-- The same of the reference. -/
theorem frame_reference_pre : Cert.quiescent_ReferenceIdeal_pre_finite_ReferenceIdeal := fun m ρ _ => frame_reference m ρ trivial

/-- Every claim of the certificate. -/
theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  frame_kernel, frame_ideal, frame_ideal_pre, frame_reference, frame_reference_pre, named, algebraic⟩

end Cert.Proof

end
